-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastReferenceIdeal (m : (ℓ : Loc Cert.FfnLastReferenceIdeal.nD Cert.FfnLastReferenceIdeal.τ Cert.FfnLastReferenceIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_weights_exist [hPre_weights_exist : Cert.Pre_weights_exist.Facts] (m : (ℓ : Loc Cert.MixIdeal.nD Cert.MixIdeal.τ Cert.MixIdeal.sig) → Buf (Elt Ideal) ℓ) : Prop :=
  ∀ c : Dev Cert.MixIdeal.nD,
    (Cert.Pre_weights_exist.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11)) (m ((c.tc : Thread Cert.MixIdeal.nD Cert.MixIdeal.τ).loc Cert.MixIdeal.main_arg12)) (m ((c.tc : Thread Cert.MixIdeal.nD Cert.MixIdeal.τ).loc Cert.MixIdeal.main_arg13)) (m ((c.tc : Thread Cert.MixIdeal.nD Cert.MixIdeal.τ).loc Cert.MixIdeal.main_arg14))) = (fun _ => 1#1)

def Pre_MixReferenceIdeal (m : (ℓ : Loc Cert.MixReferenceIdeal.nD Cert.MixReferenceIdeal.τ Cert.MixReferenceIdeal.sig) → Buf (Elt Ideal) ℓ) : Prop :=
  True

def Pre_MixReferenceIdeal_weights_exist [hPre_weights_exist : Cert.Pre_weights_exist.Facts] (m : (ℓ : Loc Cert.MixReferenceIdeal.nD Cert.MixReferenceIdeal.τ Cert.MixReferenceIdeal.sig) → Buf (Elt Ideal) ℓ) : Prop :=
  ∀ c : Dev Cert.MixReferenceIdeal.nD,
    (Cert.Pre_weights_exist.fn (F := Ideal) (m ((c.tc : Thread Cert.MixReferenceIdeal.nD Cert.MixReferenceIdeal.τ).loc Cert.MixReferenceIdeal.main_arg0)) (m ((c.tc : Thread Cert.MixReferenceIdeal.nD Cert.MixReferenceIdeal.τ).loc Cert.MixReferenceIdeal.main_arg1)) (m ((c.tc : Thread Cert.MixReferenceIdeal.nD Cert.MixReferenceIdeal.τ).loc Cert.MixReferenceIdeal.main_arg2)) (m ((c.tc : Thread Cert.MixReferenceIdeal.nD Cert.MixReferenceIdeal.τ).loc Cert.MixReferenceIdeal.main_arg3)) (m ((c.tc : Thread Cert.MixReferenceIdeal.nD Cert.MixReferenceIdeal.τ).loc Cert.MixReferenceIdeal.main_arg4)) (m ((c.tc : Thread Cert.MixReferenceIdeal.nD Cert.MixReferenceIdeal.τ).loc Cert.MixReferenceIdeal.main_arg5)) (m ((c.tc : Thread Cert.MixReferenceIdeal.nD Cert.MixReferenceIdeal.τ).loc Cert.MixReferenceIdeal.main_arg6)) (m ((c.tc : Thread Cert.MixReferenceIdeal.nD Cert.MixReferenceIdeal.τ).loc Cert.MixReferenceIdeal.main_arg7)) (m ((c.tc : Thread Cert.MixReferenceIdeal.nD Cert.MixReferenceIdeal.τ).loc Cert.MixReferenceIdeal.main_arg8)) (m ((c.tc : Thread Cert.MixReferenceIdeal.nD Cert.MixReferenceIdeal.τ).loc Cert.MixReferenceIdeal.main_arg9)) (m ((c.tc : Thread Cert.MixReferenceIdeal.nD Cert.MixReferenceIdeal.τ).loc Cert.MixReferenceIdeal.main_arg10)) (m ((c.tc : Thread Cert.MixReferenceIdeal.nD Cert.MixReferenceIdeal.τ).loc Cert.MixReferenceIdeal.main_arg11)) (m ((c.tc : Thread Cert.MixReferenceIdeal.nD Cert.MixReferenceIdeal.τ).loc Cert.MixReferenceIdeal.main_arg12)) (m ((c.tc : Thread Cert.MixReferenceIdeal.nD Cert.MixReferenceIdeal.τ).loc Cert.MixReferenceIdeal.main_arg13)) (m ((c.tc : Thread Cert.MixReferenceIdeal.nD Cert.MixReferenceIdeal.τ).loc Cert.MixReferenceIdeal.main_arg14))) = (fun _ => 1#1)

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressReferenceIdeal (m : (ℓ : Loc Cert.CompressReferenceIdeal.nD Cert.CompressReferenceIdeal.τ Cert.CompressReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastReferenceIdeal [hFfnLastReferenceIdeal : Cert.FfnLastReferenceIdeal.Facts] : Prop :=
  ∀ (m : (ℓ : Loc Cert.FfnLastReferenceIdeal.nD Cert.FfnLastReferenceIdeal.τ Cert.FfnLastReferenceIdeal.sig) → Buf (Elt Ideal) ℓ) (g : Dev Cert.FfnLastReferenceIdeal.nD → PrngReg), Pre_FfnLastReferenceIdeal m →
    θ_run (Cert.FfnLastReferenceIdeal.defs (F := Ideal)) (onTc (τ := Cert.FfnLastReferenceIdeal.τ) (Cert.FfnLastReferenceIdeal.main (F := Ideal))) ⟨m, fun _ => 0, g⟩ (fun r => (∀ c : Dev Cert.FfnLastReferenceIdeal.nD,
      r.2.mem ((c.tc : Thread Cert.FfnLastReferenceIdeal.nD Cert.FfnLastReferenceIdeal.τ).loc Cert.FfnLastReferenceIdeal.main_arg0) = m ((c.tc : Thread Cert.FfnLastReferenceIdeal.nD Cert.FfnLastReferenceIdeal.τ).loc Cert.FfnLastReferenceIdeal.main_arg0)
      ∧ r.2.mem ((c.tc : Thread Cert.FfnLastReferenceIdeal.nD Cert.FfnLastReferenceIdeal.τ).loc Cert.FfnLastReferenceIdeal.main_arg1) = m ((c.tc : Thread Cert.FfnLastReferenceIdeal.nD Cert.FfnLastReferenceIdeal.τ).loc Cert.FfnLastReferenceIdeal.main_arg1)
      ∧ r.2.mem ((c.tc : Thread Cert.FfnLastReferenceIdeal.nD Cert.FfnLastReferenceIdeal.τ).loc Cert.FfnLastReferenceIdeal.main_arg2) = m ((c.tc : Thread Cert.FfnLastReferenceIdeal.nD Cert.FfnLastReferenceIdeal.τ).loc Cert.FfnLastReferenceIdeal.main_arg2)
      ∧ r.2.mem ((c.tc : Thread Cert.FfnLastReferenceIdeal.nD Cert.FfnLastReferenceIdeal.τ).loc Cert.FfnLastReferenceIdeal.main_arg3) = m ((c.tc : Thread Cert.FfnLastReferenceIdeal.nD Cert.FfnLastReferenceIdeal.τ).loc Cert.FfnLastReferenceIdeal.main_arg3)
      ∧ r.2.mem ((c.tc : Thread Cert.FfnLastReferenceIdeal.nD Cert.FfnLastReferenceIdeal.τ).loc Cert.FfnLastReferenceIdeal.main_arg4) = m ((c.tc : Thread Cert.FfnLastReferenceIdeal.nD Cert.FfnLastReferenceIdeal.τ).loc Cert.FfnLastReferenceIdeal.main_arg4)
      ∧ r.2.mem ((c.tc : Thread Cert.FfnLastReferenceIdeal.nD Cert.FfnLastReferenceIdeal.τ).loc Cert.FfnLastReferenceIdeal.main_arg5) = m ((c.tc : Thread Cert.FfnLastReferenceIdeal.nD Cert.FfnLastReferenceIdeal.τ).loc Cert.FfnLastReferenceIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12)
      ∧ r.2.mem ((c.tc : Thread Cert.Mix.nD Cert.Mix.τ).loc Cert.Mix.main_arg13) = m ((c.tc : Thread Cert.Mix.nD Cert.Mix.τ).loc Cert.Mix.main_arg13)
      ∧ r.2.mem ((c.tc : Thread Cert.Mix.nD Cert.Mix.τ).loc Cert.Mix.main_arg14) = m ((c.tc : Thread Cert.Mix.nD Cert.Mix.τ).loc Cert.Mix.main_arg14))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixIdeal_pre_weights_exist [hMixIdeal : Cert.MixIdeal.Facts] [hPre_weights_exist : Cert.Pre_weights_exist.Facts] : Prop :=
  ∀ (m : (ℓ : Loc Cert.MixIdeal.nD Cert.MixIdeal.τ Cert.MixIdeal.sig) → Buf (Elt Ideal) ℓ) (g : Dev Cert.MixIdeal.nD → PrngReg), Pre_MixIdeal_weights_exist m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
      ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
      ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ r.2.sem = fun _ => 0)

def quiescent_MixReferenceIdeal [hMixReferenceIdeal : Cert.MixReferenceIdeal.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_MixReferenceIdeal_pre_weights_exist [hMixReferenceIdeal : Cert.MixReferenceIdeal.Facts] [hPre_weights_exist : Cert.Pre_weights_exist.Facts] : Prop :=
  ∀ (m : (ℓ : Loc Cert.MixReferenceIdeal.nD Cert.MixReferenceIdeal.τ Cert.MixReferenceIdeal.sig) → Buf (Elt Ideal) ℓ) (g : Dev Cert.MixReferenceIdeal.nD → PrngReg), Pre_MixReferenceIdeal_weights_exist m →
    θ_run (Cert.MixReferenceIdeal.defs (F := Ideal)) (onTc (τ := Cert.MixReferenceIdeal.τ) (Cert.MixReferenceIdeal.main (F := Ideal))) ⟨m, fun _ => 0, g⟩ (fun r => (∀ c : Dev Cert.MixReferenceIdeal.nD,
      r.2.mem ((c.tc : Thread Cert.MixReferenceIdeal.nD Cert.MixReferenceIdeal.τ).loc Cert.MixReferenceIdeal.main_arg0) = m ((c.tc : Thread Cert.MixReferenceIdeal.nD Cert.MixReferenceIdeal.τ).loc Cert.MixReferenceIdeal.main_arg0)
      ∧ r.2.mem ((c.tc : Thread Cert.MixReferenceIdeal.nD Cert.MixReferenceIdeal.τ).loc Cert.MixReferenceIdeal.main_arg1) = m ((c.tc : Thread Cert.MixReferenceIdeal.nD Cert.MixReferenceIdeal.τ).loc Cert.MixReferenceIdeal.main_arg1)
      ∧ r.2.mem ((c.tc : Thread Cert.MixReferenceIdeal.nD Cert.MixReferenceIdeal.τ).loc Cert.MixReferenceIdeal.main_arg2) = m ((c.tc : Thread Cert.MixReferenceIdeal.nD Cert.MixReferenceIdeal.τ).loc Cert.MixReferenceIdeal.main_arg2)
      ∧ r.2.mem ((c.tc : Thread Cert.MixReferenceIdeal.nD Cert.MixReferenceIdeal.τ).loc Cert.MixReferenceIdeal.main_arg3) = m ((c.tc : Thread Cert.MixReferenceIdeal.nD Cert.MixReferenceIdeal.τ).loc Cert.MixReferenceIdeal.main_arg3)
      ∧ r.2.mem ((c.tc : Thread Cert.MixReferenceIdeal.nD Cert.MixReferenceIdeal.τ).loc Cert.MixReferenceIdeal.main_arg4) = m ((c.tc : Thread Cert.MixReferenceIdeal.nD Cert.MixReferenceIdeal.τ).loc Cert.MixReferenceIdeal.main_arg4)
      ∧ r.2.mem ((c.tc : Thread Cert.MixReferenceIdeal.nD Cert.MixReferenceIdeal.τ).loc Cert.MixReferenceIdeal.main_arg5) = m ((c.tc : Thread Cert.MixReferenceIdeal.nD Cert.MixReferenceIdeal.τ).loc Cert.MixReferenceIdeal.main_arg5)
      ∧ r.2.mem ((c.tc : Thread Cert.MixReferenceIdeal.nD Cert.MixReferenceIdeal.τ).loc Cert.MixReferenceIdeal.main_arg6) = m ((c.tc : Thread Cert.MixReferenceIdeal.nD Cert.MixReferenceIdeal.τ).loc Cert.MixReferenceIdeal.main_arg6)
      ∧ r.2.mem ((c.tc : Thread Cert.MixReferenceIdeal.nD Cert.MixReferenceIdeal.τ).loc Cert.MixReferenceIdeal.main_arg7) = m ((c.tc : Thread Cert.MixReferenceIdeal.nD Cert.MixReferenceIdeal.τ).loc Cert.MixReferenceIdeal.main_arg7)
      ∧ r.2.mem ((c.tc : Thread Cert.MixReferenceIdeal.nD Cert.MixReferenceIdeal.τ).loc Cert.MixReferenceIdeal.main_arg8) = m ((c.tc : Thread Cert.MixReferenceIdeal.nD Cert.MixReferenceIdeal.τ).loc Cert.MixReferenceIdeal.main_arg8)
      ∧ r.2.mem ((c.tc : Thread Cert.MixReferenceIdeal.nD Cert.MixReferenceIdeal.τ).loc Cert.MixReferenceIdeal.main_arg9) = m ((c.tc : Thread Cert.MixReferenceIdeal.nD Cert.MixReferenceIdeal.τ).loc Cert.MixReferenceIdeal.main_arg9)
      ∧ r.2.mem ((c.tc : Thread Cert.MixReferenceIdeal.nD Cert.MixReferenceIdeal.τ).loc Cert.MixReferenceIdeal.main_arg10) = m ((c.tc : Thread Cert.MixReferenceIdeal.nD Cert.MixReferenceIdeal.τ).loc Cert.MixReferenceIdeal.main_arg10)
      ∧ r.2.mem ((c.tc : Thread Cert.MixReferenceIdeal.nD Cert.MixReferenceIdeal.τ).loc Cert.MixReferenceIdeal.main_arg11) = m ((c.tc : Thread Cert.MixReferenceIdeal.nD Cert.MixReferenceIdeal.τ).loc Cert.MixReferenceIdeal.main_arg11)
      ∧ r.2.mem ((c.tc : Thread Cert.MixReferenceIdeal.nD Cert.MixReferenceIdeal.τ).loc Cert.MixReferenceIdeal.main_arg12) = m ((c.tc : Thread Cert.MixReferenceIdeal.nD Cert.MixReferenceIdeal.τ).loc Cert.MixReferenceIdeal.main_arg12)
      ∧ r.2.mem ((c.tc : Thread Cert.MixReferenceIdeal.nD Cert.MixReferenceIdeal.τ).loc Cert.MixReferenceIdeal.main_arg13) = m ((c.tc : Thread Cert.MixReferenceIdeal.nD Cert.MixReferenceIdeal.τ).loc Cert.MixReferenceIdeal.main_arg13)
      ∧ r.2.mem ((c.tc : Thread Cert.MixReferenceIdeal.nD Cert.MixReferenceIdeal.τ).loc Cert.MixReferenceIdeal.main_arg14) = m ((c.tc : Thread Cert.MixReferenceIdeal.nD Cert.MixReferenceIdeal.τ).loc Cert.MixReferenceIdeal.main_arg14))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressReferenceIdeal [hCompressReferenceIdeal : Cert.CompressReferenceIdeal.Facts] : Prop :=
  ∀ (m : (ℓ : Loc Cert.CompressReferenceIdeal.nD Cert.CompressReferenceIdeal.τ Cert.CompressReferenceIdeal.sig) → Buf (Elt Ideal) ℓ) (g : Dev Cert.CompressReferenceIdeal.nD → PrngReg), Pre_CompressReferenceIdeal m →
    θ_run (Cert.CompressReferenceIdeal.defs (F := Ideal)) (onTc (τ := Cert.CompressReferenceIdeal.τ) (Cert.CompressReferenceIdeal.main (F := Ideal))) ⟨m, fun _ => 0, g⟩ (fun r => (∀ c : Dev Cert.CompressReferenceIdeal.nD,
      r.2.mem ((c.tc : Thread Cert.CompressReferenceIdeal.nD Cert.CompressReferenceIdeal.τ).loc Cert.CompressReferenceIdeal.main_arg0) = m ((c.tc : Thread Cert.CompressReferenceIdeal.nD Cert.CompressReferenceIdeal.τ).loc Cert.CompressReferenceIdeal.main_arg0)
      ∧ r.2.mem ((c.tc : Thread Cert.CompressReferenceIdeal.nD Cert.CompressReferenceIdeal.τ).loc Cert.CompressReferenceIdeal.main_arg1) = m ((c.tc : Thread Cert.CompressReferenceIdeal.nD Cert.CompressReferenceIdeal.τ).loc Cert.CompressReferenceIdeal.main_arg1)
      ∧ r.2.mem ((c.tc : Thread Cert.CompressReferenceIdeal.nD Cert.CompressReferenceIdeal.τ).loc Cert.CompressReferenceIdeal.main_arg2) = m ((c.tc : Thread Cert.CompressReferenceIdeal.nD Cert.CompressReferenceIdeal.τ).loc Cert.CompressReferenceIdeal.main_arg2)
      ∧ r.2.mem ((c.tc : Thread Cert.CompressReferenceIdeal.nD Cert.CompressReferenceIdeal.τ).loc Cert.CompressReferenceIdeal.main_arg3) = m ((c.tc : Thread Cert.CompressReferenceIdeal.nD Cert.CompressReferenceIdeal.τ).loc Cert.CompressReferenceIdeal.main_arg3)
      ∧ r.2.mem ((c.tc : Thread Cert.CompressReferenceIdeal.nD Cert.CompressReferenceIdeal.τ).loc Cert.CompressReferenceIdeal.main_arg4) = m ((c.tc : Thread Cert.CompressReferenceIdeal.nD Cert.CompressReferenceIdeal.τ).loc Cert.CompressReferenceIdeal.main_arg4)
      ∧ r.2.mem ((c.tc : Thread Cert.CompressReferenceIdeal.nD Cert.CompressReferenceIdeal.τ).loc Cert.CompressReferenceIdeal.main_arg5) = m ((c.tc : Thread Cert.CompressReferenceIdeal.nD Cert.CompressReferenceIdeal.τ).loc Cert.CompressReferenceIdeal.main_arg5)
      ∧ r.2.mem ((c.tc : Thread Cert.CompressReferenceIdeal.nD Cert.CompressReferenceIdeal.τ).loc Cert.CompressReferenceIdeal.main_arg6) = m ((c.tc : Thread Cert.CompressReferenceIdeal.nD Cert.CompressReferenceIdeal.τ).loc Cert.CompressReferenceIdeal.main_arg6)
      ∧ r.2.mem ((c.tc : Thread Cert.CompressReferenceIdeal.nD Cert.CompressReferenceIdeal.τ).loc Cert.CompressReferenceIdeal.main_arg7) = m ((c.tc : Thread Cert.CompressReferenceIdeal.nD Cert.CompressReferenceIdeal.τ).loc Cert.CompressReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_FfnLast_FfnLastIdeal : Prop :=
  True

def algebraic_FfnLastIdeal_FfnLastReferenceIdeal [hFfnLastIdeal : Cert.FfnLastIdeal.Facts] [hFfnLastReferenceIdeal : Cert.FfnLastReferenceIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastReferenceIdeal.nD Cert.FfnLastReferenceIdeal.τ Cert.FfnLastReferenceIdeal.sig) → Buf (Elt Ideal) ℓ) (g' : Dev Cert.FfnLastReferenceIdeal.nD → PrngReg), Pre_FfnLastIdeal m →
    (∀ c : Dev Cert.FfnLastIdeal.nD,
      m' ((c.tc : Thread Cert.FfnLastReferenceIdeal.nD Cert.FfnLastReferenceIdeal.τ).loc Cert.FfnLastReferenceIdeal.main_arg0) = m ((c.tc : Thread Cert.FfnLastIdeal.nD Cert.FfnLastIdeal.τ).loc Cert.FfnLastIdeal.main_arg0)
      ∧ m' ((c.tc : Thread Cert.FfnLastReferenceIdeal.nD Cert.FfnLastReferenceIdeal.τ).loc Cert.FfnLastReferenceIdeal.main_arg1) = m ((c.tc : Thread Cert.FfnLastIdeal.nD Cert.FfnLastIdeal.τ).loc Cert.FfnLastIdeal.main_arg1)
      ∧ m' ((c.tc : Thread Cert.FfnLastReferenceIdeal.nD Cert.FfnLastReferenceIdeal.τ).loc Cert.FfnLastReferenceIdeal.main_arg2) = m ((c.tc : Thread Cert.FfnLastIdeal.nD Cert.FfnLastIdeal.τ).loc Cert.FfnLastIdeal.main_arg2)
      ∧ m' ((c.tc : Thread Cert.FfnLastReferenceIdeal.nD Cert.FfnLastReferenceIdeal.τ).loc Cert.FfnLastReferenceIdeal.main_arg3) = m ((c.tc : Thread Cert.FfnLastIdeal.nD Cert.FfnLastIdeal.τ).loc Cert.FfnLastIdeal.main_arg3)
      ∧ m' ((c.tc : Thread Cert.FfnLastReferenceIdeal.nD Cert.FfnLastReferenceIdeal.τ).loc Cert.FfnLastReferenceIdeal.main_arg4) = m ((c.tc : Thread Cert.FfnLastIdeal.nD Cert.FfnLastIdeal.τ).loc Cert.FfnLastIdeal.main_arg4)
      ∧ m' ((c.tc : Thread Cert.FfnLastReferenceIdeal.nD Cert.FfnLastReferenceIdeal.τ).loc Cert.FfnLastReferenceIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v5)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v5) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastReferenceIdeal.defs (F := Ideal)) (onTc (τ := Cert.FfnLastReferenceIdeal.τ) (Cert.FfnLastReferenceIdeal.main (F := Ideal))) ⟨m', fun _ => 0, g'⟩ (fun r => ∀ c : Dev Cert.FfnLastReferenceIdeal.nD,
          r.2.mem ((c.tc : Thread Cert.FfnLastReferenceIdeal.nD Cert.FfnLastReferenceIdeal.τ).loc Cert.FfnLastReferenceIdeal.main_v33) = v0 c
          ∧ r.2.mem ((c.tc : Thread Cert.FfnLastReferenceIdeal.nD Cert.FfnLastReferenceIdeal.τ).loc Cert.FfnLastReferenceIdeal.main_arg0) = m' ((c.tc : Thread Cert.FfnLastReferenceIdeal.nD Cert.FfnLastReferenceIdeal.τ).loc Cert.FfnLastReferenceIdeal.main_arg0)
          ∧ r.2.mem ((c.tc : Thread Cert.FfnLastReferenceIdeal.nD Cert.FfnLastReferenceIdeal.τ).loc Cert.FfnLastReferenceIdeal.main_arg1) = m' ((c.tc : Thread Cert.FfnLastReferenceIdeal.nD Cert.FfnLastReferenceIdeal.τ).loc Cert.FfnLastReferenceIdeal.main_arg1)
          ∧ r.2.mem ((c.tc : Thread Cert.FfnLastReferenceIdeal.nD Cert.FfnLastReferenceIdeal.τ).loc Cert.FfnLastReferenceIdeal.main_arg2) = m' ((c.tc : Thread Cert.FfnLastReferenceIdeal.nD Cert.FfnLastReferenceIdeal.τ).loc Cert.FfnLastReferenceIdeal.main_arg2)
          ∧ r.2.mem ((c.tc : Thread Cert.FfnLastReferenceIdeal.nD Cert.FfnLastReferenceIdeal.τ).loc Cert.FfnLastReferenceIdeal.main_arg3) = m' ((c.tc : Thread Cert.FfnLastReferenceIdeal.nD Cert.FfnLastReferenceIdeal.τ).loc Cert.FfnLastReferenceIdeal.main_arg3)
          ∧ r.2.mem ((c.tc : Thread Cert.FfnLastReferenceIdeal.nD Cert.FfnLastReferenceIdeal.τ).loc Cert.FfnLastReferenceIdeal.main_arg4) = m' ((c.tc : Thread Cert.FfnLastReferenceIdeal.nD Cert.FfnLastReferenceIdeal.τ).loc Cert.FfnLastReferenceIdeal.main_arg4)
          ∧ r.2.mem ((c.tc : Thread Cert.FfnLastReferenceIdeal.nD Cert.FfnLastReferenceIdeal.τ).loc Cert.FfnLastReferenceIdeal.main_arg5) = m' ((c.tc : Thread Cert.FfnLastReferenceIdeal.nD Cert.FfnLastReferenceIdeal.τ).loc Cert.FfnLastReferenceIdeal.main_arg5))

def preserves_Mix_MixIdeal : Prop :=
  True

def algebraic_MixIdeal_MixReferenceIdeal_pre_weights_exist [hMixIdeal : Cert.MixIdeal.Facts] [hMixReferenceIdeal : Cert.MixReferenceIdeal.Facts] [hPre_weights_exist : Cert.Pre_weights_exist.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixReferenceIdeal.nD Cert.MixReferenceIdeal.τ Cert.MixReferenceIdeal.sig) → Buf (Elt Ideal) ℓ) (g' : Dev Cert.MixReferenceIdeal.nD → PrngReg), Pre_MixIdeal_weights_exist m →
    (∀ c : Dev Cert.MixIdeal.nD,
      m' ((c.tc : Thread Cert.MixReferenceIdeal.nD Cert.MixReferenceIdeal.τ).loc Cert.MixReferenceIdeal.main_arg0) = m ((c.tc : Thread Cert.MixIdeal.nD Cert.MixIdeal.τ).loc Cert.MixIdeal.main_arg0)
      ∧ m' ((c.tc : Thread Cert.MixReferenceIdeal.nD Cert.MixReferenceIdeal.τ).loc Cert.MixReferenceIdeal.main_arg1) = m ((c.tc : Thread Cert.MixIdeal.nD Cert.MixIdeal.τ).loc Cert.MixIdeal.main_arg1)
      ∧ m' ((c.tc : Thread Cert.MixReferenceIdeal.nD Cert.MixReferenceIdeal.τ).loc Cert.MixReferenceIdeal.main_arg2) = m ((c.tc : Thread Cert.MixIdeal.nD Cert.MixIdeal.τ).loc Cert.MixIdeal.main_arg2)
      ∧ m' ((c.tc : Thread Cert.MixReferenceIdeal.nD Cert.MixReferenceIdeal.τ).loc Cert.MixReferenceIdeal.main_arg3) = m ((c.tc : Thread Cert.MixIdeal.nD Cert.MixIdeal.τ).loc Cert.MixIdeal.main_arg3)
      ∧ m' ((c.tc : Thread Cert.MixReferenceIdeal.nD Cert.MixReferenceIdeal.τ).loc Cert.MixReferenceIdeal.main_arg4) = m ((c.tc : Thread Cert.MixIdeal.nD Cert.MixIdeal.τ).loc Cert.MixIdeal.main_arg4)
      ∧ m' ((c.tc : Thread Cert.MixReferenceIdeal.nD Cert.MixReferenceIdeal.τ).loc Cert.MixReferenceIdeal.main_arg5) = m ((c.tc : Thread Cert.MixIdeal.nD Cert.MixIdeal.τ).loc Cert.MixIdeal.main_arg5)
      ∧ m' ((c.tc : Thread Cert.MixReferenceIdeal.nD Cert.MixReferenceIdeal.τ).loc Cert.MixReferenceIdeal.main_arg6) = m ((c.tc : Thread Cert.MixIdeal.nD Cert.MixIdeal.τ).loc Cert.MixIdeal.main_arg6)
      ∧ m' ((c.tc : Thread Cert.MixReferenceIdeal.nD Cert.MixReferenceIdeal.τ).loc Cert.MixReferenceIdeal.main_arg7) = m ((c.tc : Thread Cert.MixIdeal.nD Cert.MixIdeal.τ).loc Cert.MixIdeal.main_arg7)
      ∧ m' ((c.tc : Thread Cert.MixReferenceIdeal.nD Cert.MixReferenceIdeal.τ).loc Cert.MixReferenceIdeal.main_arg8) = m ((c.tc : Thread Cert.MixIdeal.nD Cert.MixIdeal.τ).loc Cert.MixIdeal.main_arg8)
      ∧ m' ((c.tc : Thread Cert.MixReferenceIdeal.nD Cert.MixReferenceIdeal.τ).loc Cert.MixReferenceIdeal.main_arg9) = m ((c.tc : Thread Cert.MixIdeal.nD Cert.MixIdeal.τ).loc Cert.MixIdeal.main_arg9)
      ∧ m' ((c.tc : Thread Cert.MixReferenceIdeal.nD Cert.MixReferenceIdeal.τ).loc Cert.MixReferenceIdeal.main_arg10) = m ((c.tc : Thread Cert.MixIdeal.nD Cert.MixIdeal.τ).loc Cert.MixIdeal.main_arg10)
      ∧ m' ((c.tc : Thread Cert.MixReferenceIdeal.nD Cert.MixReferenceIdeal.τ).loc Cert.MixReferenceIdeal.main_arg11) = m ((c.tc : Thread Cert.MixIdeal.nD Cert.MixIdeal.τ).loc Cert.MixIdeal.main_arg11)
      ∧ m' ((c.tc : Thread Cert.MixReferenceIdeal.nD Cert.MixReferenceIdeal.τ).loc Cert.MixReferenceIdeal.main_arg12) = m ((c.tc : Thread Cert.MixIdeal.nD Cert.MixIdeal.τ).loc Cert.MixIdeal.main_arg12)
      ∧ m' ((c.tc : Thread Cert.MixReferenceIdeal.nD Cert.MixReferenceIdeal.τ).loc Cert.MixReferenceIdeal.main_arg13) = m ((c.tc : Thread Cert.MixIdeal.nD Cert.MixIdeal.τ).loc Cert.MixIdeal.main_arg13)
      ∧ m' ((c.tc : Thread Cert.MixReferenceIdeal.nD Cert.MixReferenceIdeal.τ).loc Cert.MixReferenceIdeal.main_arg14) = m ((c.tc : Thread Cert.MixIdeal.nD Cert.MixIdeal.τ).loc Cert.MixIdeal.main_arg14)) →
    ∃ (v0 : (c : Dev Cert.MixIdeal.nD) → Buf (Elt Ideal) ((c.tc : Thread Cert.MixIdeal.nD Cert.MixIdeal.τ).loc Cert.MixIdeal.main_v13)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v13) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12)
          ∧ r.2.mem ((c.tc : Thread Cert.MixIdeal.nD Cert.MixIdeal.τ).loc Cert.MixIdeal.main_arg13) = m ((c.tc : Thread Cert.MixIdeal.nD Cert.MixIdeal.τ).loc Cert.MixIdeal.main_arg13)
          ∧ r.2.mem ((c.tc : Thread Cert.MixIdeal.nD Cert.MixIdeal.τ).loc Cert.MixIdeal.main_arg14) = m ((c.tc : Thread Cert.MixIdeal.nD Cert.MixIdeal.τ).loc Cert.MixIdeal.main_arg14))
      ∧ θ_run (Cert.MixReferenceIdeal.defs (F := Ideal)) (onTc (τ := Cert.MixReferenceIdeal.τ) (Cert.MixReferenceIdeal.main (F := Ideal))) ⟨m', fun _ => 0, g'⟩ (fun r => ∀ c : Dev Cert.MixReferenceIdeal.nD,
          r.2.mem ((c.tc : Thread Cert.MixReferenceIdeal.nD Cert.MixReferenceIdeal.τ).loc Cert.MixReferenceIdeal.main_v67) = v0 c
          ∧ r.2.mem ((c.tc : Thread Cert.MixReferenceIdeal.nD Cert.MixReferenceIdeal.τ).loc Cert.MixReferenceIdeal.main_arg0) = m' ((c.tc : Thread Cert.MixReferenceIdeal.nD Cert.MixReferenceIdeal.τ).loc Cert.MixReferenceIdeal.main_arg0)
          ∧ r.2.mem ((c.tc : Thread Cert.MixReferenceIdeal.nD Cert.MixReferenceIdeal.τ).loc Cert.MixReferenceIdeal.main_arg1) = m' ((c.tc : Thread Cert.MixReferenceIdeal.nD Cert.MixReferenceIdeal.τ).loc Cert.MixReferenceIdeal.main_arg1)
          ∧ r.2.mem ((c.tc : Thread Cert.MixReferenceIdeal.nD Cert.MixReferenceIdeal.τ).loc Cert.MixReferenceIdeal.main_arg2) = m' ((c.tc : Thread Cert.MixReferenceIdeal.nD Cert.MixReferenceIdeal.τ).loc Cert.MixReferenceIdeal.main_arg2)
          ∧ r.2.mem ((c.tc : Thread Cert.MixReferenceIdeal.nD Cert.MixReferenceIdeal.τ).loc Cert.MixReferenceIdeal.main_arg3) = m' ((c.tc : Thread Cert.MixReferenceIdeal.nD Cert.MixReferenceIdeal.τ).loc Cert.MixReferenceIdeal.main_arg3)
          ∧ r.2.mem ((c.tc : Thread Cert.MixReferenceIdeal.nD Cert.MixReferenceIdeal.τ).loc Cert.MixReferenceIdeal.main_arg4) = m' ((c.tc : Thread Cert.MixReferenceIdeal.nD Cert.MixReferenceIdeal.τ).loc Cert.MixReferenceIdeal.main_arg4)
          ∧ r.2.mem ((c.tc : Thread Cert.MixReferenceIdeal.nD Cert.MixReferenceIdeal.τ).loc Cert.MixReferenceIdeal.main_arg5) = m' ((c.tc : Thread Cert.MixReferenceIdeal.nD Cert.MixReferenceIdeal.τ).loc Cert.MixReferenceIdeal.main_arg5)
          ∧ r.2.mem ((c.tc : Thread Cert.MixReferenceIdeal.nD Cert.MixReferenceIdeal.τ).loc Cert.MixReferenceIdeal.main_arg6) = m' ((c.tc : Thread Cert.MixReferenceIdeal.nD Cert.MixReferenceIdeal.τ).loc Cert.MixReferenceIdeal.main_arg6)
          ∧ r.2.mem ((c.tc : Thread Cert.MixReferenceIdeal.nD Cert.MixReferenceIdeal.τ).loc Cert.MixReferenceIdeal.main_arg7) = m' ((c.tc : Thread Cert.MixReferenceIdeal.nD Cert.MixReferenceIdeal.τ).loc Cert.MixReferenceIdeal.main_arg7)
          ∧ r.2.mem ((c.tc : Thread Cert.MixReferenceIdeal.nD Cert.MixReferenceIdeal.τ).loc Cert.MixReferenceIdeal.main_arg8) = m' ((c.tc : Thread Cert.MixReferenceIdeal.nD Cert.MixReferenceIdeal.τ).loc Cert.MixReferenceIdeal.main_arg8)
          ∧ r.2.mem ((c.tc : Thread Cert.MixReferenceIdeal.nD Cert.MixReferenceIdeal.τ).loc Cert.MixReferenceIdeal.main_arg9) = m' ((c.tc : Thread Cert.MixReferenceIdeal.nD Cert.MixReferenceIdeal.τ).loc Cert.MixReferenceIdeal.main_arg9)
          ∧ r.2.mem ((c.tc : Thread Cert.MixReferenceIdeal.nD Cert.MixReferenceIdeal.τ).loc Cert.MixReferenceIdeal.main_arg10) = m' ((c.tc : Thread Cert.MixReferenceIdeal.nD Cert.MixReferenceIdeal.τ).loc Cert.MixReferenceIdeal.main_arg10)
          ∧ r.2.mem ((c.tc : Thread Cert.MixReferenceIdeal.nD Cert.MixReferenceIdeal.τ).loc Cert.MixReferenceIdeal.main_arg11) = m' ((c.tc : Thread Cert.MixReferenceIdeal.nD Cert.MixReferenceIdeal.τ).loc Cert.MixReferenceIdeal.main_arg11)
          ∧ r.2.mem ((c.tc : Thread Cert.MixReferenceIdeal.nD Cert.MixReferenceIdeal.τ).loc Cert.MixReferenceIdeal.main_arg12) = m' ((c.tc : Thread Cert.MixReferenceIdeal.nD Cert.MixReferenceIdeal.τ).loc Cert.MixReferenceIdeal.main_arg12)
          ∧ r.2.mem ((c.tc : Thread Cert.MixReferenceIdeal.nD Cert.MixReferenceIdeal.τ).loc Cert.MixReferenceIdeal.main_arg13) = m' ((c.tc : Thread Cert.MixReferenceIdeal.nD Cert.MixReferenceIdeal.τ).loc Cert.MixReferenceIdeal.main_arg13)
          ∧ r.2.mem ((c.tc : Thread Cert.MixReferenceIdeal.nD Cert.MixReferenceIdeal.τ).loc Cert.MixReferenceIdeal.main_arg14) = m' ((c.tc : Thread Cert.MixReferenceIdeal.nD Cert.MixReferenceIdeal.τ).loc Cert.MixReferenceIdeal.main_arg14))

def preserves_Compress_CompressIdeal : Prop :=
  True

def algebraic_CompressIdeal_CompressReferenceIdeal [hCompressIdeal : Cert.CompressIdeal.Facts] [hCompressReferenceIdeal : Cert.CompressReferenceIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressReferenceIdeal.nD Cert.CompressReferenceIdeal.τ Cert.CompressReferenceIdeal.sig) → Buf (Elt Ideal) ℓ) (g' : Dev Cert.CompressReferenceIdeal.nD → PrngReg), Pre_CompressIdeal m →
    (∀ c : Dev Cert.CompressIdeal.nD,
      m' ((c.tc : Thread Cert.CompressReferenceIdeal.nD Cert.CompressReferenceIdeal.τ).loc Cert.CompressReferenceIdeal.main_arg0) = m ((c.tc : Thread Cert.CompressIdeal.nD Cert.CompressIdeal.τ).loc Cert.CompressIdeal.main_arg0)
      ∧ m' ((c.tc : Thread Cert.CompressReferenceIdeal.nD Cert.CompressReferenceIdeal.τ).loc Cert.CompressReferenceIdeal.main_arg1) = m ((c.tc : Thread Cert.CompressIdeal.nD Cert.CompressIdeal.τ).loc Cert.CompressIdeal.main_arg1)
      ∧ m' ((c.tc : Thread Cert.CompressReferenceIdeal.nD Cert.CompressReferenceIdeal.τ).loc Cert.CompressReferenceIdeal.main_arg2) = m ((c.tc : Thread Cert.CompressIdeal.nD Cert.CompressIdeal.τ).loc Cert.CompressIdeal.main_arg2)
      ∧ m' ((c.tc : Thread Cert.CompressReferenceIdeal.nD Cert.CompressReferenceIdeal.τ).loc Cert.CompressReferenceIdeal.main_arg3) = m ((c.tc : Thread Cert.CompressIdeal.nD Cert.CompressIdeal.τ).loc Cert.CompressIdeal.main_arg3)
      ∧ m' ((c.tc : Thread Cert.CompressReferenceIdeal.nD Cert.CompressReferenceIdeal.τ).loc Cert.CompressReferenceIdeal.main_arg4) = m ((c.tc : Thread Cert.CompressIdeal.nD Cert.CompressIdeal.τ).loc Cert.CompressIdeal.main_arg4)
      ∧ m' ((c.tc : Thread Cert.CompressReferenceIdeal.nD Cert.CompressReferenceIdeal.τ).loc Cert.CompressReferenceIdeal.main_arg5) = m ((c.tc : Thread Cert.CompressIdeal.nD Cert.CompressIdeal.τ).loc Cert.CompressIdeal.main_arg5)
      ∧ m' ((c.tc : Thread Cert.CompressReferenceIdeal.nD Cert.CompressReferenceIdeal.τ).loc Cert.CompressReferenceIdeal.main_arg6) = m ((c.tc : Thread Cert.CompressIdeal.nD Cert.CompressIdeal.τ).loc Cert.CompressIdeal.main_arg6)
      ∧ m' ((c.tc : Thread Cert.CompressReferenceIdeal.nD Cert.CompressReferenceIdeal.τ).loc Cert.CompressReferenceIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v32_0)) (v1 : (c : Dev Cert.CompressIdeal.nD) → Buf (Elt Ideal) ((c.tc : Thread Cert.CompressIdeal.nD Cert.CompressIdeal.τ).loc Cert.CompressIdeal.main_v32_1)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v32_0) = v0 c
          ∧ r.2.mem ((c.tc : Thread Cert.CompressIdeal.nD Cert.CompressIdeal.τ).loc Cert.CompressIdeal.main_v32_1) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressReferenceIdeal.defs (F := Ideal)) (onTc (τ := Cert.CompressReferenceIdeal.τ) (Cert.CompressReferenceIdeal.main (F := Ideal))) ⟨m', fun _ => 0, g'⟩ (fun r => ∀ c : Dev Cert.CompressReferenceIdeal.nD,
          r.2.mem ((c.tc : Thread Cert.CompressReferenceIdeal.nD Cert.CompressReferenceIdeal.τ).loc Cert.CompressReferenceIdeal.main_v24) = v0 c
          ∧ r.2.mem ((c.tc : Thread Cert.CompressReferenceIdeal.nD Cert.CompressReferenceIdeal.τ).loc Cert.CompressReferenceIdeal.main_v49) = v1 c
          ∧ r.2.mem ((c.tc : Thread Cert.CompressReferenceIdeal.nD Cert.CompressReferenceIdeal.τ).loc Cert.CompressReferenceIdeal.main_arg0) = m' ((c.tc : Thread Cert.CompressReferenceIdeal.nD Cert.CompressReferenceIdeal.τ).loc Cert.CompressReferenceIdeal.main_arg0)
          ∧ r.2.mem ((c.tc : Thread Cert.CompressReferenceIdeal.nD Cert.CompressReferenceIdeal.τ).loc Cert.CompressReferenceIdeal.main_arg1) = m' ((c.tc : Thread Cert.CompressReferenceIdeal.nD Cert.CompressReferenceIdeal.τ).loc Cert.CompressReferenceIdeal.main_arg1)
          ∧ r.2.mem ((c.tc : Thread Cert.CompressReferenceIdeal.nD Cert.CompressReferenceIdeal.τ).loc Cert.CompressReferenceIdeal.main_arg2) = m' ((c.tc : Thread Cert.CompressReferenceIdeal.nD Cert.CompressReferenceIdeal.τ).loc Cert.CompressReferenceIdeal.main_arg2)
          ∧ r.2.mem ((c.tc : Thread Cert.CompressReferenceIdeal.nD Cert.CompressReferenceIdeal.τ).loc Cert.CompressReferenceIdeal.main_arg3) = m' ((c.tc : Thread Cert.CompressReferenceIdeal.nD Cert.CompressReferenceIdeal.τ).loc Cert.CompressReferenceIdeal.main_arg3)
          ∧ r.2.mem ((c.tc : Thread Cert.CompressReferenceIdeal.nD Cert.CompressReferenceIdeal.τ).loc Cert.CompressReferenceIdeal.main_arg4) = m' ((c.tc : Thread Cert.CompressReferenceIdeal.nD Cert.CompressReferenceIdeal.τ).loc Cert.CompressReferenceIdeal.main_arg4)
          ∧ r.2.mem ((c.tc : Thread Cert.CompressReferenceIdeal.nD Cert.CompressReferenceIdeal.τ).loc Cert.CompressReferenceIdeal.main_arg5) = m' ((c.tc : Thread Cert.CompressReferenceIdeal.nD Cert.CompressReferenceIdeal.τ).loc Cert.CompressReferenceIdeal.main_arg5)
          ∧ r.2.mem ((c.tc : Thread Cert.CompressReferenceIdeal.nD Cert.CompressReferenceIdeal.τ).loc Cert.CompressReferenceIdeal.main_arg6) = m' ((c.tc : Thread Cert.CompressReferenceIdeal.nD Cert.CompressReferenceIdeal.τ).loc Cert.CompressReferenceIdeal.main_arg6)
          ∧ r.2.mem ((c.tc : Thread Cert.CompressReferenceIdeal.nD Cert.CompressReferenceIdeal.τ).loc Cert.CompressReferenceIdeal.main_arg7) = m' ((c.tc : Thread Cert.CompressReferenceIdeal.nD Cert.CompressReferenceIdeal.τ).loc Cert.CompressReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hFfnLast : Cert.FfnLast.Facts) (hFfnLastIdeal : Cert.FfnLastIdeal.Facts) (hFfnLastReferenceIdeal : Cert.FfnLastReferenceIdeal.Facts) (hMix : Cert.Mix.Facts) (hMixIdeal : Cert.MixIdeal.Facts) (hMixReferenceIdeal : Cert.MixReferenceIdeal.Facts) (hCompress : Cert.Compress.Facts) (hCompressIdeal : Cert.CompressIdeal.Facts) (hCompressReferenceIdeal : Cert.CompressReferenceIdeal.Facts) (hPre_weights_exist : Cert.Pre_weights_exist.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_FfnLast (hFfnLast := hFfnLast)
    ∧ quiescent_FfnLastIdeal (hFfnLastIdeal := hFfnLastIdeal)
    ∧ quiescent_FfnLastReferenceIdeal (hFfnLastReferenceIdeal := hFfnLastReferenceIdeal)
    ∧ quiescent_Mix (hMix := hMix)
    ∧ quiescent_MixIdeal (hMixIdeal := hMixIdeal)
    ∧ quiescent_MixIdeal_pre_weights_exist (hMixIdeal := hMixIdeal) (hPre_weights_exist := hPre_weights_exist)
    ∧ quiescent_MixReferenceIdeal (hMixReferenceIdeal := hMixReferenceIdeal)
    ∧ quiescent_MixReferenceIdeal_pre_weights_exist (hMixReferenceIdeal := hMixReferenceIdeal) (hPre_weights_exist := hPre_weights_exist)
    ∧ quiescent_Compress (hCompress := hCompress)
    ∧ quiescent_CompressIdeal (hCompressIdeal := hCompressIdeal)
    ∧ quiescent_CompressReferenceIdeal (hCompressReferenceIdeal := hCompressReferenceIdeal)
    ∧ preserves_Kernel_KernelIdeal
    ∧ algebraic_KernelIdeal_ReferenceIdeal (hKernelIdeal := hKernelIdeal) (hReferenceIdeal := hReferenceIdeal)
    ∧ preserves_Ffn_FfnIdeal
    ∧ algebraic_FfnIdeal_FfnReferenceIdeal (hFfnIdeal := hFfnIdeal) (hFfnReferenceIdeal := hFfnReferenceIdeal)
    ∧ preserves_FfnLast_FfnLastIdeal
    ∧ algebraic_FfnLastIdeal_FfnLastReferenceIdeal (hFfnLastIdeal := hFfnLastIdeal) (hFfnLastReferenceIdeal := hFfnLastReferenceIdeal)
    ∧ preserves_Mix_MixIdeal
    ∧ algebraic_MixIdeal_MixReferenceIdeal_pre_weights_exist (hMixIdeal := hMixIdeal) (hMixReferenceIdeal := hMixReferenceIdeal) (hPre_weights_exist := hPre_weights_exist)
    ∧ preserves_Compress_CompressIdeal
    ∧ algebraic_CompressIdeal_CompressReferenceIdeal (hCompressIdeal := hCompressIdeal) (hCompressReferenceIdeal := hCompressReferenceIdeal)
-- ==== Pre_weights_exist.lean ====
abbrev S32768x1024 : Shape := ⟨2, ![32768, 1024]⟩
abbrev S1024 : Shape := ⟨1, ![1024]⟩
abbrev S1024x6162 : Shape := ⟨2, ![1024, 6162]⟩
abbrev S32768x512 : Shape := ⟨2, ![32768, 512]⟩
abbrev S32768x256 : Shape := ⟨2, ![32768, 256]⟩
abbrev S32768x128 : Shape := ⟨2, ![32768, 128]⟩
abbrev S8192x512 : Shape := ⟨2, ![8192, 512]⟩
abbrev S2048x2048 : Shape := ⟨2, ![2048, 2048]⟩
abbrev S384x1024 : Shape := ⟨2, ![384, 1024]⟩
abbrev S256x1024 : Shape := ⟨2, ![256, 1024]⟩
abbrev S128x1024 : Shape := ⟨2, ![128, 1024]⟩
abbrev S1024x1024 : Shape := ⟨2, ![1024, 1024]⟩
abbrev S_ : Shape := ⟨0, ![]⟩

class Facts : Prop where
  shapeCasts_S8192x512_S32768x128 : S8192x512.ShapeCasts S32768x128
  shapeCasts_S2048x2048_S32768x128 : S2048x2048.ShapeCasts S32768x128
  bcast_S_S32768x128 : S_.BroadcastsInDim S32768x128 (![] : Fin 0 → Fin S32768x128.rank)
  reducesTo_S32768x128_S_d0_1 : S32768x128.ReducesTo [0, 1] S_
  h_S_ : 0 < S_.numel

variable [Facts]

def fn {F : FTy → Type} [FloatOps F] (main_arg0 : FVec F S32768x1024 .f32) (main_arg1 : FVec F S1024 .f32) (main_arg2 : FVec F S1024x6162 .f32) (main_arg3 : FVec F S32768x512 .bf16) (main_arg4 : FVec F S32768x256 .bf16) (main_arg5 : FVec F S32768x128 .f32) (main_arg6 : FVec F S32768x128 .f32) (main_arg7 : FVec F S8192x512 .f32) (main_arg8 : FVec F S8192x512 .f32) (main_arg9 : FVec F S2048x2048 .f32) (main_arg10 : FVec F S2048x2048 .f32) (main_arg11 : FVec F S384x1024 .f32) (main_arg12 : FVec F S256x1024 .f32) (main_arg13 : FVec F S128x1024 .f32) (main_arg14 : FVec F S1024x1024 .f32) : IVec S_ 1 :=
  let main_v0 : FVec F S32768x128 .f32 := shapeCast S32768x128 main_arg8 shapeCasts_S8192x512_S32768x128
  let main_v1 : FVec F S32768x128 .f32 := maximumf main_arg6 main_v0
  let main_v2 : FVec F S32768x128 .f32 := shapeCast S32768x128 main_arg10 shapeCasts_S2048x2048_S32768x128
  let main_v3 : FVec F S32768x128 .f32 := maximumf main_v1 main_v2
  let main_cst : FVec F S_ .f32 := constant S_ .f32 0xFF800000#32
  let main_v4 : FVec F S32768x128 .f32 := broadcastInDim S32768x128 ![] bcast_S_S32768x128 main_cst
  let main_v5 : IVec S32768x128 1 := cmpf .ogt main_v3 main_v4
  let main_cst_0 : FVec F S_ .f32 := constant S_ .f32 0x7F800000#32
  let main_v6 : FVec F S32768x128 .f32 := broadcastInDim S32768x128 ![] bcast_S_S32768x128 main_cst_0
  let main_v7 : IVec S32768x128 1 := cmpf .olt main_v3 main_v6
  let main_v8 : IVec S32768x128 1 := andi main_v5 main_v7
  let main_c : IVec S_ 1 := constantI S_ 1 1#1
  let main_v9 : IVec S_ 1 := (fun x v => Host.reduce IntOp.andi x v reducesTo_S32768x128_S_d0_1 h_S_) main_v8 main_c
  main_v9
-- ==== Kernel.lean ====
abbrev S32768x128 : Shape := ⟨2, ![32768, 128]⟩
abbrev S32x16 : Shape := ⟨2, ![32, 16]⟩
abbrev S3x2x128x128 : Shape := ⟨4, ![3, 2, 128, 128]⟩
abbrev S1x2x128x128 : Shape := ⟨4, ![1, 2, 128, 128]⟩
abbrev S1x1 : Shape := ⟨2, ![1, 1]⟩
abbrev S128x128 : Shape := ⟨2, ![128, 128]⟩
abbrev S1x1x128x128 : Shape := ⟨4, ![1, 1, 128, 128]⟩
abbrev S8x4096x128 : Shape := ⟨3, ![8, 4096, 128]⟩
abbrev S1x4096x128 : Shape := ⟨3, ![1, 4096, 128]⟩
abbrev S1x128x128 : Shape := ⟨3, ![1, 128, 128]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩

abbrev nBuf : Space → Nat
  | .hbm => 12
  | .vmem => 13
  | .smem => 1
  | _ => 0

abbrev bufTy : (tb : Table) → Fin (tcTables nBuf tb) → BufTy
  | .hbm, ⟨0, _⟩ => ⟨S32768x128, .bf16⟩
  | .hbm, ⟨1, _⟩ => ⟨S32768x128, .bf16⟩
  | .hbm, ⟨2, _⟩ => ⟨S32768x128, .bf16⟩
  | .hbm, ⟨3, _⟩ => ⟨S32x16, .f32⟩
  | .hbm, ⟨4, _⟩ => ⟨S3x2x128x128, .f32⟩
  | .hbm, ⟨5, _⟩ => ⟨S8x4096x128, .bf16⟩
  | .hbm, ⟨6, _⟩ => ⟨S8x4096x128, .bf16⟩
  | .hbm, ⟨7, _⟩ => ⟨S8x4096x128, .bf16⟩
  | .hbm, ⟨8, _⟩ => ⟨S8x4096x128, .f32⟩
  | .hbm, ⟨9, _⟩ => ⟨S8x4096x128, .f32⟩
  | .hbm, ⟨10, _⟩ => ⟨S32768x128, .f32⟩
  | .hbm, ⟨11, _⟩ => ⟨S32768x128, .f32⟩
  | .local _ .vmem, ⟨0, _⟩ => ⟨S1x2x128x128, .f32⟩
  | .local _ .vmem, ⟨1, _⟩ => ⟨S1x2x128x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S3x2x128x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .smem, ⟨0, _⟩ => ⟨S32x16, .f32⟩
  | _, _ => ⟨S32768x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![3], ![false]⟩

def k0_cond1 (i : grid0.Coords) : BitVec 1 :=
  let c128_i32 : BitVec 32 := 128#32
  let arg0 : BitVec 32 := BitVec.ofNat 32 (i 0).val
  let v0 : BitVec 32 := Scalar.muli c128_i32 arg0
  let c127_i32 : BitVec 32 := 127#32
  let v1 : BitVec 32 := Scalar.addi v0 c127_i32
  let c0_i32 : BitVec 32 := 0#32
  let v2 : BitVec 32 := Scalar.addi v1 c0_i32
  let c0_i32_3 : BitVec 32 := 0#32
  let v6 : BitVec 1 := Scalar.cmpi .slt v2 c0_i32_3
  let c128_i32_0 : BitVec 32 := 128#32
  let v3 : BitVec 32 := Scalar.muli c128_i32_0 arg0
  let c127_i32_1 : BitVec 32 := 127#32
  let v4 : BitVec 32 := Scalar.subi v3 c127_i32_1
  let c0_i32_2 : BitVec 32 := 0#32
  let v5 : BitVec 32 := Scalar.addi v4 c0_i32_2
  let c128_i32_4 : BitVec 32 := 128#32
  let v7 : BitVec 1 := Scalar.cmpi .sgt v5 c128_i32_4
  let v8 : BitVec 1 := Scalar.ori v6 v7
  let v16 : BitVec 32 := Scalar.extui v8
  let c0_i32_7 : BitVec 32 := 0#32
  let v17 : BitVec 1 := Scalar.cmpi .ne v16 c0_i32_7
  v17

def k0_cond2 (i : grid0.Coords) : BitVec 1 :=
  let c128_i32_0 : BitVec 32 := 128#32
  let arg0 : BitVec 32 := BitVec.ofNat 32 (i 0).val
  let v3 : BitVec 32 := Scalar.muli c128_i32_0 arg0
  let c127_i32_1 : BitVec 32 := 127#32
  let v4 : BitVec 32 := Scalar.subi v3 c127_i32_1
  let c0_i32_2 : BitVec 32 := 0#32
  let v5 : BitVec 32 := Scalar.addi v4 c0_i32_2
  let c0_i32_5 : BitVec 32 := 0#32
  let v9 : BitVec 1 := Scalar.cmpi .sge v5 c0_i32_5
  let c128_i32 : BitVec 32 := 128#32
  let v0 : BitVec 32 := Scalar.muli c128_i32 arg0
  let c127_i32 : BitVec 32 := 127#32
  let v1 : BitVec 32 := Scalar.addi v0 c127_i32
  let c0_i32 : BitVec 32 := 0#32
  let v2 : BitVec 32 := Scalar.addi v1 c0_i32
  let c128_i32_6 : BitVec 32 := 128#32
  let v10 : BitVec 1 := Scalar.cmpi .sle v2 c128_i32_6
  let v11 : BitVec 1 := Scalar.andi v9 v10
  let c1_i32 : BitVec 32 := 1#32
  let v12 : BitVec 32 := Scalar.muli v5 c1_i32
  let c2048_i32 : BitVec 32 := 2048#32
  let v13 : BitVec 1 := Scalar.cmpi .sge v12 c2048_i32
  let v14 : BitVec 1 := Scalar.andi v11 v13
  let v_true : BitVec 1 := 1#1
  let v15 : BitVec 1 := Scalar.andi v14 v_true
  let v18 : BitVec 32 := Scalar.extui v15
  let c0_i32_8 : BitVec 32 := 0#32
  let v19 : BitVec 1 := Scalar.cmpi .ne v18 c0_i32_8
  v19

def k0_cond3 (i : grid0.Coords) : BitVec 1 :=
  let c128_i32 : BitVec 32 := 128#32
  let arg0 : BitVec 32 := BitVec.ofNat 32 (i 0).val
  let v0 : BitVec 32 := Scalar.muli c128_i32 arg0
  let c127_i32 : BitVec 32 := 127#32
  let v1 : BitVec 32 := Scalar.addi v0 c127_i32
  let c0_i32 : BitVec 32 := 0#32
  let v2 : BitVec 32 := Scalar.addi v1 c0_i32
  let c0_i32_3 : BitVec 32 := 0#32
  let v6 : BitVec 1 := Scalar.cmpi .slt v2 c0_i32_3
  let c128_i32_0 : BitVec 32 := 128#32
  let v3 : BitVec 32 := Scalar.muli c128_i32_0 arg0
  let c127_i32_1 : BitVec 32 := 127#32
  let v4 : BitVec 32 := Scalar.subi v3 c127_i32_1
  let c0_i32_2 : BitVec 32 := 0#32
  let v5 : BitVec 32 := Scalar.addi v4 c0_i32_2
  let c128_i32_4 : BitVec 32 := 128#32
  let v7 : BitVec 1 := Scalar.cmpi .sgt v5 c128_i32_4
  let v8 : BitVec 1 := Scalar.ori v6 v7
  let c0_i32_5 : BitVec 32 := 0#32
  let v9 : BitVec 1 := Scalar.cmpi .sge v5 c0_i32_5
  let c128_i32_6 : BitVec 32 := 128#32
  let v10 : BitVec 1 := Scalar.cmpi .sle v2 c128_i32_6
  let v11 : BitVec 1 := Scalar.andi v9 v10
  let c1_i32 : BitVec 32 := 1#32
  let v12 : BitVec 32 := Scalar.muli v5 c1_i32
  let c2048_i32 : BitVec 32 := 2048#32
  let v13 : BitVec 1 := Scalar.cmpi .sge v12 c2048_i32
  let v14 : BitVec 1 := Scalar.andi v11 v13
  let v_true : BitVec 1 := 1#1
  let v15 : BitVec 1 := Scalar.andi v14 v_true
  let v20 : BitVec 1 := Scalar.ori v8 v15
  let true_9 : BitVec 1 := 1#1
  let v21 : BitVec 1 := Scalar.xori v20 true_9
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

@[reducible] def k1_t1_loop : Scf.Loop 32 :=
  let c0_i32 : BitVec 32 := 0#32
  let c32_i32 : BitVec 32 := 32#32
  let v3 : BitVec 32 := Scalar.addi c0_i32 c32_i32
  let c1_i32 : BitVec 32 := 1#32
  ⟨c0_i32, v3, c1_i32⟩
def k1_mult1 (k1_t1 : Fin k1_t1_loop.trips) : BitVec 32 :=
  let c0_i32 : BitVec 32 := 0#32
  let c1_i32 : BitVec 32 := 1#32
  let arg7 : BitVec 32 := Scf.iv c0_i32 c1_i32 k1_t1
  let c128_i32 : BitVec 32 := 128#32
  let v6 : BitVec 32 := Scalar.muli arg7 c128_i32
  v6
def k1_mult2 (k1_t1 : Fin k1_t1_loop.trips) : BitVec 32 :=
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let c128_i32_3 : BitVec 32 := 128#32
  let v8 : BitVec 32 := Scalar.muli v5 c128_i32_3
  v8
def k1_off1 (k1_t1 : Fin k1_t1_loop.trips) : Fin 3 → Nat :=
  let c0 : Index := 0#32
  let c0_i32 : BitVec 32 := 0#32
  let c1_i32 : BitVec 32 := 1#32
  let arg7 : BitVec 32 := Scf.iv c0_i32 c1_i32 k1_t1
  let c128_i32 : BitVec 32 := 128#32
  let v6 : BitVec 32 := Scalar.muli arg7 c128_i32
  let v7 : BitVec 32 := v6
  let v10 : Index := Scalar.indexCast v7
  let c0_4 : Index := 0#32
  ![0, v10.toNat, 0]
def k1_off2 (k1_t1 : Fin k1_t1_loop.trips) : Fin 3 → Nat :=
  let c0_5 : Index := 0#32
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let c128_i32_3 : BitVec 32 := 128#32
  let v8 : BitVec 32 := Scalar.muli v5 c128_i32_3
  let v9 : BitVec 32 := v8
  let v13 : Index := Scalar.indexCast v9
  let c0_6 : Index := 0#32
  ![0, v13.toNat, 0]
def k1_off3 (k1_t1 : Fin k1_t1_loop.trips) : Fin 4 → Nat :=
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let v21 : BitVec 32 := Scalar.subi arg7 v5
  let c0_i32_9 : BitVec 32 := 0#32
  let v22 : BitVec 32 := Scalar.subi v21 c0_i32_9
  let c0_i32_10 : BitVec 32 := 0#32
  let v23 : BitVec 32 := Scalar.addi v22 c0_i32_10
  let v24 : Index := Scalar.indexCast v23
  let c0_11 : Index := 0#32
  let c0_12 : Index := 0#32
  let c0_13 : Index := 0#32
  ![v24.toNat, 0, 0, 0]
def k1_off4 (k1_t1 : Fin k1_t1_loop.trips) : Fin 4 → Nat :=
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let v27 : BitVec 32 := Scalar.subi arg7 v5
  let c1_i32_14 : BitVec 32 := 1#32
  let v28 : BitVec 32 := Scalar.subi v27 c1_i32_14
  let c3_i32 : BitVec 32 := 3#32
  let c1_i32_15 : BitVec 32 := 1#32
  let v29 : BitVec 32 := Scalar.subi arg7 v5
  let v30 : BitVec 32 := Scalar.subi c1_i32_15 v29
  let v31 : BitVec 32 := Scalar.muli c3_i32 v30
  let v32 : BitVec 32 := Scalar.addi v28 v31
  let v33 : Index := Scalar.indexCast v32
  let c0_16 : Index := 0#32
  let c0_17 : Index := 0#32
  let c0_18 : Index := 0#32
  ![v33.toNat, 0, 0, 0]
def k1_off5 (k1_t1 : Fin k1_t1_loop.trips) : Fin 4 → Nat :=
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let v57 : BitVec 32 := Scalar.subi arg7 v5
  let c0_i32_26 : BitVec 32 := 0#32
  let v58 : BitVec 32 := Scalar.subi v57 c0_i32_26
  let c0_i32_27 : BitVec 32 := 0#32
  let v59 : BitVec 32 := Scalar.addi v58 c0_i32_27
  let v60 : Index := Scalar.indexCast v59
  let c1 : Index := 1#32
  let c0_28 : Index := 0#32
  let c0_29 : Index := 0#32
  ![v60.toNat, 1, 0, 0]
def k1_off6 (k1_t1 : Fin k1_t1_loop.trips) : Fin 4 → Nat :=
  let c0_i32 : BitVec 32 := 0#32
  let c1_i32 : BitVec 32 := 1#32
  let arg7 : BitVec 32 := Scf.iv c0_i32 c1_i32 k1_t1
  let c1_i32_1 : BitVec 32 := 1#32
  let v4 : BitVec 32 := Scalar.subi arg7 c1_i32_1
  let c0_i32_2 : BitVec 32 := 0#32
  let v5 : BitVec 32 := Scalar.maxsi v4 c0_i32_2
  let v63 : BitVec 32 := Scalar.subi arg7 v5
  let c1_i32_30 : BitVec 32 := 1#32
  let v64 : BitVec 32 := Scalar.subi v63 c1_i32_30
  let c3_i32_32 : BitVec 32 := 3#32
  let c1_i32_31 : BitVec 32 := 1#32
  let v65 : BitVec 32 := Scalar.subi arg7 v5
  let v66 : BitVec 32 := Scalar.subi c1_i32_31 v65
  let v67 : BitVec 32 := Scalar.muli c3_i32_32 v66
  let v68 : BitVec 32 := Scalar.addi v64 v67
  let v69 : Index := Scalar.indexCast v68
  let c1_33 : Index := 1#32
  let c0_34 : Index := 0#32
  let c0_35 : Index := 0#32
  ![v69.toNat, 1, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x4096x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x2x128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S32768x128 : Shape := ⟨2, ![32768, 128]⟩
abbrev S32x16 : Shape := ⟨2, ![32, 16]⟩
abbrev S8x4096x2x64 : Shape := ⟨4, ![8, 4096, 2, 64]⟩
abbrev S32x2 : Shape := ⟨2, ![32, 2]⟩
abbrev S2x32 : Shape := ⟨2, ![2, 32]⟩
abbrev S8x4096x1x2x64 : Shape := ⟨5, ![8, 4096, 1, 2, 64]⟩
abbrev S8x1x2x4096x64 : Shape := ⟨5, ![8, 1, 2, 4096, 64]⟩
abbrev S_ : Shape := ⟨0, ![]⟩
abbrev S8x1x2x32x128x64 : Shape := ⟨6, ![8, 1, 2, 32, 128, 64]⟩
abbrev S8x1x2x4224x64 : Shape := ⟨5, ![8, 1, 2, 4224, 64]⟩
abbrev S8x1x2x32x256x64 : Shape := ⟨6, ![8, 1, 2, 32, 256, 64]⟩
abbrev S128 : Shape := ⟨1, ![128]⟩
abbrev S256 : Shape := ⟨1, ![256]⟩
abbrev S128x1 : Shape := ⟨2, ![128, 1]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S128x256x1 : Shape := ⟨3, ![128, 256, 1]⟩
abbrev S2x128x256 : Shape := ⟨3, ![2, 128, 256]⟩
abbrev S8x1x2x32x128x256 : Shape := ⟨6, ![8, 1, 2, 32, 128, 256]⟩
abbrev S1x1x2x1x128x256 : Shape := ⟨6, ![1, 1, 2, 1, 128, 256]⟩
abbrev S8x1x2x32x128 : Shape := ⟨5, ![8, 1, 2, 32, 128]⟩
abbrev S8x1x2x32x128x1 : Shape := ⟨6, ![8, 1, 2, 32, 128, 1]⟩
abbrev S8x1x2x4096 : Shape := ⟨4, ![8, 1, 2, 4096]⟩
abbrev S8x4096x1x2 : Shape := ⟨4, ![8, 4096, 1, 2]⟩
abbrev S8x4096x2 : Shape := ⟨3, ![8, 4096, 2]⟩
abbrev S8x4096x2x1 : Shape := ⟨4, ![8, 4096, 2, 1]⟩

abbrev nBuf : Space → Nat
  | .hbm => 157
  | .vmem => 0
  | .smem => 0
  | _ => 0

abbrev hbmTy0_0 (i : Nat) : BufTy := match i % 128 with
  | 0 => ⟨S32768x128, .bf16⟩
  | 1 => ⟨S32768x128, .bf16⟩
  | 2 => ⟨S32768x128, .bf16⟩
  | 3 => ⟨S32x16, .f32⟩
  | 4 => ⟨S32768x128, .f32⟩
  | 5 => ⟨S8x4096x2x64, .f32⟩
  | 6 => ⟨S32768x128, .f32⟩
  | 7 => ⟨S8x4096x2x64, .f32⟩
  | 8 => ⟨S32768x128, .f32⟩
  | 9 => ⟨S8x4096x2x64, .f32⟩
  | 10 => ⟨S32x2, .f32⟩
  | 11 => ⟨S2x32, .f32⟩
  | 12 => ⟨S8x4096x1x2x64, .f32⟩
  | 13 => ⟨S8x1x2x4096x64, .f32⟩
  | 14 => ⟨S_, .i32⟩
  | 15 => ⟨S_, .f32⟩
  | 16 => ⟨S8x1x2x4096x64, .f32⟩
  | 17 => ⟨S8x1x2x32x128x64, .f32⟩
  | 18 => ⟨S8x4096x1x2x64, .f32⟩
  | 19 => ⟨S8x1x2x4096x64, .f32⟩
  | 20 => ⟨S_, .i32⟩
  | 21 => ⟨S_, .f32⟩
  | 22 => ⟨S8x1x2x4224x64, .f32⟩
  | 23 => ⟨S8x1x2x4096x64, .f32⟩
  | 24 => ⟨S8x1x2x32x128x64, .f32⟩
  | 25 => ⟨S8x1x2x4096x64, .f32⟩
  | 26 => ⟨S8x1x2x32x128x64, .f32⟩
  | 27 => ⟨S8x1x2x32x256x64, .f32⟩
  | 28 => ⟨S8x4096x1x2x64, .f32⟩
  | 29 => ⟨S8x1x2x4096x64, .f32⟩
  | 30 => ⟨S_, .i32⟩
  | 31 => ⟨S_, .f32⟩
  | 32 => ⟨S8x1x2x4224x64, .f32⟩
  | 33 => ⟨S8x1x2x4096x64, .f32⟩
  | 34 => ⟨S8x1x2x32x128x64, .f32⟩
  | 35 => ⟨S8x1x2x4096x64, .f32⟩
  | 36 => ⟨S8x1x2x32x128x64, .f32⟩
  | 37 => ⟨S8x1x2x32x256x64, .f32⟩
  | 38 => ⟨S128, .i32⟩
  | 39 => ⟨S256, .i32⟩
  | 40 => ⟨S128x1, .i32⟩
  | 41 => ⟨S_, .i32⟩
  | 42 => ⟨S128x1, .i32⟩
  | 43 => ⟨S128x1, .i32⟩
  | 44 => ⟨S1x256, .i32⟩
  | 45 => ⟨S128x256, .i32⟩
  | 46 => ⟨S128x256, .i32⟩
  | 47 => ⟨S128x256, .i32⟩
  | 48 => ⟨S32, .i32⟩
  | 49 => ⟨S32x1, .i32⟩
  | 50 => ⟨S_, .i32⟩
  | 51 => ⟨S32x1, .i32⟩
  | 52 => ⟨S32x1, .i32⟩
  | 53 => ⟨S_, .i32⟩
  | 54 => ⟨S32x1, .i32⟩
  | 55 => ⟨S32x1, .i32⟩
  | 56 => ⟨S1x256, .i32⟩
  | 57 => ⟨S32x256, .i32⟩
  | 58 => ⟨S32x256, .i32⟩
  | 59 => ⟨S32x256, .i32⟩
  | 60 => ⟨S_, .i32⟩
  | 61 => ⟨S128x256, .i32⟩
  | 62 => ⟨S128x256, .i1⟩
  | 63 => ⟨S_, .i32⟩
  | 64 => ⟨S128x256, .i32⟩
  | 65 => ⟨S128x256, .i1⟩
  | 66 => ⟨S128x256, .i1⟩
  | 67 => ⟨S1x128x256, .i1⟩
  | 68 => ⟨S_, .i32⟩
  | 69 => ⟨S32x256, .i32⟩
  | 70 => ⟨S32x256, .i1⟩
  | 71 => ⟨S32x1x256, .i1⟩
  | 72 => ⟨S32x128x256, .i1⟩
  | 73 => ⟨S32x128x256, .i1⟩
  | 74 => ⟨S32x128x256, .i1⟩
  | 75 => ⟨S_, .i32⟩
  | 76 => ⟨S128x256, .i32⟩
  | 77 => ⟨S128x256, .i32⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S128x256, .f32⟩
  | 85 => ⟨S_, .f32⟩
  | 86 => ⟨S128x256, .f32⟩
  | 87 => ⟨S128x256, .f32⟩
  | 88 => ⟨S128x256, .f32⟩
  | 89 => ⟨S_, .f32⟩
  | 90 => ⟨S128x256, .f32⟩
  | 91 => ⟨S128x256, .f32⟩
  | 92 => ⟨S_, .f32⟩
  | 93 => ⟨S128x256, .f32⟩
  | 94 => ⟨S128x256, .f32⟩
  | 95 => ⟨S128x256, .i32⟩
  | 96 => ⟨S_, .i32⟩
  | 97 => ⟨S128x256, .i32⟩
  | 98 => ⟨S128x256, .i32⟩
  | 99 => ⟨S_, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S128x256, .i32⟩
  | 106 => ⟨S_, .i32⟩
  | 107 => ⟨S128x256, .i32⟩
  | 108 => ⟨S128x256, .i1⟩
  | 109 => ⟨S_, .i32⟩
  | 110 => ⟨S128x256, .i32⟩
  | 111 => ⟨S128x256, .i32⟩
  | 112 => ⟨S128x256, .i32⟩
  | 113 => ⟨S128x256x1, .i32⟩
  | 114 => ⟨S2x128x256, .f32⟩
  | 115 => ⟨S8x1x2x32x128x256, .f32⟩
  | 116 => ⟨S1x1x2x1x128x256, .f32⟩
  | 117 => ⟨S8x1x2x32x128x256, .f32⟩
  | 118 => ⟨S8x1x2x32x128x256, .f32⟩
  | 119 => ⟨S_, .f32⟩
  | 120 => ⟨S_, .f32⟩
  | 121 => ⟨S8x1x2x32x128x256, .i1⟩
  | 122 => ⟨S8x1x2x32x128x256, .f32⟩
  | 123 => ⟨S8x1x2x32x128x256, .f32⟩
  | 124 => ⟨S_, .f32⟩
  | 125 => ⟨S8x1x2x32x128, .f32⟩
  | 126 => ⟨S8x1x2x32x128x1, .f32⟩
  | 127 => ⟨S8x1x2x32x128x256, .f32⟩
  | _ => ⟨S32768x128, .bf16⟩

abbrev hbmTy0_1 (i : Nat) : BufTy := match i % 128 with
  | 0 => ⟨S8x1x2x32x128x256, .f32⟩
  | 1 => ⟨S8x1x2x32x128x256, .f32⟩
  | 2 => ⟨S_, .f32⟩
  | 3 => ⟨S_, .f32⟩
  | 4 => ⟨S8x1x2x32x128x256, .i1⟩
  | 5 => ⟨S8x1x2x32x128x256, .f32⟩
  | 6 => ⟨S8x1x2x32x128x256, .f32⟩
  | 7 => ⟨S_, .f32⟩
  | 8 => ⟨S8x1x2x32x128, .f32⟩
  | 9 => ⟨S8x1x2x32x128x1, .f32⟩
  | 10 => ⟨S_, .f32⟩
  | 11 => ⟨S8x1x2x32x128x1, .f32⟩
  | 12 => ⟨S8x1x2x32x128x1, .f32⟩
  | 13 => ⟨S8x1x2x32x128x256, .f32⟩
  | 14 => ⟨S8x1x2x32x128x256, .f32⟩
  | 15 => ⟨S8x1x2x32x128x1, .f32⟩
  | 16 => ⟨S8x1x2x32x128x1, .f32⟩
  | 17 => ⟨S8x1x2x32x128, .f32⟩
  | 18 => ⟨S8x1x2x32x128x64, .f32⟩
  | 19 => ⟨S8x1x2x4096x64, .f32⟩
  | 20 => ⟨S8x4096x1x2x64, .f32⟩
  | 21 => ⟨S8x4096x2x64, .f32⟩
  | 22 => ⟨S8x1x2x4096, .f32⟩
  | 23 => ⟨S8x4096x1x2, .f32⟩
  | 24 => ⟨S8x4096x2, .f32⟩
  | 25 => ⟨S8x4096x2x1, .f32⟩
  | 26 => ⟨S8x4096x2x64, .f32⟩
  | 27 => ⟨S32768x128, .f32⟩
  | 28 => ⟨S32768x128, .f32⟩
  | _ => ⟨S32768x128, .bf16⟩

abbrev hbmTy (i : Nat) : BufTy := match i / 128 with
  | 0 => hbmTy0_0 i
  | 1 => hbmTy0_1 i
  | _ => ⟨S32768x128, .bf16⟩

abbrev bufTy : (tb : Table) → Fin (tcTables nBuf tb) → BufTy
  | .hbm, ⟨i, _⟩ => hbmTy i
  | _, _ => ⟨S32768x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_1 : Ref sig .tc := ⟨.hbm, 30, rfl⟩
abbrev main_call2_v0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c_3 : Ref sig .tc := ⟨.hbm, 50, rfl⟩
abbrev main_v39 : Ref sig .tc := ⟨.hbm, 51, rfl⟩
abbrev main_v40 : Ref sig .tc := ⟨.hbm, 52, rfl⟩
abbrev main_c_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_8 : Ref sig .tc := ⟨.hbm, 75, rfl⟩
abbrev main_v59 : Ref sig .tc := ⟨.hbm, 76, rfl⟩
abbrev main_v60 : Ref sig .tc := ⟨.hbm, 77, rfl⟩
abbrev main_c_9 : Ref sig .tc := ⟨.hbm, 78, rfl⟩
abbrev main_v61 : Ref sig .tc := ⟨.hbm, 79, rfl⟩
abbrev main_v62 : Ref sig .tc := ⟨.hbm, 80, rfl⟩
abbrev main_c_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_11 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_c_13 : Ref sig .tc := ⟨.hbm, 96, rfl⟩
abbrev main_v74 : Ref sig .tc := ⟨.hbm, 97, rfl⟩
abbrev main_v75 : Ref sig .tc := ⟨.hbm, 98, rfl⟩
abbrev main_c_14 : Ref sig .tc := ⟨.hbm, 99, rfl⟩
abbrev main_v76 : Ref sig .tc := ⟨.hbm, 100, rfl⟩
abbrev main_v77 : Ref sig .tc := ⟨.hbm, 101, rfl⟩
abbrev main_c_15 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_16 : Ref sig .tc := ⟨.hbm, 106, rfl⟩
abbrev main_v81 : Ref sig .tc := ⟨.hbm, 107, rfl⟩
abbrev main_v82 : Ref sig .tc := ⟨.hbm, 108, rfl⟩
abbrev main_c_17 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_18 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v92 : Ref sig .tc := ⟨.hbm, 123, rfl⟩
abbrev main_cst_19 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_20 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩

abbrev nD : Nat := 1
abbrev τ : Topo := Topo.v7x

variable {F : FTy → Type} [FloatOps F]
-- ==== Ffn.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024x2816, .bf16⟩
  | .hbm, ⟨6, _⟩ => ⟨S1024x2816, .bf16⟩
  | .hbm, ⟨7, _⟩ => ⟨S2816x1024, .bf16⟩
  | .hbm, ⟨8, _⟩ => ⟨S1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 38
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2816, .f32⟩
  | .hbm, ⟨22, _⟩ => ⟨S32768x2816, .f32⟩
  | .hbm, ⟨23, _⟩ => ⟨S32768x2816, .f32⟩
  | .hbm, ⟨24, _⟩ => ⟨S_, .f32⟩
  | .hbm, ⟨25, _⟩ => ⟨S32768x2816, .f32⟩
  | .hbm, ⟨26, _⟩ => ⟨S32768x2816, .f32⟩
  | .hbm, ⟨27, _⟩ => ⟨S_, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x1024, .f32⟩
  | .hbm, ⟨34, _⟩ => ⟨S_, .f32⟩
  | .hbm, ⟨35, _⟩ => ⟨S32768x1024, .f32⟩
  | .hbm, ⟨36, _⟩ => ⟨S32768x1024, .f32⟩
  | .hbm, ⟨37, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== FfnLast.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnLastReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 55
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1, .f32⟩
  | .hbm, ⟨50, _⟩ => ⟨S32768x1024, .f32⟩
  | .hbm, ⟨51, _⟩ => ⟨S32768x1024, .f32⟩
  | .hbm, ⟨52, _⟩ => ⟨S1x1024, .f32⟩
  | .hbm, ⟨53, _⟩ => ⟨S32768x1024, .f32⟩
  | .hbm, ⟨54, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Mix.lean ====
abbrev S32768x1024 : Shape := ⟨2, ![32768, 1024]⟩
abbrev S1024 : Shape := ⟨1, ![1024]⟩
abbrev S1024x6162 : Shape := ⟨2, ![1024, 6162]⟩
abbrev S32768x512 : Shape := ⟨2, ![32768, 512]⟩
abbrev S32768x256 : Shape := ⟨2, ![32768, 256]⟩
abbrev S32768x128 : Shape := ⟨2, ![32768, 128]⟩
abbrev S8192x512 : Shape := ⟨2, ![8192, 512]⟩
abbrev S2048x2048 : Shape := ⟨2, ![2048, 2048]⟩
abbrev S384x1024 : Shape := ⟨2, ![384, 1024]⟩
abbrev S256x1024 : Shape := ⟨2, ![256, 1024]⟩
abbrev S128x1024 : Shape := ⟨2, ![128, 1024]⟩
abbrev S1024x1024 : Shape := ⟨2, ![1024, 1024]⟩
abbrev S1024x3072 : Shape := ⟨2, ![1024, 3072]⟩
abbrev S2x192x1024 : Shape := ⟨3, ![2, 192, 1024]⟩
abbrev S_ : Shape := ⟨0, ![]⟩
abbrev S2x256x1024 : Shape := ⟨3, ![2, 256, 1024]⟩
abbrev S512x1024 : Shape := ⟨2, ![512, 1024]⟩
abbrev S2x128x1024 : Shape := ⟨3, ![2, 128, 1024]⟩
abbrev S1x1024 : Shape := ⟨2, ![1, 1024]⟩
abbrev S1024x512 : Shape := ⟨2, ![1024, 512]⟩
abbrev S1024x256 : Shape := ⟨2, ![1024, 256]⟩
abbrev S1024x128 : Shape := ⟨2, ![1024, 128]⟩
abbrev S256x512 : Shape := ⟨2, ![256, 512]⟩
abbrev S64x2048 : Shape := ⟨2, ![64, 2048]⟩
abbrev S1024x1 : Shape := ⟨2, ![1024, 1]⟩
abbrev S256x128 : Shape := ⟨2, ![256, 128]⟩
abbrev S64x128 : Shape := ⟨2, ![64, 128]⟩

abbrev nBuf : Space → Nat
  | .hbm => 33
  | .vmem => 32
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6162, .f32⟩
  | .hbm, ⟨3, _⟩ => ⟨S32768x512, .bf16⟩
  | .hbm, ⟨4, _⟩ => ⟨S32768x256, .bf16⟩
  | .hbm, ⟨5, _⟩ => ⟨S32768x128, .f32⟩
  | .hbm, ⟨6, _⟩ => ⟨S32768x128, .f32⟩
  | .hbm, ⟨7, _⟩ => ⟨S8192x512, .f32⟩
  | .hbm, ⟨8, _⟩ => ⟨S8192x512, .f32⟩
  | .hbm, ⟨9, _⟩ => ⟨S2048x2048, .f32⟩
  | .hbm, ⟨10, _⟩ => ⟨S2048x2048, .f32⟩
  | .hbm, ⟨11, _⟩ => ⟨S384x1024, .f32⟩
  | .hbm, ⟨12, _⟩ => ⟨S256x1024, .f32⟩
  | .hbm, ⟨13, _⟩ => ⟨S128x1024, .f32⟩
  | .hbm, ⟨14, _⟩ => ⟨S1024x1024, .f32⟩
  | .hbm, ⟨15, _⟩ => ⟨S1024x3072, .f32⟩
  | .hbm, ⟨16, _⟩ => ⟨S1024x3072, .bf16⟩
  | .hbm, ⟨17, _⟩ => ⟨S2x192x1024, .f32⟩
  | .hbm, ⟨18, _⟩ => ⟨S_, .i32⟩
  | .hbm, ⟨19, _⟩ => ⟨S_, .f32⟩
  | .hbm, ⟨20, _⟩ => ⟨S2x256x1024, .f32⟩
  | .hbm, ⟨21, _⟩ => ⟨S512x1024, .f32⟩
  | .hbm, ⟨22, _⟩ => ⟨S512x1024, .bf16⟩
  | .hbm, ⟨23, _⟩ => ⟨S2x128x1024, .f32⟩
  | .hbm, ⟨24, _⟩ => ⟨S_, .i32⟩
  | .hbm, ⟨25, _⟩ => ⟨S_, .f32⟩
  | .hbm, ⟨26, _⟩ => ⟨S2x128x1024, .f32⟩
  | .hbm, ⟨27, _⟩ => ⟨S256x1024, .f32⟩
  | .hbm, ⟨28, _⟩ => ⟨S256x1024, .bf16⟩
  | .hbm, ⟨29, _⟩ => ⟨S128x1024, .bf16⟩
  | .hbm, ⟨30, _⟩ => ⟨S1024x1024, .bf16⟩
  | .hbm, ⟨31, _⟩ => ⟨S1x1024, .f32⟩
  | .hbm, ⟨32, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x256, .bf16⟩
  | .local _ .vmem, ⟨6, _⟩ => ⟨S1024x256, .bf16⟩
  | .local _ .vmem, ⟨7, _⟩ => ⟨S1024x128, .f32⟩
  | .local _ .vmem, ⟨8, _⟩ => ⟨S1024x128, .f32⟩
  | .local _ .vmem, ⟨9, _⟩ => ⟨S256x512, .f32⟩
  | .local _ .vmem, ⟨10, _⟩ => ⟨S256x512, .f32⟩
  | .local _ .vmem, ⟨11, _⟩ => ⟨S64x2048, .f32⟩
  | .local _ .vmem, ⟨12, _⟩ => ⟨S64x2048, .f32⟩
  | .local _ .vmem, ⟨13, _⟩ => ⟨S1024x128, .f32⟩
  | .local _ .vmem, ⟨14, _⟩ => ⟨S1024x128, .f32⟩
  | .local _ .vmem, ⟨15, _⟩ => ⟨S256x512, .f32⟩
  | .local _ .vmem, ⟨16, _⟩ => ⟨S256x512, .f32⟩
  | .local _ .vmem, ⟨17, _⟩ => ⟨S64x2048, .f32⟩
  | .local _ .vmem, ⟨18, _⟩ => ⟨S64x2048, .f32⟩
  | .local _ .vmem, ⟨19, _⟩ => ⟨S1024x3072, .bf16⟩
  | .local _ .vmem, ⟨20, _⟩ => ⟨S512x1024, .bf16⟩
  | .local _ .vmem, ⟨21, _⟩ => ⟨S256x1024, .bf16⟩
  | .local _ .vmem, ⟨22, _⟩ => ⟨S128x1024, .bf16⟩
  | .local _ .vmem, ⟨23, _⟩ => ⟨S1024x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x128, .f32⟩
  | .local _ .vmem, ⟨30, _⟩ => ⟨S1024x128, .f32⟩
  | .local _ .vmem, ⟨31, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x3072 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== MixReferenceIdeal.lean ====
abbrev S32768x1024 : Shape := ⟨2, ![32768, 1024]⟩
abbrev S1024 : Shape := ⟨1, ![1024]⟩
abbrev S1024x6162 : Shape := ⟨2, ![1024, 6162]⟩
abbrev S32768x512 : Shape := ⟨2, ![32768, 512]⟩
abbrev S32768x256 : Shape := ⟨2, ![32768, 256]⟩
abbrev S32768x128 : Shape := ⟨2, ![32768, 128]⟩
abbrev S8192x512 : Shape := ⟨2, ![8192, 512]⟩
abbrev S2048x2048 : Shape := ⟨2, ![2048, 2048]⟩
abbrev S384x1024 : Shape := ⟨2, ![384, 1024]⟩
abbrev S256x1024 : Shape := ⟨2, ![256, 1024]⟩
abbrev S128x1024 : Shape := ⟨2, ![128, 1024]⟩
abbrev S1024x1024 : Shape := ⟨2, ![1024, 1024]⟩
abbrev S32768x2x256 : Shape := ⟨3, ![32768, 2, 256]⟩
abbrev S32768x2x192 : Shape := ⟨3, ![32768, 2, 192]⟩
abbrev S32768x384 : Shape := ⟨2, ![32768, 384]⟩
abbrev S1x32768x128 : Shape := ⟨3, ![1, 32768, 128]⟩
abbrev S3x32768x128 : Shape := ⟨3, ![3, 32768, 128]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1024x3072 : Shape := ⟨2, ![1024, 3072]⟩
abbrev S32768x3072 : Shape := ⟨2, ![32768, 3072]⟩
abbrev S32768x3x1024 : Shape := ⟨3, ![32768, 3, 1024]⟩
abbrev S32768x1x1024 : Shape := ⟨3, ![32768, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6162, .f32⟩
  | .hbm, ⟨3, _⟩ => ⟨S32768x512, .bf16⟩
  | .hbm, ⟨4, _⟩ => ⟨S32768x256, .bf16⟩
  | .hbm, ⟨5, _⟩ => ⟨S32768x128, .f32⟩
  | .hbm, ⟨6, _⟩ => ⟨S32768x128, .f32⟩
  | .hbm, ⟨7, _⟩ => ⟨S8192x512, .f32⟩
  | .hbm, ⟨8, _⟩ => ⟨S8192x512, .f32⟩
  | .hbm, ⟨9, _⟩ => ⟨S2048x2048, .f32⟩
  | .hbm, ⟨10, _⟩ => ⟨S2048x2048, .f32⟩
  | .hbm, ⟨11, _⟩ => ⟨S384x1024, .f32⟩
  | .hbm, ⟨12, _⟩ => ⟨S256x1024, .f32⟩
  | .hbm, ⟨13, _⟩ => ⟨S128x1024, .f32⟩
  | .hbm, ⟨14, _⟩ => ⟨S1024x1024, .f32⟩
  | .hbm, ⟨15, _⟩ => ⟨S32768x512, .f32⟩
  | .hbm, ⟨16, _⟩ => ⟨S32768x2x256, .f32⟩
  | .hbm, ⟨17, _⟩ => ⟨S32768x2x192, .f32⟩
  | .hbm, ⟨18, _⟩ => ⟨S32768x384, .f32⟩
  | .hbm, ⟨19, _⟩ => ⟨S32768x256, .f32⟩
  | .hbm, ⟨20, _⟩ => ⟨S32768x128, .f32⟩
  | .hbm, ⟨21, _⟩ => ⟨S32768x128, .f32⟩
  | .hbm, ⟨22, _⟩ => ⟨S1x32768x128, .f32⟩
  | .hbm, ⟨23, _⟩ => ⟨S1x32768x128, .f32⟩
  | .hbm, ⟨24, _⟩ => ⟨S1x32768x128, .f32⟩
  | .hbm, ⟨25, _⟩ => ⟨S3x32768x128, .f32⟩
  | .hbm, ⟨26, _⟩ => ⟨S_, .f32⟩
  | .hbm, ⟨27, _⟩ => ⟨S32768x128, .f32⟩
  | .hbm, ⟨28, _⟩ => ⟨S_, .f32⟩
  | .hbm, ⟨29, _⟩ => ⟨S32768x128, .f32⟩
  | .hbm, ⟨30, _⟩ => ⟨S32768x128, .f32⟩
  | .hbm, ⟨31, _⟩ => ⟨S1x32768x128, .f32⟩
  | .hbm, ⟨32, _⟩ => ⟨S3x32768x128, .f32⟩
  | .hbm, ⟨33, _⟩ => ⟨S3x32768x128, .f32⟩
  | .hbm, ⟨34, _⟩ => ⟨S3x32768x128, .f32⟩
  | .hbm, ⟨35, _⟩ => ⟨S_, .f32⟩
  | .hbm, ⟨36, _⟩ => ⟨S32768x128, .f32⟩
  | .hbm, ⟨37, _⟩ => ⟨S1x32768x128, .f32⟩
  | .hbm, ⟨38, _⟩ => ⟨S3x32768x128, .f32⟩
  | .hbm, ⟨39, _⟩ => ⟨S3x32768x128, .f32⟩
  | .hbm, ⟨40, _⟩ => ⟨S32768x128, .f32⟩
  | .hbm, ⟨41, _⟩ => ⟨S32768x128, .f32⟩
  | .hbm, ⟨42, _⟩ => ⟨S1x32768x128, .f32⟩
  | .hbm, ⟨43, _⟩ => ⟨S1x32768x128, .f32⟩
  | .hbm, ⟨44, _⟩ => ⟨S1x32768x128, .f32⟩
  | .hbm, ⟨45, _⟩ => ⟨S3x32768x128, .f32⟩
  | .hbm, ⟨46, _⟩ => ⟨S3x32768x128, .f32⟩
  | .hbm, ⟨47, _⟩ => ⟨S_, .f32⟩
  | .hbm, ⟨48, _⟩ => ⟨S32768x128, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1024x3072, .f32⟩
  | .hbm, ⟨66, _⟩ => ⟨S32768x3072, .f32⟩
  | .hbm, ⟨67, _⟩ => ⟨S32768x3072, .f32⟩
  | .hbm, ⟨68, _⟩ => ⟨S32768x3072, .f32⟩
  | .hbm, ⟨69, _⟩ => ⟨S_, .f32⟩
  | .hbm, ⟨70, _⟩ => ⟨S32768x3072, .f32⟩
  | .hbm, ⟨71, _⟩ => ⟨S32768x3072, .f32⟩
  | .hbm, ⟨72, _⟩ => ⟨S_, .f32⟩
  | .hbm, ⟨73, _⟩ => ⟨S32768x3072, .f32⟩
  | .hbm, ⟨74, _⟩ => ⟨S32768x3072, .f32⟩
  | .hbm, ⟨75, _⟩ => ⟨S32768x3x1024, .f32⟩
  | .hbm, ⟨76, _⟩ => ⟨S32768x1x1024, .f32⟩
  | .hbm, ⟨77, _⟩ => ⟨S32768x1024, .f32⟩
  | .hbm, ⟨78, _⟩ => ⟨S32768x1024, .f32⟩
  | .hbm, ⟨79, _⟩ => ⟨S32768x1024, .f32⟩
  | .hbm, ⟨80, _⟩ => ⟨S32768x1x1024, .f32⟩
  | .hbm, ⟨81, _⟩ => ⟨S32768x1024, .f32⟩
  | .hbm, ⟨82, _⟩ => ⟨S32768x1024, .f32⟩
  | .hbm, ⟨83, _⟩ => ⟨S32768x1024, .f32⟩
  | .hbm, ⟨84, _⟩ => ⟨S32768x1024, .f32⟩
  | .hbm, ⟨85, _⟩ => ⟨S32768x1x1024, .f32⟩
  | .hbm, ⟨86, _⟩ => ⟨S32768x1024, .f32⟩
  | .hbm, ⟨87, _⟩ => ⟨S32768x1024, .f32⟩
  | .hbm, ⟨88, _⟩ => ⟨S32768x1024, .f32⟩
  | .hbm, ⟨89, _⟩ => ⟨S32768x1024, .f32⟩
  | .hbm, ⟨90, _⟩ => ⟨S32768x1024, .f32⟩
  | .hbm, ⟨91, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_2 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_cst_4 : Ref sig .tc := ⟨.hbm, 53, rfl⟩
abbrev main_v33 : Ref sig .tc := ⟨.hbm, 54, rfl⟩
abbrev main_v34 : Ref sig .tc := ⟨.hbm, 55, rfl⟩
abbrev main_cst_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_cst_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]
-- ==== Compress.lean ====
abbrev S2048x2048 : Shape := ⟨2, ![2048, 2048]⟩
abbrev S32x64 : Shape := ⟨2, ![32, 64]⟩
abbrev S2048x256 : Shape := ⟨2, ![2048, 256]⟩
abbrev S256x64 : Shape := ⟨2, ![256, 64]⟩
abbrev S2x16x64x256 : Shape := ⟨4, ![2, 16, 64, 256]⟩
abbrev S_ : Shape := ⟨0, ![]⟩
abbrev S2x16x64x512 : Shape := ⟨4, ![2, 16, 64, 512]⟩
abbrev S2x16x1x64x512 : Shape := ⟨5, ![2, 16, 1, 64, 512]⟩
abbrev S2x16x2x64x512 : Shape := ⟨5, ![2, 16, 2, 64, 512]⟩
abbrev S2x2048x512 : Shape := ⟨3, ![2, 2048, 512]⟩
abbrev S2x16x1x64 : Shape := ⟨4, ![2, 16, 1, 64]⟩
abbrev S2x16x2x64 : Shape := ⟨4, ![2, 16, 2, 64]⟩
abbrev S2x2048 : Shape := ⟨2, ![2, 2048]⟩
abbrev S256x128 : Shape := ⟨2, ![256, 128]⟩
abbrev S8x256x2048 : Shape := ⟨3, ![8, 256, 2048]⟩
abbrev S8x2x256x128 : Shape := ⟨4, ![8, 2, 256, 128]⟩
abbrev S1x256x2048 : Shape := ⟨3, ![1, 256, 2048]⟩
abbrev S1x2x256x128 : Shape := ⟨4, ![1, 2, 256, 128]⟩
abbrev S256x2048 : Shape := ⟨2, ![256, 2048]⟩
abbrev S1x2048 : Shape := ⟨2, ![1, 2048]⟩
abbrev S1x2048x512 : Shape := ⟨3, ![1, 2048, 512]⟩
abbrev S2048x512 : Shape := ⟨2, ![2048, 512]⟩
abbrev S256x512 : Shape := ⟨2, ![256, 512]⟩
abbrev S256x256 : Shape := ⟨2, ![256, 256]⟩
abbrev S1x1x256x128 : Shape := ⟨4, ![1, 1, 256, 128]⟩

abbrev nBuf : Space → Nat
  | .hbm => 46
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S2x16x64x256, .f32⟩
  | .hbm, ⟨9, _⟩ => ⟨S_, .f32⟩
  | .hbm, ⟨10, _⟩ => ⟨S2x16x64x256, .f32⟩
  | .hbm, ⟨11, _⟩ => ⟨S2x16x64x512, .f32⟩
  | .hbm, ⟨12, _⟩ => ⟨S2x16x64x512, .f32⟩
  | .hbm, ⟨13, _⟩ => ⟨S2x16x1x64x512, .f32⟩
  | .hbm, ⟨14, _⟩ => ⟨S2x16x1x64x512, .f32⟩
  | .hbm, ⟨15, _⟩ => ⟨S2x16x2x64x512, .f32⟩
  | .hbm, ⟨16, _⟩ => ⟨S2x2048x512, .f32⟩
  | .hbm, ⟨17, _⟩ => ⟨S2x16x1x64, .f32⟩
  | .hbm, ⟨18, _⟩ => ⟨S2x16x2x64, .f32⟩
  | .hbm, ⟨19, _⟩ => ⟨S2x2048, .f32⟩
  | .hbm, ⟨20, _⟩ => ⟨S_, .f32⟩
  | .hbm, ⟨21, _⟩ => ⟨S256x64, .f32⟩
  | .hbm, ⟨22, _⟩ => ⟨S256x128, .f32⟩
  | .hbm, ⟨23, _⟩ => ⟨S2x2048x512, .bf16⟩
  | .hbm, ⟨24, _⟩ => ⟨S256x128, .bf16⟩
  | .hbm, ⟨25, _⟩ => ⟨S2x16x64x256, .f32⟩
  | .hbm, ⟨26, _⟩ => ⟨S_, .f32⟩
  | .hbm, ⟨27, _⟩ => ⟨S2x16x64x256, .f32⟩
  | .hbm, ⟨28, _⟩ => ⟨S2x16x64x512, .f32⟩
  | .hbm, ⟨29, _⟩ => ⟨S2x16x64x512, .f32⟩
  | .hbm, ⟨30, _⟩ => ⟨S2x16x1x64x512, .f32⟩
  | .hbm, ⟨31, _⟩ => ⟨S2x16x1x64x512, .f32⟩
  | .hbm, ⟨32, _⟩ => ⟨S2x16x2x64x512, .f32⟩
  | .hbm, ⟨33, _⟩ => ⟨S2x2048x512, .f32⟩
  | .hbm, ⟨34, _⟩ => ⟨S2x16x1x64, .f32⟩
  | .hbm, ⟨35, _⟩ => ⟨S2x16x2x64, .f32⟩
  | .hbm, ⟨36, _⟩ => ⟨S2x2048, .f32⟩
  | .hbm, ⟨37, _⟩ => ⟨S_, .f32⟩
  | .hbm, ⟨38, _⟩ => ⟨S256x64, .f32⟩
  | .hbm, ⟨39, _⟩ => ⟨S256x128, .f32⟩
  | .hbm, ⟨40, _⟩ => ⟨S2x2048x512, .bf16⟩
  | .hbm, ⟨41, _⟩ => ⟨S256x128, .bf16⟩
  | .hbm, ⟨42, _⟩ => ⟨S8x256x2048, .f32⟩
  | .hbm, ⟨43, _⟩ => ⟨S8x256x2048, .f32⟩
  | .hbm, ⟨44, _⟩ => ⟨S8x2x256x128, .bf16⟩
  | .hbm, ⟨45, _⟩ => ⟨S8x2x256x128, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S2x2048, .f32⟩
  | .local _ .vmem, ⟨5, _⟩ => ⟨S2x2048, .f32⟩
  | .local _ .vmem, ⟨6, _⟩ => ⟨S2x2048x512, .bf16⟩
  | .local _ .vmem, ⟨7, _⟩ => ⟨S2x2048x512, .bf16⟩
  | .local _ .vmem, ⟨8, _⟩ => ⟨S256x128, .bf16⟩
  | .local _ .vmem, ⟨9, _⟩ => ⟨S256x128, .bf16⟩
  | .local _ .vmem, ⟨10, _⟩ => ⟨S1x2x256x128, .bf16⟩
  | .local _ .vmem, ⟨11, _⟩ => ⟨S1x2x256x128, .bf16⟩
  | .local _ .vmem, ⟨12, _⟩ => ⟨S1x2x256x128, .bf16⟩
  | .local _ .vmem, ⟨13, _⟩ => ⟨S1x2x256x128, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CompressReferenceIdeal.lean ====
abbrev S2048x2048 : Shape := ⟨2, ![2048, 2048]⟩
abbrev S32x64 : Shape := ⟨2, ![32, 64]⟩
abbrev S2048x256 : Shape := ⟨2, ![2048, 256]⟩
abbrev S256x64 : Shape := ⟨2, ![256, 64]⟩
abbrev S8x256x16x2x64 : Shape := ⟨5, ![8, 256, 16, 2, 64]⟩
abbrev S8x255x16x2x64 : Shape := ⟨5, ![8, 255, 16, 2, 64]⟩
abbrev S8x1x16x2x64 : Shape := ⟨5, ![8, 1, 16, 2, 64]⟩
abbrev S8x256x32x2x64 : Shape := ⟨5, ![8, 256, 32, 2, 64]⟩
abbrev S1x1x32x1x64 : Shape := ⟨5, ![1, 1, 32, 1, 64]⟩
abbrev S8x2x256x32x64 : Shape := ⟨5, ![8, 2, 256, 32, 64]⟩
abbrev S8x2x256x2048 : Shape := ⟨4, ![8, 2, 256, 2048]⟩
abbrev S8x2x256x256 : Shape := ⟨4, ![8, 2, 256, 256]⟩
abbrev S_ : Shape := ⟨0, ![]⟩
abbrev S8x2x256x64 : Shape := ⟨4, ![8, 2, 256, 64]⟩
abbrev S8x2x256x128 : Shape := ⟨4, ![8, 2, 256, 128]⟩

abbrev nBuf : Space → Nat
  | .hbm => 74
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S8x256x16x2x64, .f32⟩
  | .hbm, ⟨9, _⟩ => ⟨S8x255x16x2x64, .f32⟩
  | .hbm, ⟨10, _⟩ => ⟨S8x1x16x2x64, .f32⟩
  | .hbm, ⟨11, _⟩ => ⟨S8x256x16x2x64, .f32⟩
  | .hbm, ⟨12, _⟩ => ⟨S8x256x32x2x64, .f32⟩
  | .hbm, ⟨13, _⟩ => ⟨S1x1x32x1x64, .f32⟩
  | .hbm, ⟨14, _⟩ => ⟨S8x256x32x2x64, .f32⟩
  | .hbm, ⟨15, _⟩ => ⟨S8x256x32x2x64, .f32⟩
  | .hbm, ⟨16, _⟩ => ⟨S8x2x256x32x64, .f32⟩
  | .hbm, ⟨17, _⟩ => ⟨S8x2x256x2048, .f32⟩
  | .hbm, ⟨18, _⟩ => ⟨S8x2x256x256, .f32⟩
  | .hbm, ⟨19, _⟩ => ⟨S8x2x256x256, .f32⟩
  | .hbm, ⟨20, _⟩ => ⟨S8x2x256x256, .f32⟩
  | .hbm, ⟨21, _⟩ => ⟨S_, .f32⟩
  | .hbm, ⟨22, _⟩ => ⟨S8x2x256x256, .f32⟩
  | .hbm, ⟨23, _⟩ => ⟨S8x2x256x256, .f32⟩
  | .hbm, ⟨24, _⟩ => ⟨S8x2x256x256, .f32⟩
  | .hbm, ⟨25, _⟩ => ⟨S_, .f32⟩
  | .hbm, ⟨26, _⟩ => ⟨S8x2x256x256, .f32⟩
  | .hbm, ⟨27, _⟩ => ⟨S8x2x256x256, .f32⟩
  | .hbm, ⟨28, _⟩ => ⟨S8x2x256x256, .f32⟩
  | .hbm, ⟨29, _⟩ => ⟨S_, .f32⟩
  | .hbm, ⟨30, _⟩ => ⟨S8x2x256x256, .f32⟩
  | .hbm, ⟨31, _⟩ => ⟨S8x2x256x256, .f32⟩
  | .hbm, ⟨32, _⟩ => ⟨S_, .f32⟩
  | .hbm, ⟨33, _⟩ => ⟨S8x2x256x256, .f32⟩
  | .hbm, ⟨34, _⟩ => ⟨S8x2x256x256, .f32⟩
  | .hbm, ⟨35, _⟩ => ⟨S8x2x256x256, .f32⟩
  | .hbm, ⟨36, _⟩ => ⟨S8x2x256x64, .f32⟩
  | .hbm, ⟨37, _⟩ => ⟨S_, .i32⟩
  | .hbm, ⟨38, _⟩ => ⟨S_, .f32⟩
  | .hbm, ⟨39, _⟩ => ⟨S8x2x256x128, .f32⟩
  | .hbm, ⟨40, _⟩ => ⟨S8x2x256x128, .bf16⟩
  | .hbm, ⟨41, _⟩ => ⟨S8x256x16x2x64, .f32⟩
  | .hbm, ⟨42, _⟩ => ⟨S8x255x16x2x64, .f32⟩
  | .hbm, ⟨43, _⟩ => ⟨S8x1x16x2x64, .f32⟩
  | .hbm, ⟨44, _⟩ => ⟨S8x256x16x2x64, .f32⟩
  | .hbm, ⟨45, _⟩ => ⟨S8x256x32x2x64, .f32⟩
  | .hbm, ⟨46, _⟩ => ⟨S1x1x32x1x64, .f32⟩
  | .hbm, ⟨47, _⟩ => ⟨S8x256x32x2x64, .f32⟩
  | .hbm, ⟨48, _⟩ => ⟨S8x256x32x2x64, .f32⟩
  | .hbm, ⟨49, _⟩ => ⟨S8x2x256x32x64, .f32⟩
  | .hbm, ⟨50, _⟩ => ⟨S8x2x256x2048, .f32⟩
  | .hbm, ⟨51, _⟩ => ⟨S8x2x256x256, .f32⟩
  | .hbm, ⟨52, _⟩ => ⟨S8x2x256x256, .f32⟩
  | .hbm, ⟨53, _⟩ => ⟨S8x2x256x256, .f32⟩
  | .hbm, ⟨54, _⟩ => ⟨S_, .f32⟩
  | .hbm, ⟨55, _⟩ => ⟨S8x2x256x256, .f32⟩
  | .hbm, ⟨56, _⟩ => ⟨S8x2x256x256, .f32⟩
  | .hbm, ⟨57, _⟩ => ⟨S8x2x256x256, .f32⟩
  | .hbm, ⟨58, _⟩ => ⟨S_, .f32⟩
  | .hbm, ⟨59, _⟩ => ⟨S8x2x256x256, .f32⟩
  | .hbm, ⟨60, _⟩ => ⟨S8x2x256x256, .f32⟩
  | .hbm, ⟨61, _⟩ => ⟨S8x2x256x256, .f32⟩
  | .hbm, ⟨62, _⟩ => ⟨S_, .f32⟩
  | .hbm, ⟨63, _⟩ => ⟨S8x2x256x256, .f32⟩
  | .hbm, ⟨64, _⟩ => ⟨S8x2x256x256, .f32⟩
  | .hbm, ⟨65, _⟩ => ⟨S_, .f32⟩
  | .hbm, ⟨66, _⟩ => ⟨S8x2x256x256, .f32⟩
  | .hbm, ⟨67, _⟩ => ⟨S8x2x256x256, .f32⟩
  | .hbm, ⟨68, _⟩ => ⟨S8x2x256x256, .f32⟩
  | .hbm, ⟨69, _⟩ => ⟨S8x2x256x64, .f32⟩
  | .hbm, ⟨70, _⟩ => ⟨S_, .i32⟩
  | .hbm, ⟨71, _⟩ => ⟨S_, .f32⟩
  | .hbm, ⟨72, _⟩ => ⟨S8x2x256x128, .f32⟩
  | .hbm, ⟨73, _⟩ => ⟨S8x2x256x128, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_call2_v0 : Ref sig .tc := ⟨.hbm, 42, rfl⟩
abbrev main_call2_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_4 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_5 : Ref sig .tc := ⟨.hbm, 62, rfl⟩
abbrev main_v42 : Ref sig .tc := ⟨.hbm, 63, rfl⟩
abbrev main_v43 : Ref sig .tc := ⟨.hbm, 64, rfl⟩
abbrev main_cst_6 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_7 : Ref sig .tc := ⟨.hbm, 70, rfl⟩
abbrev main_call3_v0 : Ref sig .tc := ⟨.hbm, 71, rfl⟩
abbrev main_v48 : Ref sig .tc := ⟨.hbm, 72, rfl⟩
abbrev main_v49 : Ref sig .tc := ⟨.hbm, 73, rfl⟩

abbrev nD : Nat := 1
abbrev τ : Topo := Topo.v7x

variable {F : FTy → Type} [FloatOps F]
-- ==== Proof.DilMath.lean ====
/- The arithmetic of one attention row over the extended reals: a softmax's sum divided before or after the weighting, and a row
   whose keys are listed in another order. -/
module

public import Idealize.ShloMosaic.Lib.Pointwise

@[expose] public section

set_option maxRecDepth 16384

noncomputable section

namespace DilMath

open Idealize.ShloMosaic

/-- The least value the row sum is held to. -/
def tiny : EReal := Ideal.ofBits .f32 0x0DA24260#32

/-- The row's maximum, from `⊥`. -/
def rowMax (S : Fin 256 → EReal) : EReal := Finset.univ.fold max ⊥ S

/-- The unnormalised weight of key `c`. -/
def weight (S : Fin 256 → EReal) (c : Fin 256) : EReal := Ideal.exp (S c - rowMax S)

/-- The row's normaliser. -/
def norm (S : Fin 256 → EReal) : EReal := max (∑ c, weight S c) tiny

theorem tiny_pos : ∃ r : ℝ, 0 < r ∧ tiny = (r : EReal) := by
  refine ⟨_, ?_, rfl⟩
  norm_num [Ideal.ofBits]
  rw [if_neg (by decide)]
  positivity

theorem le_rowMax (S : Fin 256 → EReal) (c : Fin 256) : S c ≤ rowMax S := by
  unfold rowMax
  rw [Finset.le_fold_max]
  exact Or.inr ⟨c, Finset.mem_univ c, le_rfl⟩

/-- The exponential of a value less a bound of it is a real of `[0, ∞)`. -/
theorem exp_sub_real (a b : EReal) (h : a ≤ b) : ∃ r : ℝ, 0 ≤ r ∧ Ideal.exp (a - b) = (r : EReal) := by
  induction b with
  | top => exact ⟨0, le_rfl, by rw [EReal.sub_top]; rfl⟩
  | bot =>
    rw [le_bot_iff] at h
    subst h
    exact ⟨0, le_rfl, rfl⟩
  | coe b =>
    induction a with
    | top => exact absurd h (by simp)
    | bot => exact ⟨0, le_rfl, by rw [EReal.bot_sub]; rfl⟩
    | coe a => exact ⟨Real.exp (a - b), (Real.exp_pos _).le, rfl⟩

theorem weight_real (S : Fin 256 → EReal) (c : Fin 256) : ∃ r : ℝ, 0 ≤ r ∧ weight S c = (r : EReal) :=
  exp_sub_real _ _ (le_rowMax S c)

theorem weight_bot (S : Fin 256 → EReal) (c : Fin 256) (h : S c = ⊥) : weight S c = 0 := by
  unfold weight
  rw [h, EReal.bot_sub]
  rfl

theorem sum_real {ι : Type*} (s : Finset ι) (f : ι → ℝ) : (∑ i ∈ s, (f i : EReal)) = ((∑ i ∈ s, f i : ℝ) : EReal) := by
  classical
  induction s using Finset.induction_on with
  | empty => simp
  | insert i s hi ih => rw [Finset.sum_insert hi, Finset.sum_insert hi, ih, EReal.coe_add]

theorem norm_real (S : Fin 256 → EReal) : ∃ r : ℝ, 0 < r ∧ norm S = (r : EReal) := by
  choose f hf using weight_real S
  obtain ⟨e, he, ht⟩ := tiny_pos
  refine ⟨max (∑ c, f c) e, lt_max_of_lt_right he, ?_⟩
  unfold norm
  rw [ht, Finset.sum_congr rfl fun c _ => (hf c).2, sum_real]
  rcases le_total (∑ c, f c) e with h | h
  · rw [max_eq_right h, max_eq_right (EReal.coe_le_coe_iff.2 h)]
  · rw [max_eq_left h, max_eq_left (EReal.coe_le_coe_iff.2 h)]

theorem sum_mul_real {ι : Type*} (s : Finset ι) (f : ι → EReal) (a : ℝ) (ha : 0 ≤ a) : (∑ i ∈ s, f i) * (a : EReal) = ∑ i ∈ s, f i * a := by
  classical
  induction s using Finset.induction_on with
  | empty => simp
  | insert i s hi ih =>
    rw [Finset.sum_insert hi, Finset.sum_insert hi, ← ih, mul_comm, EReal.left_distrib_of_nonneg_of_ne_top (EReal.coe_nonneg.2 ha) (EReal.coe_ne_top a),
      mul_comm, mul_comm (a : EReal)]

/-- Dividing the weighted sum is weighting by the divided weights. -/
theorem div_sum (S V : Fin 256 → EReal) :
    Ideal.div (∑ c, weight S c * V c) (norm S) = ∑ c, Ideal.div (weight S c) (norm S) * V c := by
  obtain ⟨r, hr, h⟩ := norm_real S
  have h0 : norm S ≠ 0 := by rw [h]; exact (EReal.coe_pos.2 hr).ne'
  simp only [Ideal.div, if_neg h0]
  rw [h, ← EReal.coe_inv, sum_mul_real _ _ _ (inv_nonneg.2 hr.le)]
  exact Finset.sum_congr rfl fun c _ => by ac_rfl

theorem div_zero_left (S : Fin 256 → EReal) : Ideal.div 0 (norm S) = 0 := by
  obtain ⟨r, hr, h⟩ := norm_real S
  have h0 : norm S ≠ 0 := by rw [h]; exact (EReal.coe_pos.2 hr).ne'
  simp only [Ideal.div, if_neg h0, zero_mul]

section Reorder
variable (σ : Equiv.Perm (Fin 256)) (S S' V V' : Fin 256 → EReal) (hS : ∀ c, S c = S' (σ c))
include hS

theorem rowMax_reorder : rowMax S = rowMax S' := by
  obtain rfl : S = S' ∘ σ := funext hS
  apply le_antisymm
  · unfold rowMax
    rw [Finset.fold_max_le]
    exact ⟨bot_le, fun c _ => le_rowMax S' (σ c)⟩
  · unfold rowMax
    rw [Finset.fold_max_le]
    refine ⟨bot_le, fun c _ => ?_⟩
    have := le_rowMax (S' ∘ σ) (σ.symm c)
    simpa [rowMax] using this

theorem weight_reorder (c : Fin 256) : weight S c = weight S' (σ c) := by
  unfold weight
  rw [rowMax_reorder σ S S' hS, hS]

theorem norm_reorder : norm S = norm S' := by
  unfold norm
  rw [← Equiv.sum_comp σ (weight S'), Finset.sum_congr rfl fun c _ => weight_reorder σ S S' hS c]

theorem out_reorder (hV : ∀ c, S c ≠ ⊥ → V c = V' (σ c)) :
    Ideal.div (∑ c, weight S c * V c) (norm S) = ∑ c, Ideal.div (weight S' c) (norm S') * V' c := by
  rw [div_sum, norm_reorder σ S S' hS, ← Equiv.sum_comp σ (fun c => Ideal.div (weight S' c) (norm S') * V' c)]
  refine Finset.sum_congr rfl fun c _ => ?_
  by_cases h : S c = ⊥
  · have h' : S' (σ c) = ⊥ := by rw [← hS, h]
    rw [weight_bot _ _ h, weight_bot _ _ h', div_zero_left, zero_mul, zero_mul]
  · rw [weight_reorder σ S S' hS, hV c h]

end Reorder

end DilMath

end
-- ==== Proof.DilTrip.lean ====
/- One block of the dilated attention call, read at an element. -/
module

public import proofs.«01_k».proof.Proof.Gen.KernelIdeal.Frame
public import proofs.«01_k».proof.Proof.DilMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Layer

open Cert.KernelIdeal Cert.KernelIdeal.Gen Idealize.ShloMosaic Idealize.ShloMosaic.TcCoe Idealize.SL.Sem

theorem lane_read (r l : Fin 128) : k1_pay1 (ix2 r l) = if l.val < 64 then 1#1 else 0#1 := by
  have h : k1_pay1 (ix2 r l) = IntOp.cmpi .slt (BitVec.ofNat 32 l.val) 64#32 := by
    pointwise [k1_pay1]
  rw [h]
  exact (by decide +kernel : ∀ l : Fin 128, IntOp.cmpi .slt (BitVec.ofNat 32 l.val) 64#32 = if l.val < 64 then 1#1 else 0#1) l

theorem lowest : Ideal.ofBits .f32 0xFF800000#32 = ⊥ := by
  have h : ((4286578688 : ℕ) >>> 23) % 256 = 255 := by decide
  norm_num [Ideal.ofBits, Ideal.ieee, h]
  decide

theorem half_zero : Ideal.ofBits .bf16 0x0000#16 = 0 := by
  norm_num [Ideal.ofBits, Ideal.ieee]

/-- A head's logits in one block: the head's lanes of the query row against those of the keys, plus the two bias tiles. -/
def tileLogit (h : Fin 2) (a : Vec Ideal S1x128x128 .bf16) (b : Vec Ideal S1x256x128 .bf16) (t1 t2 : Vec Ideal S1x1x128x128 .f32) (r : Fin 128)
    (c : Fin 256) : EReal :=
  (∑ e : Fin 64, a (ix3 0 r ⟨h.val * 64 + e.val, by omega⟩) * b (ix3 0 c ⟨h.val * 64 + e.val, by omega⟩))
    + (if hc : c.val < 128 then t1 (ix4 0 0 r ⟨c.val, hc⟩) else t2 (ix4 0 0 r ⟨c.val - 128, by omega⟩))

theorem low_lanes (f : Fin 128 → EReal) : (∑ d : Fin 128, if d.val < 64 then f d else 0) = ∑ e : Fin 64, f ⟨(0 : Fin 2).val * 64 + e.val, by omega⟩ := by
  rw [Fin.sum_univ_add (a := 64) (b := 64) (fun d : Fin (64 + 64) => if d.val < 64 then f d else 0)]
  have z : ∑ i : Fin 64, (if (Fin.natAdd 64 i : Fin (64 + 64)).val < 64 then f (Fin.natAdd 64 i) else 0) = 0 :=
    Finset.sum_eq_zero fun i _ => if_neg (by simp)
  rw [z, add_zero]
  refine Finset.sum_congr rfl fun i _ => ?_
  rw [if_pos (by simp)]
  exact congrArg f (Fin.ext (by simp [Nat.add_comm]))

theorem high_lanes (f : Fin 128 → EReal) : (∑ d : Fin 128, if d.val < 64 then 0 else f d) = ∑ e : Fin 64, f ⟨(1 : Fin 2).val * 64 + e.val, by omega⟩ := by
  rw [Fin.sum_univ_add (a := 64) (b := 64) (fun d : Fin (64 + 64) => if d.val < 64 then 0 else f d)]
  have z : ∑ i : Fin 64, (if (Fin.castAdd 64 i : Fin (64 + 64)).val < 64 then 0 else f (Fin.castAdd 64 i)) = 0 :=
    Finset.sum_eq_zero fun i _ => if_pos (by simp)
  rw [z, zero_add]
  refine Finset.sum_congr rfl fun i _ => ?_
  rw [if_neg (by simp)]
  exact congrArg f (Fin.ext (by simp [Nat.add_comm]))

variable (a : Vec Ideal S1x128x128 .bf16) (b w : Vec Ideal S1x256x128 .bf16) (t1 t2 t3 t4 : Vec Ideal S1x1x128x128 .f32)
  (r l : Fin 128) (c : Fin 256) (M : IVec S128x128 1) (L : FVec Ideal S128x256 .f32) (V : FVec Ideal S256x128 .bf16)

theorem pay8_raw : k1_pay8 (F := Ideal) M a b t1 t2 (ix2 r c)
    = (∑ d : Fin 128, Scalar.select (M (ix2 r d)) (a (ix3 0 r d)) (Ideal.ofBits .bf16 0x0000#16) * b (ix3 0 c d))
      + (if hc : c.val < 128 then t1 (ix4 0 0 r ⟨c.val, hc⟩) else t2 (ix4 0 0 r ⟨c.val - 128, by omega⟩)) := by
  pointwise [k1_pay8, k1_pay5, k1_pay6]

theorem pay14_raw : k1_pay14 (F := Ideal) M (k1_pay5 a) (k1_pay6 b) t1 t2 (ix2 r c)
    = (∑ d : Fin 128, Scalar.select (IntOp.xori (M (ix2 r d)) 1#1) (a (ix3 0 r d)) (Ideal.ofBits .bf16 0x0000#16) * b (ix3 0 c d))
      + (if hc : c.val < 128 then t1 (ix4 0 0 r ⟨c.val, hc⟩) else t2 (ix4 0 0 r ⟨c.val - 128, by omega⟩)) := by
  pointwise [k1_pay14, k1_pay5, k1_pay6]

theorem pay8_read : k1_pay8 (F := Ideal) k1_pay1 a b t1 t2 (ix2 r c) = tileLogit 0 a b t1 t2 r c := by
  rw [pay8_raw]
  refine congrArg (· + _) ?_
  refine (Finset.sum_congr rfl fun d _ => ?_).trans (low_lanes fun d => a (ix3 0 r d) * b (ix3 0 c d))
  rw [lane_read, half_zero]
  by_cases hd : d.val < 64
  · rw [if_pos hd, if_pos hd]; rfl
  · rw [if_neg hd, if_neg hd]; exact zero_mul _

theorem pay14_read : k1_pay14 (F := Ideal) k1_pay1 (k1_pay5 a) (k1_pay6 b) t1 t2 (ix2 r c) = tileLogit 1 a b t1 t2 r c := by
  rw [pay14_raw]
  refine congrArg (· + _) ?_
  refine (Finset.sum_congr rfl fun d _ => ?_).trans (high_lanes fun d => a (ix3 0 r d) * b (ix3 0 c d))
  rw [lane_read, half_zero]
  by_cases hd : d.val < 64
  · rw [if_pos hd, if_pos hd]; exact zero_mul _
  · rw [if_neg hd, if_neg hd]; rfl

theorem pay9_read : k1_pay9 L (ix2 r 0) = DilMath.rowMax (fun c => L (ix2 r c)) := by
  unfold DilMath.rowMax
  rw [← lowest]
  pointwise [k1_pay9]

theorem pay10_raw : k1_pay10 L (ix2 r c) = Ideal.exp (L (ix2 r c) - k1_pay9 L (ix2 r 0)) := by
  unfold k1_pay10
  generalize k1_pay9 L = m
  pointwise

theorem pay10_read : k1_pay10 L (ix2 r c) = DilMath.weight (fun c => L (ix2 r c)) c := by
  rw [pay10_raw, pay9_read]; rfl

theorem pay2_raw : k1_pay2 L (ix2 r 0) = max (∑ c : Fin 256, L (ix2 r c)) DilMath.tiny := by
  unfold DilMath.tiny
  pointwise [k1_pay2]

theorem pay11_read : k1_pay11 L (ix2 r 0) = DilMath.norm (fun c => L (ix2 r c)) := by
  have e : k1_pay11 L = k1_pay2 (k1_pay10 L) := rfl
  rw [e, pay2_raw]
  unfold DilMath.norm
  simp only [pay10_read]

theorem pay12_raw : k1_pay12 V L (ix2 r l) = Ideal.div (∑ c : Fin 256, k1_pay10 L (ix2 r c) * V (ix2 c l)) (k1_pay11 L (ix2 r 0)) := by
  unfold k1_pay12
  generalize k1_pay11 L = N
  generalize k1_pay10 L = W
  pointwise

theorem pay12_read : k1_pay12 V L (ix2 r l)
    = Ideal.div (∑ c : Fin 256, DilMath.weight (fun c => L (ix2 r c)) c * V (ix2 c l)) (DilMath.norm (fun c => L (ix2 r c))) := by
  rw [pay12_raw, pay11_read]
  simp only [pay10_read]

theorem pay13_read : k1_pay13 L (ix2 r 0) = DilMath.rowMax (fun c => L (ix2 r c)) + Ideal.log (DilMath.norm (fun c => L (ix2 r c))) := by
  rw [← pay9_read, ← pay11_read]
  unfold k1_pay13
  generalize k1_pay9 L = m
  generalize k1_pay11 L = N
  pointwise

theorem pay7_at : k1_pay7 w (ix2 c l) = w (ix3 0 c l) := by
  pointwise [k1_pay7]

theorem pay3_raw (A : FVec Ideal S128x128 .f32) : k1_pay3 V A (k1_pay10 L) (ix3 0 r l)
    = Scalar.select (k1_pay1 (ix2 r l)) (A (ix2 r l)) (k1_pay12 V L (ix2 r l)) := by
  have e : k1_pay3 V A (k1_pay10 L) = shapeCast S1x128x128 (select k1_pay1 A (k1_pay12 V L)) shapeCasts_S128x128_S1x128x128 := rfl
  rw [e]
  generalize k1_pay12 V L = B
  generalize k1_pay1 = M
  pointwise

theorem pay4_raw (A : FVec Ideal S128x1 .f32) : k1_pay4 A (k1_pay9 L) (k1_pay10 L) (ix3 0 r l)
    = Scalar.select (k1_pay1 (ix2 r l)) (A (ix2 r 0)) (k1_pay13 L (ix2 r 0)) := by
  have e : k1_pay4 A (k1_pay9 L) (k1_pay10 L) = shapeCast S1x128x128 (select k1_pay1
      (broadcastTo S128x128 (shapeCast S128x1 A shapeCasts_S128x1_S128x1) broadcasts_S128x1_S128x128)
      (broadcastTo S128x128 (shapeCast S128x1 (k1_pay13 L) shapeCasts_S128x1_S128x1) broadcasts_S128x1_S128x128)) shapeCasts_S128x128_S1x128x128 := rfl
  rw [e]
  generalize k1_pay13 L = B
  generalize k1_pay1 = M
  pointwise

/-- The block's output payload. -/
def outPay : FVec Ideal S1x128x128 .f32 :=
  k1_pay3 (k1_pay7 w) (k1_pay12 (k1_pay7 w) (k1_pay8 k1_pay1 a b t1 t2)) (k1_pay16 k1_pay1 (k1_pay5 a) (k1_pay6 b) t3 t4)

/-- The block's log-sum-exp payload. -/
def lsePay : FVec Ideal S1x128x128 .f32 :=
  k1_pay4 (k1_pay13 (k1_pay8 k1_pay1 a b t1 t2)) (k1_pay15 k1_pay1 (k1_pay5 a) (k1_pay6 b) t3 t4) (k1_pay16 k1_pay1 (k1_pay5 a) (k1_pay6 b) t3 t4)

theorem outPay_low (e : Fin 64) : outPay a b w t1 t2 t3 t4 (ix3 0 r ⟨(0 : Fin 2).val * 64 + e.val, by omega⟩)
    = Ideal.div (∑ c : Fin 256, DilMath.weight (tileLogit 0 a b t1 t2 r) c * w (ix3 0 c ⟨(0 : Fin 2).val * 64 + e.val, by omega⟩))
        (DilMath.norm (tileLogit 0 a b t1 t2 r)) := by
  unfold outPay
  have e2 : k1_pay16 (F := Ideal) k1_pay1 (k1_pay5 a) (k1_pay6 b) t3 t4 = k1_pay10 (k1_pay14 k1_pay1 (k1_pay5 a) (k1_pay6 b) t3 t4) := rfl
  rw [e2, pay3_raw, lane_read, if_pos (by show (0 : ℕ) * 64 + e.val < 64; omega)]
  show k1_pay12 _ _ _ = _
  rw [pay12_read]
  simp only [pay8_read, pay7_at]

theorem outPay_high (e : Fin 64) : outPay a b w t1 t2 t3 t4 (ix3 0 r ⟨(1 : Fin 2).val * 64 + e.val, by omega⟩)
    = Ideal.div (∑ c : Fin 256, DilMath.weight (tileLogit 1 a b t3 t4 r) c * w (ix3 0 c ⟨(1 : Fin 2).val * 64 + e.val, by omega⟩))
        (DilMath.norm (tileLogit 1 a b t3 t4 r)) := by
  unfold outPay
  have e2 : k1_pay16 (F := Ideal) k1_pay1 (k1_pay5 a) (k1_pay6 b) t3 t4 = k1_pay10 (k1_pay14 k1_pay1 (k1_pay5 a) (k1_pay6 b) t3 t4) := rfl
  rw [e2, pay3_raw, lane_read, if_neg (by show ¬ (1 : ℕ) * 64 + e.val < 64; omega)]
  show k1_pay12 _ _ _ = _
  rw [pay12_read]
  simp only [pay14_read, pay7_at]

theorem lsePay_low (e : Fin 64) : lsePay a b t1 t2 t3 t4 (ix3 0 r ⟨(0 : Fin 2).val * 64 + e.val, by omega⟩)
    = DilMath.rowMax (tileLogit 0 a b t1 t2 r) + Ideal.log (DilMath.norm (tileLogit 0 a b t1 t2 r)) := by
  unfold lsePay
  have e2 : k1_pay16 (F := Ideal) k1_pay1 (k1_pay5 a) (k1_pay6 b) t3 t4 = k1_pay10 (k1_pay14 k1_pay1 (k1_pay5 a) (k1_pay6 b) t3 t4) := rfl
  have e3 : k1_pay15 (F := Ideal) k1_pay1 (k1_pay5 a) (k1_pay6 b) t3 t4 = k1_pay9 (k1_pay14 k1_pay1 (k1_pay5 a) (k1_pay6 b) t3 t4) := rfl
  rw [e2, e3, pay4_raw, lane_read, if_pos (by show (0 : ℕ) * 64 + e.val < 64; omega)]
  show k1_pay13 _ _ = _
  rw [pay13_read]
  simp only [pay8_read]

theorem lsePay_high (e : Fin 64) : lsePay a b t1 t2 t3 t4 (ix3 0 r ⟨(1 : Fin 2).val * 64 + e.val, by omega⟩)
    = DilMath.rowMax (tileLogit 1 a b t3 t4 r) + Ideal.log (DilMath.norm (tileLogit 1 a b t3 t4 r)) := by
  unfold lsePay
  have e2 : k1_pay16 (F := Ideal) k1_pay1 (k1_pay5 a) (k1_pay6 b) t3 t4 = k1_pay10 (k1_pay14 k1_pay1 (k1_pay5 a) (k1_pay6 b) t3 t4) := rfl
  have e3 : k1_pay15 (F := Ideal) k1_pay1 (k1_pay5 a) (k1_pay6 b) t3 t4 = k1_pay9 (k1_pay14 k1_pay1 (k1_pay5 a) (k1_pay6 b) t3 t4) := rfl
  rw [e2, e3, pay4_raw, lane_read, if_neg (by show ¬ (1 : ℕ) * 64 + e.val < 64; omega)]
  show k1_pay13 _ _ = _
  rw [pay13_read]
  simp only [pay14_read]

end Cert.KernelIdeal.Layer

end
-- ==== Proof.DilLoop.lean ====
/- What the dilated attention call's loop over the blocks leaves. -/
module

public import proofs.«01_k».proof.Proof.DilTrip

@[expose] public section

set_option maxRecDepth 16384

noncomputable section

namespace Cert.KernelIdeal.Layer

open Cert.KernelIdeal Cert.KernelIdeal.Gen Idealize.ShloMosaic Idealize.ShloMosaic.TcCoe Idealize.SL.Sem

variable (x0 x1 x2 : Vec Ideal S1x4096x128 .bf16) (x3 : Vec Ideal S3x2x128x128 .f32) (k : Fin k1_t1_loop.trips)

/-- The output payload of block `k`, from the four whole arrays. -/
def outAt : FVec Ideal S1x128x128 .f32 :=
  outPay (View.ld x0 (Rect.unit (s := S1x4096x128) (k1_off1 k) S1x128x128.size (k1_off1_inb k)))
    (View.ld x1 (Rect.unit (s := S1x4096x128) (k1_off2 k) S1x256x128.size (k1_off2_inb k)))
    (View.ld x2 (Rect.unit (s := S1x4096x128) (k1_off2 k) S1x256x128.size (k1_off2_inb k)))
    (View.ld x3 (Rect.unit (s := S3x2x128x128) (k1_off3 k) S1x1x128x128.size (k1_off3_inb k)))
    (View.ld x3 (Rect.unit (s := S3x2x128x128) (k1_off4 k) S1x1x128x128.size (k1_off4_inb k)))
    (View.ld x3 (Rect.unit (s := S3x2x128x128) (k1_off5 k) S1x1x128x128.size (k1_off5_inb k)))
    (View.ld x3 (Rect.unit (s := S3x2x128x128) (k1_off6 k) S1x1x128x128.size (k1_off6_inb k)))

/-- The log-sum-exp payload of block `k`, from the four whole arrays. -/
def lseAt : FVec Ideal S1x128x128 .f32 :=
  lsePay (View.ld x0 (Rect.unit (s := S1x4096x128) (k1_off1 k) S1x128x128.size (k1_off1_inb k)))
    (View.ld x1 (Rect.unit (s := S1x4096x128) (k1_off2 k) S1x256x128.size (k1_off2_inb k)))
    (View.ld x3 (Rect.unit (s := S3x2x128x128) (k1_off3 k) S1x1x128x128.size (k1_off3_inb k)))
    (View.ld x3 (Rect.unit (s := S3x2x128x128) (k1_off4 k) S1x1x128x128.size (k1_off4_inb k)))
    (View.ld x3 (Rect.unit (s := S3x2x128x128) (k1_off5 k) S1x1x128x128.size (k1_off5_inb k)))
    (View.ld x3 (Rect.unit (s := S3x2x128x128) (k1_off6 k) S1x1x128x128.size (k1_off6_inb k)))

variable (c : Dev nD) (i : grid1.Coords) (arg1 : Memref sig .tc .vmem S1x4096x128 .bf16) (harg1 : arg1.IsWhole) (arg2 : Memref sig .tc .vmem S1x4096x128 .bf16) (harg2 : arg2.IsWhole) (arg3 : Memref sig .tc .vmem S1x4096x128 .bf16) (harg3 : arg3.IsWhole)
  (arg4 : Memref sig .tc .vmem S3x2x128x128 .f32) (harg4 : arg4.IsWhole) (arg5 : Memref sig .tc .vmem S1x4096x128 .f32) (harg5 : arg5.IsWhole) (arg6 : Memref sig .tc .vmem S1x4096x128 .f32) (harg6 : arg6.IsWhole)

/-- A whole buffer holding an array's contents reads, through a rectangle, as that part of the array. -/
theorem held_read {sp : Space} {S : Shape} {e : EltTy} (m : Memref sig .tc sp S e) (hm : m.IsWhole) (x : Vec Ideal S e) (r : Rect S) :
    View.readAt (Elt Ideal) m.view r.toLoadRect (hm.unread x) = View.ld x r := by
  rw [View.readAt_eq_ld, hm.read_unread]

theorem trip_out :
    (trip_k1_t1 (F := Ideal) Variants.none c none i arg1 harg1 arg2 harg2 arg3 harg3 arg4 harg4 arg5 harg5 arg6 harg6 (harg1.unread x0) (harg2.unread x1) (harg3.unread x2) (harg4.unread x3) k).1
      = [⟨Rect.unit (s := S1x4096x128) (k1_off1 k) S1x128x128.size (k1_off1_inb k), outAt x0 x1 x2 x3 k⟩] := by
  unfold outAt
  rw [← held_read arg1 harg1 x0, ← held_read arg2 harg2 x1, ← held_read arg3 harg3 x2, ← held_read arg4 harg4 x3, ← held_read arg4 harg4 x3,
    ← held_read arg4 harg4 x3, ← held_read arg4 harg4 x3]
  unfold trip_k1_t1
  rfl

theorem trip_lse :
    (trip_k1_t1 (F := Ideal) Variants.none c none i arg1 harg1 arg2 harg2 arg3 harg3 arg4 harg4 arg5 harg5 arg6 harg6 (harg1.unread x0) (harg2.unread x1) (harg3.unread x2) (harg4.unread x3) k).2.1
      = [⟨Rect.unit (s := S1x4096x128) (k1_off1 k) S1x128x128.size (k1_off1_inb k), lseAt x0 x1 x3 k⟩] := by
  unfold lseAt
  rw [← held_read arg1 harg1 x0, ← held_read arg2 harg2 x1, ← held_read arg4 harg4 x3, ← held_read arg4 harg4 x3,
    ← held_read arg4 harg4 x3, ← held_read arg4 harg4 x3]
  unfold trip_k1_t1
  rfl

theorem pieces_out (n : ℕ) (hn : n ≤ k1_t1_loop.trips) :
    ∀ p ∈ (pb_k1_t1 (F := Ideal) Variants.none c none i arg1 harg1 arg2 harg2 arg3 harg3 arg4 harg4 arg5 harg5 arg6 harg6 (harg1.unread x0) (harg2.unread x1) (harg3.unread x2) (harg4.unread x3) n).1,
      ∃ k, p = ⟨Rect.unit (s := S1x4096x128) (k1_off1 k) S1x128x128.size (k1_off1_inb k), outAt x0 x1 x2 x3 k⟩ := by
  induction n with
  | zero => intro p hp; exact absurd hp List.not_mem_nil
  | succ n ih =>
    rw [pb_k1_t1_succ Variants.none c none i arg1 harg1 arg2 harg2 arg3 harg3 arg4 harg4 arg5 harg5 arg6 harg6 _ _ _ _ ⟨n, hn⟩]
    intro p hp
    rcases List.mem_append.mp hp with hp | hp
    · refine ⟨⟨n, hn⟩, List.mem_singleton.mp ?_⟩
      rw [← trip_out]
      exact hp
    · exact ih (by omega) p hp

theorem pieces_lse (n : ℕ) (hn : n ≤ k1_t1_loop.trips) :
    ∀ p ∈ (pb_k1_t1 (F := Ideal) Variants.none c none i arg1 harg1 arg2 harg2 arg3 harg3 arg4 harg4 arg5 harg5 arg6 harg6 (harg1.unread x0) (harg2.unread x1) (harg3.unread x2) (harg4.unread x3) n).2,
      ∃ k, p = ⟨Rect.unit (s := S1x4096x128) (k1_off1 k) S1x128x128.size (k1_off1_inb k), lseAt x0 x1 x3 k⟩ := by
  induction n with
  | zero => intro p hp; exact absurd hp List.not_mem_nil
  | succ n ih =>
    rw [pb_k1_t1_succ Variants.none c none i arg1 harg1 arg2 harg2 arg3 harg3 arg4 harg4 arg5 harg5 arg6 harg6 _ _ _ _ ⟨n, hn⟩]
    intro p hp
    rcases List.mem_append.mp hp with hp | hp
    · refine ⟨⟨n, hn⟩, List.mem_singleton.mp ?_⟩
      rw [← trip_lse]
      exact hp
    · exact ih (by omega) p hp

theorem rows_off : ∀ k : Fin k1_t1_loop.trips, k1_off1 k = ![0, 128 * k.val, 0] := by decide +kernel

theorem trips_eq : k1_t1_loop.trips = 32 := by decide +kernel

/-- The row of block `k` and local row `r`. -/
theorem row_of (n : Fin 32) (r l : Fin 128) (k : Fin k1_t1_loop.trips) (x : S1x128x128.Idx)
    (e : (Rect.unit (s := S1x4096x128) (k1_off1 k) S1x128x128.size (k1_off1_inb k)).emb x = ix3 0 ⟨n.val * 128 + r.val, by omega⟩ l) :
    k.val = n.val ∧ x = ix3 0 r l := by
  have e1 := congrArg Fin.val (congrFun e 1)
  have e2 := congrArg Fin.val (congrFun e 2)
  rw [Rect.emb_apply] at e1 e2
  have o1 : (k1_off1 k) 1 = 128 * k.val := by rw [rows_off]; rfl
  have o2 : (k1_off1 k) 2 = 0 := by rw [rows_off]; rfl
  have e1' : (k1_off1 k) 1 + 1 * (x 1).val = n.val * 128 + r.val := e1
  have e2' : (k1_off1 k) 2 + 1 * (x 2).val = l.val := e2
  rw [o1] at e1'; rw [o2] at e2'
  have b1 : (x 1).val < 128 := (x 1).isLt
  have b0 : (x 0).val < 1 := (x 0).isLt
  refine ⟨by omega, funext fun d => Fin.ext ?_⟩
  match d with
  | ⟨0, _⟩ => show (x 0).val = 0; omega
  | ⟨1, _⟩ => show (x 1).val = r.val; omega
  | ⟨2, _⟩ => show (x 2).val = l.val; omega

theorem out_read (n : Fin 32) (r l : Fin 128) :
    out1_A_4 (F := Ideal) c i arg1 harg1 arg2 harg2 arg3 harg3 arg4 harg4 arg5 harg5 arg6 harg6 x0 x1 x2 x3 (ix3 0 ⟨n.val * 128 + r.val, by omega⟩ l)
      = outAt x0 x1 x2 x3 ⟨n.val, by rw [trips_eq]; exact n.isLt⟩ (ix3 0 r l) := by
  unfold out1_A_4
  frame_out
  refine View.canon_eq_of_allAt _ _ _ (cover1_A_4 (F := Ideal) c i arg1 harg1 arg2 harg2 arg3 harg3 arg4 harg4 arg5 harg5 arg6 harg6 x0 x1 x2 x3 _) fun p hp x hx => ?_
  obtain ⟨k, rfl⟩ := pieces_out x0 x1 x2 x3 c i arg1 harg1 arg2 harg2 arg3 harg3 arg4 harg4 arg5 harg5 arg6 harg6 _ le_rfl p hp
  obtain ⟨hk, rfl⟩ := row_of n r l k x hx
  have e : k = ⟨n.val, by rw [trips_eq]; exact n.isLt⟩ := Fin.ext hk
  subst e
  rfl

theorem lse_read (n : Fin 32) (r l : Fin 128) :
    out1_A_5 (F := Ideal) c i arg1 harg1 arg2 harg2 arg3 harg3 arg4 harg4 arg5 harg5 arg6 harg6 x0 x1 x2 x3 (ix3 0 ⟨n.val * 128 + r.val, by omega⟩ l)
      = lseAt x0 x1 x3 ⟨n.val, by rw [trips_eq]; exact n.isLt⟩ (ix3 0 r l) := by
  unfold out1_A_5
  frame_out
  refine View.canon_eq_of_allAt _ _ _ (cover1_A_5 (F := Ideal) c i arg1 harg1 arg2 harg2 arg3 harg3 arg4 harg4 arg5 harg5 arg6 harg6 x0 x1 x2 x3 _) fun p hp x hx => ?_
  obtain ⟨k, rfl⟩ := pieces_lse x0 x1 x2 x3 c i arg1 harg1 arg2 harg2 arg3 harg3 arg4 harg4 arg5 harg5 arg6 harg6 _ le_rfl p hp
  obtain ⟨hk, rfl⟩ := row_of n r l k x hx
  have e : k = ⟨n.val, by rw [trips_eq]; exact n.isLt⟩ := Fin.ext hk
  subst e
  rfl

end Cert.KernelIdeal.Layer

end
-- ==== Proof.DilBucket.lean ====
module

public import proofs.«01_k».proof.Proof.DilMath

/-!
The bucket of a distance, as a word: what it is at the distances the window keeps, and the chain of
thirty-two selections that looks a row of the table up by its bucket.
-/

@[expose] public section

set_option maxRecDepth 16384

noncomputable section

open Idealize.ShloMosaic
open scoped BigOperators

namespace DilMath

/-- The distance a bucket is taken of: the distance times the rate one, not below zero. -/
abbrev dist (d : BitVec 32) : BitVec 32 := IntOp.maxsi (IntOp.muli d 1#32) 0#32

/-- The logarithmic step beyond the sixteen exact buckets. -/
abbrev step (d : BitVec 32) : EReal :=
  Ideal.div (Ideal.log (Ideal.div (FloatOps.sitofp (F := Ideal) .f32 (IntOp.maxsi (dist d) 16#32)) (Ideal.ofBits .f32 0x41800000#32)))
      (Ideal.ofBits .f32 0x409B43D5#32) * Ideal.ofBits .f32 0x41800000#32

/-- The bucket of a distance. -/
def bucket (d : BitVec 32) : BitVec 32 :=
  Scalar.select (IntOp.cmpi .slt (dist d) 16#32) (dist d)
    (IntOp.minsi (IntOp.addi 16#32 (Ideal.fptosi 32 (step d))) 31#32)

theorem dist_small : ∀ r : Fin 129, r.val < 16 →
    IntOp.cmpi .slt (dist (BitVec.ofNat 32 r)) 16#32 = 1#1 ∧ dist (BitVec.ofNat 32 r) = BitVec.ofNat 32 r := by
  decide +kernel

theorem dist_large : ∀ r : Fin 129, ¬ r.val < 16 →
    IntOp.cmpi .slt (dist (BitVec.ofNat 32 r)) 16#32 = 0#1
      ∧ IntOp.maxsi (dist (BitVec.ofNat 32 r)) 16#32 = BitVec.ofNat 32 r
      ∧ (BitVec.ofNat 32 r.val).toInt = r.val := by
  decide +kernel

theorem capped : ∀ z : Fin 64, ∃ y : Fin 32, IntOp.minsi (IntOp.addi 16#32 (BitVec.ofInt 32 (z.val : Int))) 31#32 = BitVec.ofNat 32 y := by
  decide +kernel

theorem sixteen : Ideal.ofBits .f32 0x41800000#32 = ((16 : ℝ) : EReal) := by
  have h : ((1098907648 : ℕ) >>> 23) % 256 = 131 := by decide
  norm_num [Ideal.ofBits, Ideal.ieee, h]
  decide

theorem logBase : ∃ l : ℝ, 4 ≤ l ∧ Ideal.ofBits .f32 0x409B43D5#32 = (l : EReal) := by
  have h : ((1083917269 : ℕ) >>> 23) % 256 = 129 := by decide
  refine ⟨_, ?_, rfl⟩
  norm_num [h]
  rw [if_neg (by decide)]
  norm_num

/-- At a distance from sixteen to one hundred and twenty-eight the step is a real between zero and sixty-three. -/
theorem step_real (r : Fin 129) (hr : ¬ r.val < 16) :
    ∃ x : ℝ, 0 ≤ x ∧ x < 63 ∧ step (BitVec.ofNat 32 r) = (x : EReal) := by
  obtain ⟨l, hl, e⟩ := logBase
  obtain ⟨-, h2, h3⟩ := dist_large r hr
  have hr' : (16 : ℝ) ≤ (r.val : ℝ) := by exact_mod_cast not_lt.mp hr
  have hr2 : (r.val : ℝ) ≤ 128 := by exact_mod_cast (show r.val ≤ 128 by omega)
  have h0 : (0 : ℝ) ≤ Real.log ((r.val : ℝ) * (16 : ℝ)⁻¹) := Real.log_nonneg (by linarith [show (r.val : ℝ) * (16:ℝ)⁻¹ ≥ 1 by linarith])
  have h1 : Real.log ((r.val : ℝ) * (16 : ℝ)⁻¹) ≤ 7 := by
    refine (Real.log_le_sub_one_of_pos (by positivity)).trans ?_
    linarith
  refine ⟨Real.log ((r.val : ℝ) * (16 : ℝ)⁻¹) * l⁻¹ * 16, ?_, ?_, ?_⟩
  · positivity
  · have : l⁻¹ ≤ 4⁻¹ := inv_anti₀ (by norm_num) hl
    have h4 : 0 ≤ l⁻¹ := by positivity
    nlinarith [mul_le_mul h1 this h4 (by norm_num)]
  · have hp : ¬ ((r.val : ℝ) * (16 : ℝ)⁻¹ ≤ 0) := by
      have : 0 < (r.val : ℝ) * (16 : ℝ)⁻¹ := by positivity
      linarith
    have hs : FloatOps.sitofp (F := Ideal) .f32 (BitVec.ofNat 32 r.val) = ((r.val : ℝ) : EReal) := by
      show (((BitVec.ofNat 32 r.val).toInt : ℝ) : EReal) = _
      rw [h3]; norm_cast
    have hd : Ideal.div ((r.val : ℝ) : EReal) ((16 : ℝ) : EReal) = (((r.val : ℝ) * (16 : ℝ)⁻¹ : ℝ) : EReal) := by
      rw [Ideal.div, if_neg (by norm_num), ← EReal.coe_inv, ← EReal.coe_mul]
    have hlg : Ideal.log (((r.val : ℝ) * (16 : ℝ)⁻¹ : ℝ) : EReal) = ((Real.log ((r.val : ℝ) * (16 : ℝ)⁻¹) : ℝ) : EReal) := by
      rw [Ideal.log_coe, if_neg hp]
    have hl0 : (l : EReal) ≠ 0 := by exact_mod_cast (show l ≠ 0 by linarith)
    unfold step
    rw [h2, hs, sixteen, e, hd, hlg, Ideal.div, if_neg hl0, ← EReal.coe_inv, ← EReal.coe_mul, ← EReal.coe_mul]

/-- The bucket of a distance the window keeps is one of thirty-two. -/
theorem bucket_lt (r : Fin 129) : ∃ y : Fin 32, bucket (BitVec.ofNat 32 r) = BitVec.ofNat 32 y := by
  by_cases hr : r.val < 16
  · obtain ⟨h1, h2⟩ := dist_small r hr
    refine ⟨⟨r.val, by omega⟩, ?_⟩
    unfold bucket
    rw [h1, h2]; rfl
  · obtain ⟨h1, -, -⟩ := dist_large r hr
    obtain ⟨x, h0, hx, e⟩ := step_real r hr
    have hz : Ideal.fptosi 32 (x : EReal) = BitVec.ofInt 32 ⌊x⌋ := by
      have a : (0 : Int) ≤ ⌊x⌋ := Int.floor_nonneg.mpr h0
      have b : ⌊x⌋ < 63 := Int.floor_lt.mpr (by exact_mod_cast hx)
      rw [Ideal.fptosi, Ideal.toIntClamped_coe, if_pos h0]
      congr 1
      norm_num
      omega
    have a : (0 : Int) ≤ ⌊x⌋ := Int.floor_nonneg.mpr h0
    have b : ⌊x⌋ < 63 := Int.floor_lt.mpr (by exact_mod_cast hx)
    obtain ⟨y, hy⟩ := capped ⟨⌊x⌋.toNat, by omega⟩
    refine ⟨y, ?_⟩
    unfold bucket
    rw [h1, e, hz]
    rw [← hy]
    show IntOp.minsi (IntOp.addi 16#32 (BitVec.ofInt 32 ⌊x⌋)) 31#32 = _
    congr 3
    simp [Int.toNat_of_nonneg a]

/-- A selection by a bucket's equality with a constant. -/
theorem pick_eq (y c : Fin 32) (a b : EReal) :
    Scalar.select (IntOp.cmpi .eq (BitVec.ofNat 32 y.val) (BitVec.ofNat 32 c.val)) a b = if y = c then a else b := by
  have h : IntOp.cmpi .eq (BitVec.ofNat 32 y.val) (BitVec.ofNat 32 c.val) = if y = c then 1#1 else 0#1 := by
    revert y c; decide +kernel
  rw [h]; split <;> rfl

/-- The fix-up of a negative bucket and the clamp to the table's rows leave one of thirty-two as it is. -/
theorem wrap_eq : ∀ y : Fin 32,
    min (Scalar.select (IntOp.cmpi .slt (BitVec.ofNat 32 y.val) 0#32) (IntOp.addi (BitVec.ofNat 32 y.val) 32#32)
      (BitVec.ofNat 32 y.val)).toInt.toNat 31 = y.val := by
  decide +kernel

/-- The row of the table a distance reads. -/
def bk (r : ℕ) : Fin 32 := ⟨(bucket (BitVec.ofNat 32 r)).toNat % 32, Nat.mod_lt _ (by norm_num)⟩

theorem bk_spec (r : ℕ) (hr : r ≤ 128) : bucket (BitVec.ofNat 32 r) = BitVec.ofNat 32 (bk r).val := by
  obtain ⟨y, hy⟩ := bucket_lt ⟨r, by omega⟩
  have e : bk r = y := by
    refine Fin.ext ?_
    show (bucket (BitVec.ofNat 32 r)).toNat % 32 = y.val
    rw [show bucket (BitVec.ofNat 32 r) = _ from hy]
    simp only [BitVec.toNat_ofNat]
    omega
  rw [e]; exact hy

end DilMath
-- ==== Proof.DilTile.lean ====
/- What the bias call leaves in a tile of the dilated attention's bias. -/
module

public import proofs.«01_k».proof.Proof.Gen.KernelIdeal.Frame
public import proofs.«01_k».proof.Proof.DilBucket
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Layer

open Cert.KernelIdeal Cert.KernelIdeal.Gen Idealize.ShloMosaic Idealize.ShloMosaic.TcCoe Idealize.SL.Sem

theorem pay7_read (a : BitVec 32) (r l : Fin 128) :
    k0_pay7 (F := Ideal) a (ix2 r l) = DilMath.bucket (k0_pay5 a (ix2 r l)) := by
  unfold DilMath.bucket DilMath.step DilMath.dist
  pointwise [k0_pay7]
  rfl

theorem pay5_read (a : BitVec 32) (r l : Fin 128) :
    k0_pay5 a (ix2 r l) = IntOp.addi (IntOp.subi (IntOp.addi (IntOp.muli 128#32 a) (BitVec.ofNat 32 r.val)) (IntOp.muli 1#32 (BitVec.ofNat 32 l.val))) 0#32 := by
  pointwise [k0_pay5]
  rfl

theorem canon_low (P0 P1 : S1x1x128x128.Idx → EReal) (r l : Fin 128) :
    View.canon (Val := Elt Ideal) (e := .f32) [⟨Rect.unit (s := S1x2x128x128) ![0, 1, 0, 0] S1x1x128x128.size inb_S1x2x128x128_S1x1x128x128_0_1_0_0, P1⟩,
      ⟨Rect.unit (s := S1x2x128x128) ![0, 0, 0, 0] S1x1x128x128.size inb_S1x2x128x128_S1x1x128x128_0_0_0_0, P0⟩] (ix4 0 0 r l) = P0 (ix4 0 0 r l) := by
  canon_tiles x h
  case piece1 =>
    refine congrArg P0 (funext fun a => Fin.ext ?_)
    match a with
    | ⟨0, _⟩ => exact h0.symm
    | ⟨1, _⟩ => show (x 1).val = 0; omega
    | ⟨2, _⟩ => exact h2.symm
    | ⟨3, _⟩ => exact h3.symm
  case piece0 =>
    have e : (0 : ℕ) = 1 + (x 1).val := h1
    omega

theorem canon_high (P0 P1 : S1x1x128x128.Idx → EReal) (r l : Fin 128) :
    View.canon (Val := Elt Ideal) (e := .f32) [⟨Rect.unit (s := S1x2x128x128) ![0, 1, 0, 0] S1x1x128x128.size inb_S1x2x128x128_S1x1x128x128_0_1_0_0, P1⟩,
      ⟨Rect.unit (s := S1x2x128x128) ![0, 0, 0, 0] S1x1x128x128.size inb_S1x2x128x128_S1x1x128x128_0_0_0_0, P0⟩] (ix4 0 1 r l) = P1 (ix4 0 0 r l) := by
  canon_tiles x h
  case piece1 =>
    have e : (1 : ℕ) = (x 1).val := h1
    omega
  case piece0 =>
    refine congrArg P1 (funext fun a => Fin.ext ?_)
    match a with
    | ⟨0, _⟩ => exact h0.symm
    | ⟨1, _⟩ => show (x 1).val = 0; omega
    | ⟨2, _⟩ => exact h2.symm
    | ⟨3, _⟩ => exact h3.symm

/-- The thirty-two selections that look a bucket's row up. -/
def look (B : BitVec 32) (f : Fin 32 → EReal) : EReal :=
  (Scalar.select (IntOp.cmpi .eq B 31#32) (f 31) (Scalar.select (IntOp.cmpi .eq B 30#32) (f 30) (Scalar.select (IntOp.cmpi .eq B 29#32) (f 29) (Scalar.select (IntOp.cmpi .eq B 28#32) (f 28) (Scalar.select (IntOp.cmpi .eq B 27#32) (f 27) (Scalar.select (IntOp.cmpi .eq B 26#32) (f 26) (Scalar.select (IntOp.cmpi .eq B 25#32) (f 25) (Scalar.select (IntOp.cmpi .eq B 24#32) (f 24) (Scalar.select (IntOp.cmpi .eq B 23#32) (f 23) (Scalar.select (IntOp.cmpi .eq B 22#32) (f 22) (Scalar.select (IntOp.cmpi .eq B 21#32) (f 21) (Scalar.select (IntOp.cmpi .eq B 20#32) (f 20) (Scalar.select (IntOp.cmpi .eq B 19#32) (f 19) (Scalar.select (IntOp.cmpi .eq B 18#32) (f 18) (Scalar.select (IntOp.cmpi .eq B 17#32) (f 17) (Scalar.select (IntOp.cmpi .eq B 16#32) (f 16) (Scalar.select (IntOp.cmpi .eq B 15#32) (f 15) (Scalar.select (IntOp.cmpi .eq B 14#32) (f 14) (Scalar.select (IntOp.cmpi .eq B 13#32) (f 13) (Scalar.select (IntOp.cmpi .eq B 12#32) (f 12) (Scalar.select (IntOp.cmpi .eq B 11#32) (f 11) (Scalar.select (IntOp.cmpi .eq B 10#32) (f 10) (Scalar.select (IntOp.cmpi .eq B 9#32) (f 9) (Scalar.select (IntOp.cmpi .eq B 8#32) (f 8) (Scalar.select (IntOp.cmpi .eq B 7#32) (f 7) (Scalar.select (IntOp.cmpi .eq B 6#32) (f 6) (Scalar.select (IntOp.cmpi .eq B 5#32) (f 5) (Scalar.select (IntOp.cmpi .eq B 4#32) (f 4) (Scalar.select (IntOp.cmpi .eq B 3#32) (f 3) (Scalar.select (IntOp.cmpi .eq B 2#32) (f 2) (Scalar.select (IntOp.cmpi .eq B 1#32) (f 1) (Scalar.select (IntOp.cmpi .eq B 0#32) (f 0) (Ideal.ofBits .f32 0x00000000#32)))))))))))))))))))))))))))))))))

theorem look_eq (y : Fin 32) (f : Fin 32 → EReal) : look (BitVec.ofNat 32 y.val) f = f y := by
  unfold look
  fin_cases y <;> rfl

variable (v41 : IVec S128x128 1) (v63 : IVec S128x128 32) (s0 s1 s2 s3 s4 s5 s6 s7 s8 s9 s10 s11 s12 s13 s14 s15 s16 s17 s18 s19 s20 s21 s22 s23 s24 s25 s26 s27 s28 s29 s30 s31 : Elt Ideal .f32) (r l : Fin 128)

set_option maxHeartbeats 1600000 in
theorem low_read : k0_pay20 v41 v63 (k0_pay18 v63 (k0_pay15 v63 (k0_pay13 v63 (k0_pay10 v63 k0_pay8 (cmpi .eq v63 (broadcast S128x128 0#32)) s0 s1 s2 s3 s4 s5 s6) (k0_pay11 v63) (k0_pay12 s7) s8 s9 s10 s11 s12 s13 s14) (k0_pay14 v63) s15 s16 s17 s18 s19 s20 s21) (k0_pay16 v63) (k0_pay17 s22) s23 s24 s25 s26 s27 s28 s29) (k0_pay19 v63) s30 s31 (ix4 0 0 r l)
      = Scalar.select (v41 (ix2 r l)) (look (v63 (ix2 r l)) (fun k : Fin 32 => ![s0, s1, s2, s3, s4, s5, s6, s7, s8, s9, s10, s11, s12, s13, s14, s15, s16, s17, s18, s19, s20, s21, s22, s23, s24, s25, s26, s27, s28, s29, s30, s31] k)) ⊥ := by
  unfold look
  pointwise [k0_pay4, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
  rfl

set_option maxHeartbeats 1600000 in
theorem high_read : k0_pay4 (k0_pay29 v41 v63 (k0_pay27 v63 (k0_pay25 v63 (k0_pay23 v63 (k0_pay21 v63 s0 s1 s2 s3) k0_pay22 s4 s5 s6 s7 s8 s9 s10) (k0_pay24 v63) s11 s12 s13 s14 s15 s16 s17 s18) k0_pay26 s19 s20 s21 s22 s23 s24 s25) (k0_pay28 v63) s26 s27 s28 s29 s30 s31) (ix4 0 0 r l)
      = Scalar.select (v41 (ix2 r l)) (look (v63 (ix2 r l)) (fun k : Fin 32 => ![s0, s1, s2, s3, s4, s5, s6, s7, s8, s9, s10, s11, s12, s13, s14, s15, s16, s17, s18, s19, s20, s21, s22, s23, s24, s25, s26, s27, s28, s29, s30, s31] k)) ⊥ := by
  unfold look
  pointwise [k0_pay4, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29]
  rfl

set_option maxHeartbeats 4000000 in
theorem tileA0 (c : Dev nD) (i : grid0.Coords) (arg1 : Memref sig .tc .smem S32x16 .f32) (harg1 : arg1.IsWhole) (arg2 : Memref sig .tc .vmem S1x2x128x128 .f32) (harg2 : arg2.IsWhole) (hc0 : ¬cond0_0 i) (hc1 : ¬cond0_1 i) (hc2 : cond0_2 i)
    (x0 : Vec Ideal S32x16 .f32) :
    out0_A_1 c i arg1 harg1 arg2 harg2 hc0 hc1 hc2 x0 (ix4 0 0 r l)
      = Scalar.select (k0_pay6 (BitVec.ofNat 32 (i 0).val) (ix2 r l))
          (look (k0_pay7 (F := Ideal) (BitVec.ofNat 32 (i 0).val) (ix2 r l)) fun k => x0 (ix2 k 10)) ⊥ := by
  unfold out0_A_1
  frame_out
  refine (canon_low _ _ r l).trans ?_
  refine (low_read (k0_pay6 (BitVec.ofNat 32 (i 0).val)) (k0_pay7 (F := Ideal) (BitVec.ofNat 32 (i 0).val)) _ _ _ _ _ _ _ _ _ _ _ _ _ _ _ _ _ _ _ _ _ _ _ _ _ _ _ _ _ _ _ _ r l).trans ?_
  refine congrArg (fun f => Scalar.select _ (look _ f) ⊥) (funext fun k => ?_)
  fin_cases k
  all_goals pointwise

set_option maxHeartbeats 4000000 in
theorem tileA1 (c : Dev nD) (i : grid0.Coords) (arg1 : Memref sig .tc .smem S32x16 .f32) (harg1 : arg1.IsWhole) (arg2 : Memref sig .tc .vmem S1x2x128x128 .f32) (harg2 : arg2.IsWhole) (hc0 : ¬cond0_0 i) (hc1 : ¬cond0_1 i) (hc2 : cond0_2 i)
    (x0 : Vec Ideal S32x16 .f32) :
    out0_A_1 c i arg1 harg1 arg2 harg2 hc0 hc1 hc2 x0 (ix4 0 1 r l)
      = Scalar.select (k0_pay6 (BitVec.ofNat 32 (i 0).val) (ix2 r l))
          (look (k0_pay7 (F := Ideal) (BitVec.ofNat 32 (i 0).val) (ix2 r l)) fun k => x0 (ix2 k 11)) ⊥ := by
  unfold out0_A_1
  frame_out
  refine (canon_high _ _ r l).trans ?_
  refine (high_read (k0_pay6 (BitVec.ofNat 32 (i 0).val)) (k0_pay7 (F := Ideal) (BitVec.ofNat 32 (i 0).val)) _ _ _ _ _ _ _ _ _ _ _ _ _ _ _ _ _ _ _ _ _ _ _ _ _ _ _ _ _ _ _ _ r l).trans ?_
  refine congrArg (fun f => Scalar.select _ (look _ f) ⊥) (funext fun k => ?_)
  fin_cases k
  all_goals pointwise

theorem tileB (c : Dev nD) (i : grid0.Coords) (arg1 : Memref sig .tc .smem S32x16 .f32) (harg1 : arg1.IsWhole) (arg2 : Memref sig .tc .vmem S1x2x128x128 .f32) (harg2 : arg2.IsWhole) (hc0 : cond0_0 i) (hc1 : ¬cond0_1 i) (hc2 : ¬ cond0_2 i)
    (x0 : Vec Ideal S32x16 .f32) (h : Fin 2) (r l : Fin 128) :
    out0_B_1 c i arg1 harg1 arg2 harg2 hc0 hc1 hc2 x0 (ix4 0 h r l) = ⊥ := by
  unfold out0_B_1
  frame_out
  rfl

end Cert.KernelIdeal.Layer

end
-- ==== Proof.DilBias.lean ====
/- The bias call's result array: three tiles of two heads. -/
module

public import proofs.«01_k».proof.Proof.DilTile

@[expose] public section

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

/-- A bias tile's element: the table's row for the distance the tile and the two positions give, where the distance is in the window. -/
def biasTile (tbl : FVec Ideal S32x16 .f32) (t : ℕ) (h : Fin 2) (r l : Fin 128) : EReal :=
  if t < 2 ∧ l.val ≤ 128 * t + r.val ∧ 128 * t + r.val ≤ 128 + l.val then
    tbl (ix2 (DilMath.bk (128 * t + r.val - l.val)) ⟨10 + h.val, by omega⟩) else ⊥

theorem pay6_read (a : BitVec 32) (r l : Fin 128) :
    k0_pay6 a (ix2 r l) = IntOp.andi (IntOp.andi (IntOp.cmpi .sge (k0_pay5 a (ix2 r l)) 0#32) (IntOp.cmpi .sle (k0_pay5 a (ix2 r l)) 128#32))
      (IntOp.cmpi .slt (BitVec.ofNat 32 l.val) 128#32) := by
  rw [pay5_read]
  pointwise [k0_pay6, k0_pay5]
  rfl

/-- The distance's word and the window's three comparisons, at the two tiles inside the window. -/
theorem dist_word : ∀ (t : Fin 2) (r l : Fin 128),
    (if l.val ≤ 128 * t.val + r.val ∧ 128 * t.val + r.val ≤ 128 + l.val then
      IntOp.addi (IntOp.subi (IntOp.addi (IntOp.muli 128#32 (BitVec.ofNat 32 t.val)) (BitVec.ofNat 32 r.val)) (IntOp.muli 1#32 (BitVec.ofNat 32 l.val))) 0#32
        = BitVec.ofNat 32 (128 * t.val + r.val - l.val) else True)
    ∧ IntOp.andi (IntOp.andi
        (IntOp.cmpi .sge (IntOp.addi (IntOp.subi (IntOp.addi (IntOp.muli 128#32 (BitVec.ofNat 32 t.val)) (BitVec.ofNat 32 r.val)) (IntOp.muli 1#32 (BitVec.ofNat 32 l.val))) 0#32) 0#32)
        (IntOp.cmpi .sle (IntOp.addi (IntOp.subi (IntOp.addi (IntOp.muli 128#32 (BitVec.ofNat 32 t.val)) (BitVec.ofNat 32 r.val)) (IntOp.muli 1#32 (BitVec.ofNat 32 l.val))) 0#32) 128#32))
        (IntOp.cmpi .slt (BitVec.ofNat 32 l.val) 128#32)
      = if l.val ≤ 128 * t.val + r.val ∧ 128 * t.val + r.val ≤ 128 + l.val then 1#1 else 0#1 := by
  decide +kernel

variable (V : (c : Dev nD) → (b : Ref sig .tc) → Buf (Elt Ideal) ((c : Thread nD τ).loc b)) (c : Dev nD)

theorem idx0 : ∀ t : Fin cfg0.N, win0_0.index t = ![0, 0] ∧ win0_1.index t = ![t.val, 0, 0, 0] ∧ t.val < 3 ∧ (grid0.coords t 0).val = t.val :=
  (by decide +kernel : ∀ t : Fin grid0.N, _)

theorem look_tile (t : ℕ) (ht : t < 2) (h : Fin 2) (tbl : FVec Ideal S32x16 .f32) (r l : Fin 128) :
    Scalar.select (k0_pay6 (BitVec.ofNat 32 t) (ix2 r l))
      (look (k0_pay7 (F := Ideal) (BitVec.ofNat 32 t) (ix2 r l)) fun k => tbl (ix2 k ⟨10 + h.val, by omega⟩)) ⊥ = biasTile tbl t h r l := by
  obtain ⟨d1, d2⟩ := dist_word ⟨t, ht⟩ r l
  rw [pay6_read, pay7_read, pay5_read]
  unfold biasTile
  rw [show _ = _ from d2]
  by_cases hk : l.val ≤ 128 * t + r.val ∧ 128 * t + r.val ≤ 128 + l.val
  · have d1' := (if_pos hk).mp d1
    rw [if_pos hk, if_pos ⟨ht, hk⟩, d1', DilMath.bk_spec (128 * t + r.val - l.val) (by omega), look_eq]
    rfl
  · rw [if_neg hk, if_neg fun x => hk x.2]
    rfl

theorem bias_point (t : Fin cfg0.N) (h : Fin 2) (r l : Fin 128) :
    outsAt0 V c t.val t.isLt (ix4 0 h r l) = biasTile (V c main_arg3) t.val h r l := by
  have i0 := idx0 t
  have tb : ∀ (k : Fin 32) (j : Fin 16), iblk0 V c 0 t (ix2 k j) = V c main_arg3 (ix2 k j) := fun k j => by
    blk_point [iblk0, idx0 t]
  by_cases ht : t.val < 2
  · rw [outsAt0_A V c t (by omega) ht]
    have hh : h = 0 ∨ h = 1 := by omega
    rcases hh with rfl | rfl
    · rw [tileA0]
      rw [i0.2.2.2, ← look_tile t.val ht 0 (V c main_arg3) r l]
      refine congrArg (fun f => Scalar.select _ (look _ f) ⊥) (funext fun k => tb k 10)
    · rw [tileA1]
      rw [i0.2.2.2, ← look_tile t.val ht 1 (V c main_arg3) r l]
      refine congrArg (fun f => Scalar.select _ (look _ f) ⊥) (funext fun k => tb k 11)
  · rw [outsAt0_B V c t (by omega) ht, tileB]
    unfold biasTile
    rw [if_neg fun x => ht x.1]

/-- The bias array, element by element. -/
def biasAll (tbl : FVec Ideal S32x16 .f32) : FVec Ideal S3x2x128x128 .f32 := fun y => biasTile tbl (y 0).val (y 1) (y 2) (y 3)

theorem bias_final : (dat0 V c).arrAt 1 cfg0.N = biasAll (V c main_arg3) := by
  refine (dat0 V c).arrAt_eq_of_covers 1 _ (by decide +kernel) fun t _ y => ?_
  blk_simp
  rw [after0_1]
  idx_vars y
  have e : (win0_1.blk t).view.emb (ix4 y0 y1 y2 y3) = (ix4 ⟨t.val, (idx0 t).2.2.1⟩ y1 y2 y3 : S3x2x128x128.Idx) := by
    blk_ext [idx0 t]
  rw [e]
  have z : y0 = 0 := by omega
  subst z
  exact bias_point V c t y1 y2 y3

end Cert.KernelIdeal.Layer

end
-- ==== Proof.DilStages.lean ====
/- The dilated attention reference, stage by stage. -/
module

public import proofs.«01_k».proof.Proof.Gen.ReferenceIdeal.Run
public import Idealize.ShloMosaic.Lib.Pointwise

@[expose] public section

set_option maxRecDepth 16384

noncomputable section

namespace Cert.ReferenceIdeal.Layer

open Cert.ReferenceIdeal Cert.ReferenceIdeal.Gen Cert.ReferenceIdeal.Value Idealize.ShloMosaic Idealize.ShloMosaic.TcCoe Idealize.SL.Sem Idealize.ShloMosaic.StableHlo

section Stages
variable {F : FTy → Type} [FloatOps F] [Named F]

def st_v0 (x0 : (⟨S32768x128, .bf16⟩ : BufTy).Contents (Elt F)) : (⟨S32768x128, .f32⟩ : BufTy).Contents (Elt F) :=
  extf .f32 (x0) bitsLt_bf16_f32
def st_v1 (x0 : (⟨S32768x128, .bf16⟩ : BufTy).Contents (Elt F)) : (⟨S8x4096x2x64, .f32⟩ : BufTy).Contents (Elt F) :=
  shapeCast _ (st_v0 (F := F) x0) shapeCasts_S32768x128_S8x4096x2x64
def st_v2 (x1 : (⟨S32768x128, .bf16⟩ : BufTy).Contents (Elt F)) : (⟨S32768x128, .f32⟩ : BufTy).Contents (Elt F) :=
  extf .f32 (x1) bitsLt_bf16_f32
def st_v3 (x1 : (⟨S32768x128, .bf16⟩ : BufTy).Contents (Elt F)) : (⟨S8x4096x2x64, .f32⟩ : BufTy).Contents (Elt F) :=
  shapeCast _ (st_v2 (F := F) x1) shapeCasts_S32768x128_S8x4096x2x64
def st_v4 (x2 : (⟨S32768x128, .bf16⟩ : BufTy).Contents (Elt F)) : (⟨S32768x128, .f32⟩ : BufTy).Contents (Elt F) :=
  extf .f32 (x2) bitsLt_bf16_f32
def st_v5 (x2 : (⟨S32768x128, .bf16⟩ : BufTy).Contents (Elt F)) : (⟨S8x4096x2x64, .f32⟩ : BufTy).Contents (Elt F) :=
  shapeCast _ (st_v4 (F := F) x2) shapeCasts_S32768x128_S8x4096x2x64
def st_v6 (x3 : (⟨S32x16, .f32⟩ : BufTy).Contents (Elt F)) : (⟨S32x2, .f32⟩ : BufTy).Contents (Elt F) :=
  extractStridedSlice S32x2 ![0, 10] (x3) slices_S32x16_S32x2_0_10
def st_v7 (x3 : (⟨S32x16, .f32⟩ : BufTy).Contents (Elt F)) : (⟨S2x32, .f32⟩ : BufTy).Contents (Elt F) :=
  transpose S2x32 [1, 0] (st_v6 (F := F) x3) transposes_S32x2_S2x32_1_0
def st_v8 (x0 : (⟨S32768x128, .bf16⟩ : BufTy).Contents (Elt F)) : (⟨S8x4096x1x2x64, .f32⟩ : BufTy).Contents (Elt F) :=
  shapeCast _ (st_v1 (F := F) x0) shapeCasts_S8x4096x2x64_S8x4096x1x2x64
def st_v9 (x0 : (⟨S32768x128, .bf16⟩ : BufTy).Contents (Elt F)) : (⟨S8x1x2x4096x64, .f32⟩ : BufTy).Contents (Elt F) :=
  transpose S8x1x2x4096x64 [0, 2, 3, 1, 4] (st_v8 (F := F) x0) transposes_S8x4096x1x2x64_S8x1x2x4096x64_0_2_3_1_4
def st_c : (⟨S_, .i32⟩ : BufTy).Contents (Elt F) :=
  constantI S_ 32 0#32
def st_call0_v0 : (⟨S_, .f32⟩ : BufTy).Contents (Elt F) :=
  sitofp .f32 (st_c (F := F))
def st_v10 (x0 : (⟨S32768x128, .bf16⟩ : BufTy).Contents (Elt F)) : (⟨S8x1x2x4096x64, .f32⟩ : BufTy).Contents (Elt F) :=
  pad S8x1x2x4096x64 ![0, 0, 0, 0, 0] ![0, 0, 0, 0, 0] ![0, 0, 0, 0, 0] (st_v9 (F := F) x0) (st_call0_v0 (F := F)) pads_S8x1x2x4096x64_S8x1x2x4096x64_000_000_000_000_000 h_S_
def st_v11 (x0 : (⟨S32768x128, .bf16⟩ : BufTy).Contents (Elt F)) : (⟨S8x1x2x32x128x64, .f32⟩ : BufTy).Contents (Elt F) :=
  shapeCast _ (st_v10 (F := F) x0) shapeCasts_S8x1x2x4096x64_S8x1x2x32x128x64
def st_v12 (x1 : (⟨S32768x128, .bf16⟩ : BufTy).Contents (Elt F)) : (⟨S8x4096x1x2x64, .f32⟩ : BufTy).Contents (Elt F) :=
  shapeCast _ (st_v3 (F := F) x1) shapeCasts_S8x4096x2x64_S8x4096x1x2x64
def st_v13 (x1 : (⟨S32768x128, .bf16⟩ : BufTy).Contents (Elt F)) : (⟨S8x1x2x4096x64, .f32⟩ : BufTy).Contents (Elt F) :=
  transpose S8x1x2x4096x64 [0, 2, 3, 1, 4] (st_v12 (F := F) x1) transposes_S8x4096x1x2x64_S8x1x2x4096x64_0_2_3_1_4
def st_c_0 : (⟨S_, .i32⟩ : BufTy).Contents (Elt F) :=
  constantI S_ 32 0#32
def st_call1_v0 : (⟨S_, .f32⟩ : BufTy).Contents (Elt F) :=
  sitofp .f32 (st_c_0 (F := F))
def st_v14 (x1 : (⟨S32768x128, .bf16⟩ : BufTy).Contents (Elt F)) : (⟨S8x1x2x4224x64, .f32⟩ : BufTy).Contents (Elt F) :=
  pad S8x1x2x4224x64 ![0, 0, 0, 128, 0] ![0, 0, 0, 0, 0] ![0, 0, 0, 0, 0] (st_v13 (F := F) x1) (st_call1_v0 (F := F)) pads_S8x1x2x4096x64_S8x1x2x4224x64_000_000_000_12800_000 h_S_
def st_v15 (x1 : (⟨S32768x128, .bf16⟩ : BufTy).Contents (Elt F)) : (⟨S8x1x2x4096x64, .f32⟩ : BufTy).Contents (Elt F) :=
  extractStridedSlice S8x1x2x4096x64 ![0, 0, 0, 0, 0] (st_v14 (F := F) x1) slices_S8x1x2x4224x64_S8x1x2x4096x64_0_0_0_0_0
def st_v16 (x1 : (⟨S32768x128, .bf16⟩ : BufTy).Contents (Elt F)) : (⟨S8x1x2x32x128x64, .f32⟩ : BufTy).Contents (Elt F) :=
  shapeCast _ (st_v15 (F := F) x1) shapeCasts_S8x1x2x4096x64_S8x1x2x32x128x64
def st_v17 (x1 : (⟨S32768x128, .bf16⟩ : BufTy).Contents (Elt F)) : (⟨S8x1x2x4096x64, .f32⟩ : BufTy).Contents (Elt F) :=
  extractStridedSlice S8x1x2x4096x64 ![0, 0, 0, 128, 0] (st_v14 (F := F) x1) slices_S8x1x2x4224x64_S8x1x2x4096x64_0_0_0_128_0
def st_v18 (x1 : (⟨S32768x128, .bf16⟩ : BufTy).Contents (Elt F)) : (⟨S8x1x2x32x128x64, .f32⟩ : BufTy).Contents (Elt F) :=
  shapeCast _ (st_v17 (F := F) x1) shapeCasts_S8x1x2x4096x64_S8x1x2x32x128x64
def st_v19 (x1 : (⟨S32768x128, .bf16⟩ : BufTy).Contents (Elt F)) : (⟨S8x1x2x32x256x64, .f32⟩ : BufTy).Contents (Elt F) :=
  concatenate S8x1x2x32x256x64 4 [⟨S8x1x2x32x128x64, (st_v16 (F := F) x1)⟩, ⟨S8x1x2x32x128x64, (st_v18 (F := F) x1)⟩] concatenates_S8x1x2x32x128x64_S8x1x2x32x128x64_S8x1x2x32x256x64_d4
def st_v20 (x2 : (⟨S32768x128, .bf16⟩ : BufTy).Contents (Elt F)) : (⟨S8x4096x1x2x64, .f32⟩ : BufTy).Contents (Elt F) :=
  shapeCast _ (st_v5 (F := F) x2) shapeCasts_S8x4096x2x64_S8x4096x1x2x64
def st_v21 (x2 : (⟨S32768x128, .bf16⟩ : BufTy).Contents (Elt F)) : (⟨S8x1x2x4096x64, .f32⟩ : BufTy).Contents (Elt F) :=
  transpose S8x1x2x4096x64 [0, 2, 3, 1, 4] (st_v20 (F := F) x2) transposes_S8x4096x1x2x64_S8x1x2x4096x64_0_2_3_1_4
def st_c_1 : (⟨S_, .i32⟩ : BufTy).Contents (Elt F) :=
  constantI S_ 32 0#32
def st_call2_v0 : (⟨S_, .f32⟩ : BufTy).Contents (Elt F) :=
  sitofp .f32 (st_c_1 (F := F))
def st_v22 (x2 : (⟨S32768x128, .bf16⟩ : BufTy).Contents (Elt F)) : (⟨S8x1x2x4224x64, .f32⟩ : BufTy).Contents (Elt F) :=
  pad S8x1x2x4224x64 ![0, 0, 0, 128, 0] ![0, 0, 0, 0, 0] ![0, 0, 0, 0, 0] (st_v21 (F := F) x2) (st_call2_v0 (F := F)) pads_S8x1x2x4096x64_S8x1x2x4224x64_000_000_000_12800_000 h_S_
def st_v23 (x2 : (⟨S32768x128, .bf16⟩ : BufTy).Contents (Elt F)) : (⟨S8x1x2x4096x64, .f32⟩ : BufTy).Contents (Elt F) :=
  extractStridedSlice S8x1x2x4096x64 ![0, 0, 0, 0, 0] (st_v22 (F := F) x2) slices_S8x1x2x4224x64_S8x1x2x4096x64_0_0_0_0_0
def st_v24 (x2 : (⟨S32768x128, .bf16⟩ : BufTy).Contents (Elt F)) : (⟨S8x1x2x32x128x64, .f32⟩ : BufTy).Contents (Elt F) :=
  shapeCast _ (st_v23 (F := F) x2) shapeCasts_S8x1x2x4096x64_S8x1x2x32x128x64
def st_v25 (x2 : (⟨S32768x128, .bf16⟩ : BufTy).Contents (Elt F)) : (⟨S8x1x2x4096x64, .f32⟩ : BufTy).Contents (Elt F) :=
  extractStridedSlice S8x1x2x4096x64 ![0, 0, 0, 128, 0] (st_v22 (F := F) x2) slices_S8x1x2x4224x64_S8x1x2x4096x64_0_0_0_128_0
def st_v26 (x2 : (⟨S32768x128, .bf16⟩ : BufTy).Contents (Elt F)) : (⟨S8x1x2x32x128x64, .f32⟩ : BufTy).Contents (Elt F) :=
  shapeCast _ (st_v25 (F := F) x2) shapeCasts_S8x1x2x4096x64_S8x1x2x32x128x64
def st_v27 (x2 : (⟨S32768x128, .bf16⟩ : BufTy).Contents (Elt F)) : (⟨S8x1x2x32x256x64, .f32⟩ : BufTy).Contents (Elt F) :=
  concatenate S8x1x2x32x256x64 4 [⟨S8x1x2x32x128x64, (st_v24 (F := F) x2)⟩, ⟨S8x1x2x32x128x64, (st_v26 (F := F) x2)⟩] concatenates_S8x1x2x32x128x64_S8x1x2x32x128x64_S8x1x2x32x256x64_d4
def st_v28 : (⟨S128, .i32⟩ : BufTy).Contents (Elt F) :=
  iotaInDim S128 32 0
def st_v29 : (⟨S256, .i32⟩ : BufTy).Contents (Elt F) :=
  iotaInDim S256 32 0
def st_v30 : (⟨S128x1, .i32⟩ : BufTy).Contents (Elt F) :=
  broadcastInDim S128x1 ![0] bcast_S128_S128x1_0 (st_v28 (F := F))
def st_c_2 : (⟨S_, .i32⟩ : BufTy).Contents (Elt F) :=
  constantI S_ 32 128#32
def st_v31 : (⟨S128x1, .i32⟩ : BufTy).Contents (Elt F) :=
  broadcastInDim S128x1 ![] bcast_S_S128x1 (st_c_2 (F := F))
def st_v32 : (⟨S128x1, .i32⟩ : BufTy).Contents (Elt F) :=
  addi (st_v31 (F := F)) (st_v30 (F := F))
def st_v33 : (⟨S1x256, .i32⟩ : BufTy).Contents (Elt F) :=
  broadcastInDim S1x256 ![1] bcast_S256_S1x256_1 (st_v29 (F := F))
def st_v34 : (⟨S128x256, .i32⟩ : BufTy).Contents (Elt F) :=
  broadcastInDim S128x256 ![0, 1] bcast_S128x1_S128x256_0_1 (st_v32 (F := F))
def st_v35 : (⟨S128x256, .i32⟩ : BufTy).Contents (Elt F) :=
  broadcastInDim S128x256 ![0, 1] bcast_S1x256_S128x256_0_1 (st_v33 (F := F))
def st_v36 : (⟨S128x256, .i32⟩ : BufTy).Contents (Elt F) :=
  subi (st_v34 (F := F)) (st_v35 (F := F))
def st_v37 : (⟨S32, .i32⟩ : BufTy).Contents (Elt F) :=
  iotaInDim S32 32 0
def st_v38 : (⟨S32x1, .i32⟩ : BufTy).Contents (Elt F) :=
  broadcastInDim S32x1 ![0] bcast_S32_S32x1_0 (st_v37 (F := F))
def st_c_3 : (⟨S_, .i32⟩ : BufTy).Contents (Elt F) :=
  constantI S_ 32 128#32
def st_v39 : (⟨S32x1, .i32⟩ : BufTy).Contents (Elt F) :=
  broadcastInDim S32x1 ![] bcast_S_S32x1 (st_c_3 (F := F))
def st_v40 : (⟨S32x1, .i32⟩ : BufTy).Contents (Elt F) :=
  muli (st_v38 (F := F)) (st_v39 (F := F))
def st_c_4 : (⟨S_, .i32⟩ : BufTy).Contents (Elt F) :=
  constantI S_ 32 128#32
def st_v41 : (⟨S32x1, .i32⟩ : BufTy).Contents (Elt F) :=
  broadcastInDim S32x1 ![] bcast_S_S32x1 (st_c_4 (F := F))
def st_v42 : (⟨S32x1, .i32⟩ : BufTy).Contents (Elt F) :=
  subi (st_v40 (F := F)) (st_v41 (F := F))
def st_v43 : (⟨S1x256, .i32⟩ : BufTy).Contents (Elt F) :=
  broadcastInDim S1x256 ![1] bcast_S256_S1x256_1 (st_v29 (F := F))
def st_v44 : (⟨S32x256, .i32⟩ : BufTy).Contents (Elt F) :=
  broadcastInDim S32x256 ![0, 1] bcast_S32x1_S32x256_0_1 (st_v42 (F := F))
def st_v45 : (⟨S32x256, .i32⟩ : BufTy).Contents (Elt F) :=
  broadcastInDim S32x256 ![0, 1] bcast_S1x256_S32x256_0_1 (st_v43 (F := F))
def st_v46 : (⟨S32x256, .i32⟩ : BufTy).Contents (Elt F) :=
  addi (st_v44 (F := F)) (st_v45 (F := F))
def st_c_5 : (⟨S_, .i32⟩ : BufTy).Contents (Elt F) :=
  constantI S_ 32 0#32
def st_v47 : (⟨S128x256, .i32⟩ : BufTy).Contents (Elt F) :=
  broadcastInDim S128x256 ![] bcast_S_S128x256 (st_c_5 (F := F))
def st_v48 : (⟨S128x256, .i1⟩ : BufTy).Contents (Elt F) :=
  cmpi .sge (st_v36 (F := F)) (st_v47 (F := F))
def st_c_6 : (⟨S_, .i32⟩ : BufTy).Contents (Elt F) :=
  constantI S_ 32 128#32
def st_v49 : (⟨S128x256, .i32⟩ : BufTy).Contents (Elt F) :=
  broadcastInDim S128x256 ![] bcast_S_S128x256 (st_c_6 (F := F))
def st_v50 : (⟨S128x256, .i1⟩ : BufTy).Contents (Elt F) :=
  cmpi .sle (st_v36 (F := F)) (st_v49 (F := F))
def st_v51 : (⟨S128x256, .i1⟩ : BufTy).Contents (Elt F) :=
  andi (st_v48 (F := F)) (st_v50 (F := F))
def st_v52 : (⟨S1x128x256, .i1⟩ : BufTy).Contents (Elt F) :=
  broadcastInDim S1x128x256 ![1, 2] bcast_S128x256_S1x128x256_1_2 (st_v51 (F := F))
def st_c_7 : (⟨S_, .i32⟩ : BufTy).Contents (Elt F) :=
  constantI S_ 32 0#32
def st_v53 : (⟨S32x256, .i32⟩ : BufTy).Contents (Elt F) :=
  broadcastInDim S32x256 ![] bcast_S_S32x256 (st_c_7 (F := F))
def st_v54 : (⟨S32x256, .i1⟩ : BufTy).Contents (Elt F) :=
  cmpi .sge (st_v46 (F := F)) (st_v53 (F := F))
def st_v55 : (⟨S32x1x256, .i1⟩ : BufTy).Contents (Elt F) :=
  broadcastInDim S32x1x256 ![0, 2] bcast_S32x256_S32x1x256_0_2 (st_v54 (F := F))
def st_v56 : (⟨S32x128x256, .i1⟩ : BufTy).Contents (Elt F) :=
  broadcastInDim S32x128x256 ![0, 1, 2] bcast_S1x128x256_S32x128x256_0_1_2 (st_v52 (F := F))
def st_v57 : (⟨S32x128x256, .i1⟩ : BufTy).Contents (Elt F) :=
  broadcastInDim S32x128x256 ![0, 1, 2] bcast_S32x1x256_S32x128x256_0_1_2 (st_v55 (F := F))
def st_v58 : (⟨S32x128x256, .i1⟩ : BufTy).Contents (Elt F) :=
  andi (st_v56 (F := F)) (st_v57 (F := F))
def st_c_8 : (⟨S_, .i32⟩ : BufTy).Contents (Elt F) :=
  constantI S_ 32 1#32
def st_v59 : (⟨S128x256, .i32⟩ : BufTy).Contents (Elt F) :=
  broadcastInDim S128x256 ![] bcast_S_S128x256 (st_c_8 (F := F))
def st_v60 : (⟨S128x256, .i32⟩ : BufTy).Contents (Elt F) :=
  muli (st_v36 (F := F)) (st_v59 (F := F))
def st_c_9 : (⟨S_, .i32⟩ : BufTy).Contents (Elt F) :=
  constantI S_ 32 0#32
def st_v61 : (⟨S128x256, .i32⟩ : BufTy).Contents (Elt F) :=
  broadcastInDim S128x256 ![] bcast_S_S128x256 (st_c_9 (F := F))
def st_v62 : (⟨S128x256, .i32⟩ : BufTy).Contents (Elt F) :=
  maxsi (st_v60 (F := F)) (st_v61 (F := F))
def st_c_10 : (⟨S_, .i32⟩ : BufTy).Contents (Elt F) :=
  constantI S_ 32 16#32
def st_v63 : (⟨S128x256, .i32⟩ : BufTy).Contents (Elt F) :=
  broadcastInDim S128x256 ![] bcast_S_S128x256 (st_c_10 (F := F))
def st_v64 : (⟨S128x256, .i32⟩ : BufTy).Contents (Elt F) :=
  maxsi (st_v62 (F := F)) (st_v63 (F := F))
def st_v65 : (⟨S128x256, .f32⟩ : BufTy).Contents (Elt F) :=
  sitofp .f32 (st_v64 (F := F))
def st_cst : (⟨S_, .f32⟩ : BufTy).Contents (Elt F) :=
  constant S_ .f32 0x41800000#32
def st_v66 : (⟨S128x256, .f32⟩ : BufTy).Contents (Elt F) :=
  broadcastInDim S128x256 ![] bcast_S_S128x256 (st_cst (F := F))
def st_v67 : (⟨S128x256, .f32⟩ : BufTy).Contents (Elt F) :=
  Host.divf (st_v65 (F := F)) (st_v66 (F := F))
def st_v68 : (⟨S128x256, .f32⟩ : BufTy).Contents (Elt F) :=
  Host.log (st_v67 (F := F))
def st_cst_11 : (⟨S_, .f32⟩ : BufTy).Contents (Elt F) :=
  constant S_ .f32 0x409B43D5#32
def st_v69 : (⟨S128x256, .f32⟩ : BufTy).Contents (Elt F) :=
  broadcastInDim S128x256 ![] bcast_S_S128x256 (st_cst_11 (F := F))
def st_v70 : (⟨S128x256, .f32⟩ : BufTy).Contents (Elt F) :=
  Host.divf (st_v68 (F := F)) (st_v69 (F := F))
def st_cst_12 : (⟨S_, .f32⟩ : BufTy).Contents (Elt F) :=
  constant S_ .f32 0x41800000#32
def st_v71 : (⟨S128x256, .f32⟩ : BufTy).Contents (Elt F) :=
  broadcastInDim S128x256 ![] bcast_S_S128x256 (st_cst_12 (F := F))
def st_v72 : (⟨S128x256, .f32⟩ : BufTy).Contents (Elt F) :=
  mulf (st_v70 (F := F)) (st_v71 (F := F))
def st_v73 : (⟨S128x256, .i32⟩ : BufTy).Contents (Elt F) :=
  fptosi 32 (st_v72 (F := F))
def st_c_13 : (⟨S_, .i32⟩ : BufTy).Contents (Elt F) :=
  constantI S_ 32 16#32
def st_v74 : (⟨S128x256, .i32⟩ : BufTy).Contents (Elt F) :=
  broadcastInDim S128x256 ![] bcast_S_S128x256 (st_c_13 (F := F))
def st_v75 : (⟨S128x256, .i32⟩ : BufTy).Contents (Elt F) :=
  addi (st_v74 (F := F)) (st_v73 (F := F))
def st_c_14 : (⟨S_, .i32⟩ : BufTy).Contents (Elt F) :=
  constantI S_ 32 31#32
def st_v76 : (⟨S128x256, .i32⟩ : BufTy).Contents (Elt F) :=
  broadcastInDim S128x256 ![] bcast_S_S128x256 (st_c_14 (F := F))
def st_v77 : (⟨S128x256, .i32⟩ : BufTy).Contents (Elt F) :=
  minsi (st_v75 (F := F)) (st_v76 (F := F))
def st_c_15 : (⟨S_, .i32⟩ : BufTy).Contents (Elt F) :=
  constantI S_ 32 16#32
def st_v78 : (⟨S128x256, .i32⟩ : BufTy).Contents (Elt F) :=
  broadcastInDim S128x256 ![] bcast_S_S128x256 (st_c_15 (F := F))
def st_v79 : (⟨S128x256, .i1⟩ : BufTy).Contents (Elt F) :=
  cmpi .slt (st_v62 (F := F)) (st_v78 (F := F))
def st_v80 : (⟨S128x256, .i32⟩ : BufTy).Contents (Elt F) :=
  select (st_v79 (F := F)) (st_v62 (F := F)) (st_v77 (F := F))
def st_c_16 : (⟨S_, .i32⟩ : BufTy).Contents (Elt F) :=
  constantI S_ 32 0#32
def st_v81 : (⟨S128x256, .i32⟩ : BufTy).Contents (Elt F) :=
  broadcastInDim S128x256 ![] bcast_S_S128x256 (st_c_16 (F := F))
def st_v82 : (⟨S128x256, .i1⟩ : BufTy).Contents (Elt F) :=
  cmpi .slt (st_v80 (F := F)) (st_v81 (F := F))
def st_c_17 : (⟨S_, .i32⟩ : BufTy).Contents (Elt F) :=
  constantI S_ 32 32#32
def st_v83 : (⟨S128x256, .i32⟩ : BufTy).Contents (Elt F) :=
  broadcastInDim S128x256 ![] bcast_S_S128x256 (st_c_17 (F := F))
def st_v84 : (⟨S128x256, .i32⟩ : BufTy).Contents (Elt F) :=
  addi (st_v80 (F := F)) (st_v83 (F := F))
def st_v85 : (⟨S128x256, .i32⟩ : BufTy).Contents (Elt F) :=
  select (st_v82 (F := F)) (st_v84 (F := F)) (st_v80 (F := F))
def st_v86 : (⟨S128x256x1, .i32⟩ : BufTy).Contents (Elt F) :=
  broadcastInDim S128x256x1 ![0, 1] bcast_S128x256_S128x256x1_0_1 (st_v85 (F := F))
def st_v87 (x3 : (⟨S32x16, .f32⟩ : BufTy).Contents (Elt F)) : (⟨S2x128x256, .f32⟩ : BufTy).Contents (Elt F) :=
  Host.gather gather_S2x32_S128x256x1_S2x128x256_0_1_n_n_1_2_21 (st_v7 (F := F) x3) (st_v86 (F := F))
def st_v88 (x0 x1 : (⟨S32768x128, .bf16⟩ : BufTy).Contents (Elt F)) : (⟨S8x1x2x32x128x256, .f32⟩ : BufTy).Contents (Elt F) :=
  Host.dotGeneral dot_S8x1x2x32x128x64_S8x1x2x32x256x64_S8x1x2x32x128x256_5_5_4_4_0123_0123 none (st_v11 (F := F) x0) (st_v19 (F := F) x1)
def st_v89 (x3 : (⟨S32x16, .f32⟩ : BufTy).Contents (Elt F)) : (⟨S1x1x2x1x128x256, .f32⟩ : BufTy).Contents (Elt F) :=
  broadcastInDim S1x1x2x1x128x256 ![2, 4, 5] bcast_S2x128x256_S1x1x2x1x128x256_2_4_5 (st_v87 (F := F) x3)
def st_v90 (x3 : (⟨S32x16, .f32⟩ : BufTy).Contents (Elt F)) : (⟨S8x1x2x32x128x256, .f32⟩ : BufTy).Contents (Elt F) :=
  broadcastInDim S8x1x2x32x128x256 ![0, 1, 2, 3, 4, 5] bcast_S1x1x2x1x128x256_S8x1x2x32x128x256_0_1_2_3_4_5 (st_v89 (F := F) x3)
def st_v91 (x0 x1 : (⟨S32768x128, .bf16⟩ : BufTy).Contents (Elt F)) (x3 : (⟨S32x16, .f32⟩ : BufTy).Contents (Elt F)) : (⟨S8x1x2x32x128x256, .f32⟩ : BufTy).Contents (Elt F) :=
  addf (st_v88 (F := F) x0 x1) (st_v90 (F := F) x3)
def st_cst_18 : (⟨S_, .f32⟩ : BufTy).Contents (Elt F) :=
  constant S_ .f32 0xFF800000#32
def st_call4_v0 : (⟨S_, .f32⟩ : BufTy).Contents (Elt F) :=
  id (st_cst_18 (F := F))
def st_call4_v1 : (⟨S8x1x2x32x128x256, .i1⟩ : BufTy).Contents (Elt F) :=
  broadcastInDim S8x1x2x32x128x256 ![3, 4, 5] bcast_S32x128x256_S8x1x2x32x128x256_3_4_5 (st_v58 (F := F))
def st_call4_v2 : (⟨S8x1x2x32x128x256, .f32⟩ : BufTy).Contents (Elt F) :=
  broadcastInDim S8x1x2x32x128x256 ![] bcast_S_S8x1x2x32x128x256 (st_call4_v0 (F := F))
def st_v92 (x0 x1 : (⟨S32768x128, .bf16⟩ : BufTy).Contents (Elt F)) (x3 : (⟨S32x16, .f32⟩ : BufTy).Contents (Elt F)) : (⟨S8x1x2x32x128x256, .f32⟩ : BufTy).Contents (Elt F) :=
  select (st_call4_v1 (F := F)) (st_v91 (F := F) x0 x1 x3) (st_call4_v2 (F := F))
def st_cst_19 : (⟨S_, .f32⟩ : BufTy).Contents (Elt F) :=
  constant S_ .f32 0xFF800000#32
def st_v93 (x0 x1 : (⟨S32768x128, .bf16⟩ : BufTy).Contents (Elt F)) (x3 : (⟨S32x16, .f32⟩ : BufTy).Contents (Elt F)) : (⟨S8x1x2x32x128, .f32⟩ : BufTy).Contents (Elt F) :=
  Host.reduce FloatOps.maximumf (st_v92 (F := F) x0 x1 x3) (st_cst_19 (F := F)) reducesTo_S8x1x2x32x128x256_S8x1x2x32x128_d5 h_S_
def st_v94 (x0 x1 : (⟨S32768x128, .bf16⟩ : BufTy).Contents (Elt F)) (x3 : (⟨S32x16, .f32⟩ : BufTy).Contents (Elt F)) : (⟨S8x1x2x32x128x1, .f32⟩ : BufTy).Contents (Elt F) :=
  broadcastInDim S8x1x2x32x128x1 ![0, 1, 2, 3, 4] bcast_S8x1x2x32x128_S8x1x2x32x128x1_0_1_2_3_4 (st_v93 (F := F) x0 x1 x3)
def st_v95 (x0 x1 : (⟨S32768x128, .bf16⟩ : BufTy).Contents (Elt F)) (x3 : (⟨S32x16, .f32⟩ : BufTy).Contents (Elt F)) : (⟨S8x1x2x32x128x256, .f32⟩ : BufTy).Contents (Elt F) :=
  broadcastInDim S8x1x2x32x128x256 ![0, 1, 2, 3, 4, 5] bcast_S8x1x2x32x128x1_S8x1x2x32x128x256_0_1_2_3_4_5 (st_v94 (F := F) x0 x1 x3)
def st_v96 (x0 x1 : (⟨S32768x128, .bf16⟩ : BufTy).Contents (Elt F)) (x3 : (⟨S32x16, .f32⟩ : BufTy).Contents (Elt F)) : (⟨S8x1x2x32x128x256, .f32⟩ : BufTy).Contents (Elt F) :=
  subf (st_v92 (F := F) x0 x1 x3) (st_v95 (F := F) x0 x1 x3)
def st_v97 (x0 x1 : (⟨S32768x128, .bf16⟩ : BufTy).Contents (Elt F)) (x3 : (⟨S32x16, .f32⟩ : BufTy).Contents (Elt F)) : (⟨S8x1x2x32x128x256, .f32⟩ : BufTy).Contents (Elt F) :=
  Host.exp (st_v96 (F := F) x0 x1 x3)
def st_cst_20 : (⟨S_, .f32⟩ : BufTy).Contents (Elt F) :=
  constant S_ .f32 0x00000000#32
def st_call5_v0 : (⟨S_, .f32⟩ : BufTy).Contents (Elt F) :=
  id (st_cst_20 (F := F))
def st_call5_v1 : (⟨S8x1x2x32x128x256, .i1⟩ : BufTy).Contents (Elt F) :=
  broadcastInDim S8x1x2x32x128x256 ![3, 4, 5] bcast_S32x128x256_S8x1x2x32x128x256_3_4_5 (st_v58 (F := F))
def st_call5_v2 : (⟨S8x1x2x32x128x256, .f32⟩ : BufTy).Contents (Elt F) :=
  broadcastInDim S8x1x2x32x128x256 ![] bcast_S_S8x1x2x32x128x256 (st_call5_v0 (F := F))
def st_v98 (x0 x1 : (⟨S32768x128, .bf16⟩ : BufTy).Contents (Elt F)) (x3 : (⟨S32x16, .f32⟩ : BufTy).Contents (Elt F)) : (⟨S8x1x2x32x128x256, .f32⟩ : BufTy).Contents (Elt F) :=
  select (st_call5_v1 (F := F)) (st_v97 (F := F) x0 x1 x3) (st_call5_v2 (F := F))
def st_cst_21 : (⟨S_, .f32⟩ : BufTy).Contents (Elt F) :=
  constant S_ .f32 0x00000000#32
def st_v99 (x0 x1 : (⟨S32768x128, .bf16⟩ : BufTy).Contents (Elt F)) (x3 : (⟨S32x16, .f32⟩ : BufTy).Contents (Elt F)) : (⟨S8x1x2x32x128, .f32⟩ : BufTy).Contents (Elt F) :=
  Host.reduceAdd (st_v98 (F := F) x0 x1 x3) (st_cst_21 (F := F)) reducesTo_S8x1x2x32x128x256_S8x1x2x32x128_d5 h_S_
def st_v100 (x0 x1 : (⟨S32768x128, .bf16⟩ : BufTy).Contents (Elt F)) (x3 : (⟨S32x16, .f32⟩ : BufTy).Contents (Elt F)) : (⟨S8x1x2x32x128x1, .f32⟩ : BufTy).Contents (Elt F) :=
  broadcastInDim S8x1x2x32x128x1 ![0, 1, 2, 3, 4] bcast_S8x1x2x32x128_S8x1x2x32x128x1_0_1_2_3_4 (st_v99 (F := F) x0 x1 x3)
def st_cst_22 : (⟨S_, .f32⟩ : BufTy).Contents (Elt F) :=
  constant S_ .f32 0x0DA24260#32
def st_v101 : (⟨S8x1x2x32x128x1, .f32⟩ : BufTy).Contents (Elt F) :=
  broadcastInDim S8x1x2x32x128x1 ![] bcast_S_S8x1x2x32x128x1 (st_cst_22 (F := F))
def st_v102 (x0 x1 : (⟨S32768x128, .bf16⟩ : BufTy).Contents (Elt F)) (x3 : (⟨S32x16, .f32⟩ : BufTy).Contents (Elt F)) : (⟨S8x1x2x32x128x1, .f32⟩ : BufTy).Contents (Elt F) :=
  maximumf (st_v100 (F := F) x0 x1 x3) (st_v101 (F := F))
def st_v103 (x0 x1 : (⟨S32768x128, .bf16⟩ : BufTy).Contents (Elt F)) (x3 : (⟨S32x16, .f32⟩ : BufTy).Contents (Elt F)) : (⟨S8x1x2x32x128x256, .f32⟩ : BufTy).Contents (Elt F) :=
  broadcastInDim S8x1x2x32x128x256 ![0, 1, 2, 3, 4, 5] bcast_S8x1x2x32x128x1_S8x1x2x32x128x256_0_1_2_3_4_5 (st_v102 (F := F) x0 x1 x3)
def st_v104 (x0 x1 : (⟨S32768x128, .bf16⟩ : BufTy).Contents (Elt F)) (x3 : (⟨S32x16, .f32⟩ : BufTy).Contents (Elt F)) : (⟨S8x1x2x32x128x256, .f32⟩ : BufTy).Contents (Elt F) :=
  Host.divf (st_v98 (F := F) x0 x1 x3) (st_v103 (F := F) x0 x1 x3)
def st_v105 (x0 x1 : (⟨S32768x128, .bf16⟩ : BufTy).Contents (Elt F)) (x3 : (⟨S32x16, .f32⟩ : BufTy).Contents (Elt F)) : (⟨S8x1x2x32x128x1, .f32⟩ : BufTy).Contents (Elt F) :=
  Host.log (st_v102 (F := F) x0 x1 x3)
def st_v106 (x0 x1 : (⟨S32768x128, .bf16⟩ : BufTy).Contents (Elt F)) (x3 : (⟨S32x16, .f32⟩ : BufTy).Contents (Elt F)) : (⟨S8x1x2x32x128x1, .f32⟩ : BufTy).Contents (Elt F) :=
  addf (st_v94 (F := F) x0 x1 x3) (st_v105 (F := F) x0 x1 x3)
def st_v107 (x0 x1 : (⟨S32768x128, .bf16⟩ : BufTy).Contents (Elt F)) (x3 : (⟨S32x16, .f32⟩ : BufTy).Contents (Elt F)) : (⟨S8x1x2x32x128, .f32⟩ : BufTy).Contents (Elt F) :=
  shapeCast _ (st_v106 (F := F) x0 x1 x3) shapeCasts_S8x1x2x32x128x1_S8x1x2x32x128
def st_v108 (x0 x1 x2 : (⟨S32768x128, .bf16⟩ : BufTy).Contents (Elt F)) (x3 : (⟨S32x16, .f32⟩ : BufTy).Contents (Elt F)) : (⟨S8x1x2x32x128x64, .f32⟩ : BufTy).Contents (Elt F) :=
  Host.dotGeneral dot_S8x1x2x32x128x256_S8x1x2x32x256x64_S8x1x2x32x128x64_5_4_4_5_0123_0123 none (st_v104 (F := F) x0 x1 x3) (st_v27 (F := F) x2)
def st_v109 (x0 x1 x2 : (⟨S32768x128, .bf16⟩ : BufTy).Contents (Elt F)) (x3 : (⟨S32x16, .f32⟩ : BufTy).Contents (Elt F)) : (⟨S8x1x2x4096x64, .f32⟩ : BufTy).Contents (Elt F) :=
  shapeCast _ (st_v108 (F := F) x0 x1 x2 x3) shapeCasts_S8x1x2x32x128x64_S8x1x2x4096x64
def st_v110 (x0 x1 x2 : (⟨S32768x128, .bf16⟩ : BufTy).Contents (Elt F)) (x3 : (⟨S32x16, .f32⟩ : BufTy).Contents (Elt F)) : (⟨S8x4096x1x2x64, .f32⟩ : BufTy).Contents (Elt F) :=
  transpose S8x4096x1x2x64 [0, 3, 1, 2, 4] (st_v109 (F := F) x0 x1 x2 x3) transposes_S8x1x2x4096x64_S8x4096x1x2x64_0_3_1_2_4
def st_v111 (x0 x1 x2 : (⟨S32768x128, .bf16⟩ : BufTy).Contents (Elt F)) (x3 : (⟨S32x16, .f32⟩ : BufTy).Contents (Elt F)) : (⟨S8x4096x2x64, .f32⟩ : BufTy).Contents (Elt F) :=
  shapeCast _ (st_v110 (F := F) x0 x1 x2 x3) shapeCasts_S8x4096x1x2x64_S8x4096x2x64
def st_v112 (x0 x1 : (⟨S32768x128, .bf16⟩ : BufTy).Contents (Elt F)) (x3 : (⟨S32x16, .f32⟩ : BufTy).Contents (Elt F)) : (⟨S8x1x2x4096, .f32⟩ : BufTy).Contents (Elt F) :=
  shapeCast _ (st_v107 (F := F) x0 x1 x3) shapeCasts_S8x1x2x32x128_S8x1x2x4096
def st_v113 (x0 x1 : (⟨S32768x128, .bf16⟩ : BufTy).Contents (Elt F)) (x3 : (⟨S32x16, .f32⟩ : BufTy).Contents (Elt F)) : (⟨S8x4096x1x2, .f32⟩ : BufTy).Contents (Elt F) :=
  transpose S8x4096x1x2 [0, 3, 1, 2] (st_v112 (F := F) x0 x1 x3) transposes_S8x1x2x4096_S8x4096x1x2_0_3_1_2
def st_v114 (x0 x1 : (⟨S32768x128, .bf16⟩ : BufTy).Contents (Elt F)) (x3 : (⟨S32x16, .f32⟩ : BufTy).Contents (Elt F)) : (⟨S8x4096x2, .f32⟩ : BufTy).Contents (Elt F) :=
  shapeCast _ (st_v113 (F := F) x0 x1 x3) shapeCasts_S8x4096x1x2_S8x4096x2
def st_v115 (x0 x1 : (⟨S32768x128, .bf16⟩ : BufTy).Contents (Elt F)) (x3 : (⟨S32x16, .f32⟩ : BufTy).Contents (Elt F)) : (⟨S8x4096x2x1, .f32⟩ : BufTy).Contents (Elt F) :=
  broadcastInDim S8x4096x2x1 ![0, 1, 2] bcast_S8x4096x2_S8x4096x2x1_0_1_2 (st_v114 (F := F) x0 x1 x3)
def st_v116 (x0 x1 : (⟨S32768x128, .bf16⟩ : BufTy).Contents (Elt F)) (x3 : (⟨S32x16, .f32⟩ : BufTy).Contents (Elt F)) : (⟨S8x4096x2x64, .f32⟩ : BufTy).Contents (Elt F) :=
  broadcastInDim S8x4096x2x64 ![0, 1, 2, 3] bcast_S8x4096x2x1_S8x4096x2x64_0_1_2_3 (st_v115 (F := F) x0 x1 x3)
def st_v117 (x0 x1 x2 : (⟨S32768x128, .bf16⟩ : BufTy).Contents (Elt F)) (x3 : (⟨S32x16, .f32⟩ : BufTy).Contents (Elt F)) : (⟨S32768x128, .f32⟩ : BufTy).Contents (Elt F) :=
  shapeCast _ (st_v111 (F := F) x0 x1 x2 x3) shapeCasts_S8x4096x2x64_S32768x128
def st_v118 (x0 x1 : (⟨S32768x128, .bf16⟩ : BufTy).Contents (Elt F)) (x3 : (⟨S32x16, .f32⟩ : BufTy).Contents (Elt F)) : (⟨S32768x128, .f32⟩ : BufTy).Contents (Elt F) :=
  shapeCast _ (st_v116 (F := F) x0 x1 x3) shapeCasts_S8x4096x2x64_S32768x128

end Stages

theorem out0_eq (m : (ℓ : Loc nD τ sig) → Buf (Elt Ideal) ℓ) (c : Dev nD) :
    Cert.ReferenceIdeal.Value.res_main_v117 m c = st_v117 (F := Ideal) (m ((c.tc : Thread nD τ).loc main_arg0)) (m ((c.tc : Thread nD τ).loc main_arg1)) (m ((c.tc : Thread nD τ).loc main_arg2)) (m ((c.tc : Thread nD τ).loc main_arg3)) := by
  unfold Cert.ReferenceIdeal.Value.res_main_v117; rfl

theorem out1_eq (m : (ℓ : Loc nD τ sig) → Buf (Elt Ideal) ℓ) (c : Dev nD) :
    Cert.ReferenceIdeal.Value.res_main_v118 m c = st_v118 (F := Ideal) (m ((c.tc : Thread nD τ).loc main_arg0)) (m ((c.tc : Thread nD τ).loc main_arg1)) (m ((c.tc : Thread nD τ).loc main_arg3)) := by
  unfold Cert.ReferenceIdeal.Value.res_main_v118; rfl

end Cert.ReferenceIdeal.Layer

end
-- ==== Proof.DilGather.lean ====
/- The table's rows the dilated attention reference gathers. -/
module

public import proofs.«01_k».proof.Proof.DilStages
public import proofs.«01_k».proof.Proof.DilBucket

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

variable (q k v : FVec Ideal S32768x128 .bf16) (tbl : FVec Ideal S32x16 .f32)
  (b : Fin 8) (h : Fin 2) (n : Fin 32) (i : Fin 128) (c : Fin 256) (e : Fin 64)

theorem bias_raw : st_v87 (F := Ideal) tbl (ix3 h i c) = tbl (ix2 ⟨min (st_v85 (F := Ideal) (ix2 i c)).toInt.toNat 31, by omega⟩ ⟨10 + h.val, by omega⟩) := by
  unfold st_v87 Host.gather
  have e : ∀ (y : S2x32.Idx) (z : Fin 32), y = ix2 h z → st_v7 (F := Ideal) tbl y = tbl (ix2 z ⟨10 + h.val, by omega⟩) := by
    rintro _ z rfl
    pointwise! [st_v7, st_v6]
  refine e _ _ ?_
  funext a
  refine Fin.ext ?_
  match a with
  | ⟨0, _⟩ =>
    show gather_S2x32_S128x256x1_S2x128x256_0_1_n_n_1_2_21.start (ix3 h i c) (st_v86 (F := Ideal)) (0 : Fin 2) + gather_S2x32_S128x256x1_S2x128x256_0_1_n_n_1_2_21.batchCoord (ix3 h i c) (0 : Fin 2)
      + gather_S2x32_S128x256x1_S2x128x256_0_1_n_n_1_2_21.offCoord (ix3 h i c) (0 : Fin 2) = h.val
    rw [GatherDims.batchCoord_eq_zero _ _ _ List.not_mem_nil]
    unfold GatherDims.start GatherDims.offCoord
    rw [dif_neg (by decide), dif_pos (by decide), Nat.add_zero, Nat.zero_add]
    rfl
  | ⟨1, _⟩ =>
    show gather_S2x32_S128x256x1_S2x128x256_0_1_n_n_1_2_21.start (ix3 h i c) (st_v86 (F := Ideal)) (1 : Fin 2) + gather_S2x32_S128x256x1_S2x128x256_0_1_n_n_1_2_21.batchCoord (ix3 h i c) (1 : Fin 2)
      + gather_S2x32_S128x256x1_S2x128x256_0_1_n_n_1_2_21.offCoord (ix3 h i c) (1 : Fin 2) = min (BitVec.toInt (st_v85 (F := Ideal) (ix2 i c))).toNat 31
    have e2 : ∀ y : S128x256x1.Idx, y = ix3 i c 0 → st_v86 (F := Ideal) y = st_v85 (F := Ideal) (ix2 i c) := by
      rintro _ rfl
      pointwise [st_v86]
    generalize (st_v85 (F := Ideal) (ix2 i c)) = B at e2 ⊢
    generalize (st_v86 (F := Ideal)) = I at e2 ⊢
    rw [GatherDims.batchCoord_eq_zero _ _ _ List.not_mem_nil, GatherDims.offCoord_eq_zero _ _ _ (by decide)]
    unfold GatherDims.start
    rw [dif_pos (by decide)]
    rw [e2 _ (by
      funext b; refine Fin.ext ?_
      match b with
      | ⟨0, _⟩ => rfl
      | ⟨1, _⟩ => rfl
      | ⟨2, _⟩ => rfl)]
    rfl

end Cert.ReferenceIdeal.Layer

end
-- ==== Proof.DilReference.lean ====
/- The dilated attention reference's result read at one element. -/
module

public import proofs.«01_k».proof.Proof.DilGather
public import proofs.«01_k».proof.Proof.DilBucket

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

variable (q k v : FVec Ideal S32768x128 .bf16) (tbl : FVec Ideal S32x16 .f32)
  (b : Fin 8) (h : Fin 2) (n : Fin 32) (i : Fin 128) (c : Fin 256) (e : Fin 64)

/-- The query's element `(b, n*128+i, h*64+e)`. -/
abbrev qAt : EReal := q (ix2 ⟨b.val * 4096 + n.val * 128 + i.val, by omega⟩ ⟨h.val * 64 + e.val, by omega⟩)

/-- The key (or value) of lane `c` of block `n`: the `128` rows before the block and the block's own; zero where there is none. -/
def keyAt : EReal :=
  if hc : n.val * 128 + c.val < 128 then 0
  else k (ix2 ⟨b.val * 4096 + (n.val * 128 + c.val - 128), by omega⟩ ⟨h.val * 64 + e.val, by omega⟩)

/-- Lane `c` is in the window of query `i` of block `n`. -/
abbrev Kept : Prop := i.val ≤ c.val ∧ c.val ≤ 128 + i.val ∧ 128 ≤ n.val * 128 + c.val

/-- The masked logit. -/
def logit : EReal :=
  if Kept n i c then (∑ e : Fin 64, qAt q b h n i e * keyAt k b h n c e)
    + tbl (ix2 (DilMath.bk (128 + i.val - c.val)) ⟨10 + h.val, by omega⟩)
  else ⊥

set_option maxHeartbeats 1600000 in
theorem q_raw : st_v11 (F := Ideal) q (ix6 b 0 h n i e) = qAt q b h n i e := by
  unfold qAt
  pointwise [st_v11, st_v10, st_v9, st_v8, st_v1, st_v0, st_call0_v0, st_c]
  rw [dif_pos (by omega)]
  refine congrArg q ?_
  refine congrArg₂ ix2 (Fin.ext ?_) (Fin.ext ?_) <;> show _ = _ <;> dsimp only <;> omega

set_option maxHeartbeats 1600000 in
theorem k_raw : st_v19 (F := Ideal) k (ix6 b 0 h n c e) = keyAt k b h n c e := by
  unfold keyAt
  pointwise [st_v19, st_v18, st_v17, st_v16, st_v15, st_v14, st_v13, st_v12, st_v3, st_v2, st_call1_v0, st_c_0]
  have z : (FloatOps.sitofp (F := Ideal) .bf16 0#32 : EReal) = 0 := by
    show (((0#32).toInt : ℝ) : EReal) = 0
    simp
  repeat' split
  all_goals first
    | omega
    | exact z
    | (refine congrArg k ?_; refine congrArg₂ ix2 (Fin.ext ?_) (Fin.ext ?_) <;> show _ = _ <;> dsimp only <;> omega)

set_option maxHeartbeats 1600000 in
theorem v_raw : st_v27 (F := Ideal) v (ix6 b 0 h n c e) = keyAt v b h n c e := by
  unfold keyAt
  pointwise [st_v27, st_v26, st_v25, st_v24, st_v23, st_v22, st_v21, st_v20, st_v5, st_v4, st_call2_v0, st_c_1]
  have z : (FloatOps.sitofp (F := Ideal) .bf16 0#32 : EReal) = 0 := by
    show (((0#32).toInt : ℝ) : EReal) = 0
    simp
  repeat' split
  all_goals first
    | omega
    | exact z
    | (refine congrArg v ?_; refine congrArg₂ ix2 (Fin.ext ?_) (Fin.ext ?_) <;> show _ = _ <;> dsimp only <;> omega)

theorem bucket_raw : st_v85 (F := Ideal) (ix2 i c)
    = (fun B : BitVec 32 => Scalar.select (IntOp.cmpi .slt B 0#32) (IntOp.addi B 32#32) B)
      (DilMath.bucket (IntOp.subi (IntOp.addi 128#32 (BitVec.ofNat 32 i.val)) (BitVec.ofNat 32 c.val))) := by
  unfold DilMath.bucket DilMath.step DilMath.dist
  pointwise [st_v85, st_v84, st_v83, st_v82, st_v81, st_v80, st_v79, st_v78, st_v77, st_v76, st_v75, st_v74, st_v73, st_v72, st_v71, st_v70, st_v69, st_v68, st_v67, st_v66, st_v65, st_v64, st_v63, st_v62, st_v61, st_v60, st_v59, st_v36, st_v35, st_v34, st_v33, st_v32, st_v31, st_v30, st_v29, st_v28, st_c_2, st_c_8, st_c_9, st_c_10, st_cst, st_cst_11, st_cst_12, st_c_13, st_c_14, st_c_15, st_c_16, st_c_17]
  rfl

theorem sub_word : ∀ (i : Fin 128) (c : Fin 256), c.val ≤ 128 + i.val →
    IntOp.subi (IntOp.addi 128#32 (BitVec.ofNat 32 i.val)) (BitVec.ofNat 32 c.val) = BitVec.ofNat 32 (128 + i.val - c.val) := by
  intro i c hc
  refine BitVec.eq_of_toNat_eq ?_
  simp only [IntOp.subi, IntOp.addi, BitVec.toNat_sub, BitVec.toNat_add, BitVec.toNat_ofNat]
  omega

set_option maxHeartbeats 1600000 in
theorem window_low (i : Fin 128) (c : Fin 256) :
    IntOp.cmpi .sge (IntOp.subi (IntOp.addi 128#32 (BitVec.ofNat 32 i.val)) (BitVec.ofNat 32 c.val)) 0#32 = (if c.val ≤ 128 + i.val then 1#1 else 0#1)
      ∧ IntOp.cmpi .sle (IntOp.subi (IntOp.addi 128#32 (BitVec.ofNat 32 i.val)) (BitVec.ofNat 32 c.val)) 128#32 = (if i.val ≤ c.val then 1#1 else 0#1) := by
  revert i c; decide +kernel

theorem window_first (n : Fin 32) (c : Fin 256) :
    IntOp.cmpi .sge (IntOp.addi (IntOp.subi (IntOp.muli (BitVec.ofNat 32 n.val) 128#32) 128#32) (BitVec.ofNat 32 c.val)) 0#32
      = if 128 ≤ n.val * 128 + c.val then 1#1 else 0#1 := by
  revert n c; decide +kernel

theorem window (n : Fin 32) (i : Fin 128) (c : Fin 256) :
    IntOp.andi
      (IntOp.andi
        (IntOp.cmpi .sge (IntOp.subi (IntOp.addi 128#32 (BitVec.ofNat 32 i.val)) (BitVec.ofNat 32 c.val)) 0#32)
        (IntOp.cmpi .sle (IntOp.subi (IntOp.addi 128#32 (BitVec.ofNat 32 i.val)) (BitVec.ofNat 32 c.val)) 128#32))
      (IntOp.cmpi .sge (IntOp.addi (IntOp.subi (IntOp.muli (BitVec.ofNat 32 n.val) 128#32) 128#32) (BitVec.ofNat 32 c.val)) 0#32)
      = if Kept n i c then 1#1 else 0#1 := by
  rw [(window_low i c).1, (window_low i c).2, window_first]
  by_cases h1 : i.val ≤ c.val <;> by_cases h2 : c.val ≤ 128 + i.val <;> by_cases h3 : 128 ≤ n.val * 128 + c.val <;>
    simp [h1, h2, h3, IntOp.andi]

theorem mask_raw : st_v58 (F := Ideal) (ix3 n i c) = if Kept n i c then 1#1 else 0#1 := by
  pointwise [st_v58, st_v57, st_v56, st_v55, st_v54, st_v53, st_v52, st_v51, st_v50, st_v49, st_v48, st_v47, st_v46, st_v45, st_v44, st_v43, st_v42, st_v41, st_v40, st_v39, st_v38, st_v37, st_v36, st_v35, st_v34, st_v33, st_v32, st_v31, st_v30, st_v29, st_v28, st_c_2, st_c_3, st_c_4, st_c_5, st_c_6, st_c_7]
  exact window n i c

theorem bias_kept (hk : Kept n i c) : st_v87 (F := Ideal) tbl (ix3 h i c) = tbl (ix2 (DilMath.bk (128 + i.val - c.val)) ⟨10 + h.val, by omega⟩) := by
  rw [bias_raw]
  refine congrArg (fun z => tbl (ix2 z _)) (Fin.ext ?_)
  show min (st_v85 (F := Ideal) (ix2 i c)).toInt.toNat 31 = (DilMath.bk (128 + i.val - c.val)).val
  rw [bucket_raw, sub_word i c hk.2.1, DilMath.bk_spec _ (by have := hk.1; omega)]
  exact DilMath.wrap_eq _

end Cert.ReferenceIdeal.Layer

end
-- ==== Proof.DilSoftmax.lean ====
/- The dilated attention reference's softmax read at one element. -/
module

public import proofs.«01_k».proof.Proof.DilReference

@[expose] public section

set_option maxRecDepth 16384

noncomputable section

namespace Cert.ReferenceIdeal.Layer

open Cert.ReferenceIdeal Cert.ReferenceIdeal.Gen Idealize.ShloMosaic Idealize.ShloMosaic.TcCoe Idealize.SL.Sem Idealize.ShloMosaic.StableHlo

variable (q k v : FVec Ideal S32768x128 .bf16) (tbl : FVec Ideal S32x16 .f32)
  (b : Fin 8) (h : Fin 2) (n : Fin 32) (i : Fin 128) (c : Fin 256) (e : Fin 64)

/-- The elements reduced into row `(b, h, n, i)` are its 256 lanes. -/
theorem row_fiber (x : S8x1x2x32x128x256.Idx) :
    reducesTo_S8x1x2x32x128x256_S8x1x2x32x128_d5.drop x = ix5 b 0 h n i ↔ ∃ c : Fin 256, ix6 b 0 h n i c = x := by
  constructor
  · intro e
    refine ⟨x 5, ?_⟩
    funext a; apply Fin.ext
    match a with
    | ⟨0, _⟩ => exact (congrArg Fin.val (congrFun e (0 : Fin 5))).symm
    | ⟨1, _⟩ => exact (congrArg Fin.val (congrFun e (1 : Fin 5))).symm
    | ⟨2, _⟩ => exact (congrArg Fin.val (congrFun e (2 : Fin 5))).symm
    | ⟨3, _⟩ => exact (congrArg Fin.val (congrFun e (3 : Fin 5))).symm
    | ⟨4, _⟩ => exact (congrArg Fin.val (congrFun e (4 : Fin 5))).symm
    | ⟨5, _⟩ => rfl
  · rintro ⟨c, rfl⟩
    funext a; apply Fin.ext
    match a with
    | ⟨0, _⟩ => rfl
    | ⟨1, _⟩ => rfl
    | ⟨2, _⟩ => rfl
    | ⟨3, _⟩ => rfl
    | ⟨4, _⟩ => rfl

theorem row_inj : Function.Injective (fun c : Fin 256 => (ix6 b 0 h n i c : S8x1x2x32x128x256.Idx)) :=
  fun _ _ e => congrFun e (5 : Fin 6)

theorem minus_inf : Ideal.ofBits .f32 0xFF800000#32 = ⊥ := by
  have h : ((4286578688 : ℕ) >>> 23) % 256 = 255 := by decide
  norm_num [Ideal.ofBits, Ideal.ieee, h]
  decide

theorem max_read (L : FVec Ideal S8x1x2x32x128x256 .f32) :
    Host.reduce FloatOps.maximumf L (constant S_ .f32 0xFF800000#32) reducesTo_S8x1x2x32x128x256_S8x1x2x32x128_d5 h_S_ (ix5 b 0 h n i)
      = DilMath.rowMax (fun c => L (ix6 b 0 h n i c)) := by
  pointwise
  rw [Finset.fold_filter_eq_fold_of_fiber max _ (fun c : Fin 256 => (ix6 b 0 h n i c : S8x1x2x32x128x256.Idx)) (row_inj b h n i) (row_fiber b h n i)]
  rw [minus_inf]; rfl

theorem sum_read (W : FVec Ideal S8x1x2x32x128x256 .f32) :
    Host.reduceAdd W (constant S_ .f32 0x00000000#32) reducesTo_S8x1x2x32x128x256_S8x1x2x32x128_d5 h_S_ (ix5 b 0 h n i)
      = ∑ c : Fin 256, W (ix6 b 0 h n i c) := by
  pointwise
  show (0 : EReal) + _ = _
  rw [zero_add]
  exact Finset.sum_filter_eq_sum_of_fiber _ (fun c : Fin 256 => (ix6 b 0 h n i c : S8x1x2x32x128x256.Idx)) (row_inj b h n i) (row_fiber b h n i) W

theorem select_read (m : IVec S32x128x256 1) (L : FVec Ideal S8x1x2x32x128x256 .f32) (w : BitVec 32) :
    select (broadcastInDim S8x1x2x32x128x256 ![3, 4, 5] bcast_S32x128x256_S8x1x2x32x128x256_3_4_5 m) L
      (broadcastInDim S8x1x2x32x128x256 ![] bcast_S_S8x1x2x32x128x256 (id (constant (F := Ideal) S_ .f32 w))) (ix6 b 0 h n i c)
      = Scalar.select (m (ix3 n i c)) (L (ix6 b 0 h n i c)) (Ideal.ofBits .f32 w) := by
  simp only [id]
  pointwise

theorem score_read (Q : FVec Ideal S8x1x2x32x128x64 .f32) (K : FVec Ideal S8x1x2x32x256x64 .f32) (B : FVec Ideal S2x128x256 .f32) :
    addf (Host.dotGeneral dot_S8x1x2x32x128x64_S8x1x2x32x256x64_S8x1x2x32x128x256_5_5_4_4_0123_0123 none Q K)
      (broadcastInDim S8x1x2x32x128x256 ![0, 1, 2, 3, 4, 5] bcast_S1x1x2x1x128x256_S8x1x2x32x128x256_0_1_2_3_4_5
        (broadcastInDim S1x1x2x1x128x256 ![2, 4, 5] bcast_S2x128x256_S1x1x2x1x128x256_2_4_5 B)) (ix6 b 0 h n i c)
      = (∑ e : Fin 64, Q (ix6 b 0 h n i e) * K (ix6 b 0 h n c e)) + B (ix3 h i c) := by
  pointwise

theorem logit_raw : st_v92 (F := Ideal) q k tbl (ix6 b 0 h n i c) = logit q k tbl b h n i c := by
  unfold st_v92 st_call4_v1 st_call4_v2 st_call4_v0 st_cst_18
  rw [select_read, mask_raw]
  unfold logit
  by_cases hk : Kept n i c
  · rw [if_pos hk, if_pos hk]
    unfold st_v91 st_v90 st_v89 st_v88
    show (addf _ _ : FVec Ideal S8x1x2x32x128x256 .f32) _ = _
    rw [score_read, bias_kept tbl h n i c hk]
    simp only [q_raw, k_raw]
  · rw [if_neg hk, if_neg hk]
    exact minus_inf

theorem max_raw : st_v93 (F := Ideal) q k tbl (ix5 b 0 h n i) = DilMath.rowMax (logit q k tbl b h n i) := by
  unfold st_v93 st_cst_19
  rw [max_read]
  simp only [logit_raw]

theorem expo_read (L : FVec Ideal S8x1x2x32x128x256 .f32) (M : FVec Ideal S8x1x2x32x128 .f32) :
    Host.exp (subf L (broadcastInDim S8x1x2x32x128x256 ![0, 1, 2, 3, 4, 5] bcast_S8x1x2x32x128x1_S8x1x2x32x128x256_0_1_2_3_4_5
      (broadcastInDim S8x1x2x32x128x1 ![0, 1, 2, 3, 4] bcast_S8x1x2x32x128_S8x1x2x32x128x1_0_1_2_3_4 M))) (ix6 b 0 h n i c)
      = Ideal.exp (L (ix6 b 0 h n i c) - M (ix5 b 0 h n i)) := by
  pointwise

theorem weight_raw : st_v98 (F := Ideal) q k tbl (ix6 b 0 h n i c) = DilMath.weight (logit q k tbl b h n i) c := by
  unfold st_v98 st_call5_v1 st_call5_v2 st_call5_v0 st_cst_20
  rw [select_read, mask_raw]
  by_cases hk : Kept n i c
  · rw [if_pos hk]
    unfold st_v97 st_v96 st_v95 st_v94
    show Host.exp _ _ = _
    rw [expo_read, logit_raw, max_raw]; rfl
  · rw [if_neg hk, DilMath.weight_bot _ _ (by unfold logit; rw [if_neg hk])]
    show Ideal.ofBits .f32 0x00000000#32 = 0
    norm_num [Ideal.ofBits, Ideal.ieee]

theorem floor_read (N : FVec Ideal S8x1x2x32x128 .f32) :
    maximumf (broadcastInDim S8x1x2x32x128x1 ![0, 1, 2, 3, 4] bcast_S8x1x2x32x128_S8x1x2x32x128x1_0_1_2_3_4 N)
      (broadcastInDim S8x1x2x32x128x1 ![] bcast_S_S8x1x2x32x128x1 (constant (F := Ideal) S_ .f32 0x0DA24260#32)) (ix6 b 0 h n i 0)
      = max (N (ix5 b 0 h n i)) DilMath.tiny := by
  unfold DilMath.tiny
  pointwise

theorem norm_raw : st_v102 (F := Ideal) q k tbl (ix6 b 0 h n i 0) = DilMath.norm (logit q k tbl b h n i) := by
  unfold st_v102 st_v101 st_v100 st_cst_22
  rw [floor_read]
  unfold st_v99 st_cst_21
  rw [sum_read]
  simp only [weight_raw]
  rfl

theorem lse_read (X : FVec Ideal S8x1x2x32x128x1 .f32) :
    shapeCast S32768x128 (broadcastInDim S8x4096x2x64 ![0, 1, 2, 3] bcast_S8x4096x2x1_S8x4096x2x64_0_1_2_3
      (broadcastInDim S8x4096x2x1 ![0, 1, 2] bcast_S8x4096x2_S8x4096x2x1_0_1_2
        (shapeCast S8x4096x2 (transpose S8x4096x1x2 [0, 3, 1, 2] (shapeCast S8x1x2x4096
          (shapeCast S8x1x2x32x128 X shapeCasts_S8x1x2x32x128x1_S8x1x2x32x128) shapeCasts_S8x1x2x32x128_S8x1x2x4096)
          transposes_S8x1x2x4096_S8x4096x1x2_0_3_1_2) shapeCasts_S8x4096x1x2_S8x4096x2))) shapeCasts_S8x4096x2x64_S32768x128
      (ix2 ⟨b.val * 4096 + n.val * 128 + i.val, by omega⟩ ⟨h.val * 64 + e.val, by omega⟩) = X (ix6 b 0 h n i 0) := by
  pointwise

theorem out_read (X : FVec Ideal S8x1x2x32x128x64 .f32) :
    shapeCast S32768x128 (shapeCast S8x4096x2x64 (transpose S8x4096x1x2x64 [0, 3, 1, 2, 4]
      (shapeCast S8x1x2x4096x64 X shapeCasts_S8x1x2x32x128x64_S8x1x2x4096x64) transposes_S8x1x2x4096x64_S8x4096x1x2x64_0_3_1_2_4)
      shapeCasts_S8x4096x1x2x64_S8x4096x2x64) shapeCasts_S8x4096x2x64_S32768x128
      (ix2 ⟨b.val * 4096 + n.val * 128 + i.val, by omega⟩ ⟨h.val * 64 + e.val, by omega⟩) = X (ix6 b 0 h n i e) := by
  pointwise

theorem addlog_read (M : FVec Ideal S8x1x2x32x128 .f32) (N : FVec Ideal S8x1x2x32x128x1 .f32) :
    addf (broadcastInDim S8x1x2x32x128x1 ![0, 1, 2, 3, 4] bcast_S8x1x2x32x128_S8x1x2x32x128x1_0_1_2_3_4 M) (Host.log N) (ix6 b 0 h n i 0)
      = M (ix5 b 0 h n i) + Ideal.log (N (ix6 b 0 h n i 0)) := by
  pointwise

theorem mix_read (W : FVec Ideal S8x1x2x32x128x256 .f32) (N : FVec Ideal S8x1x2x32x128x1 .f32) (V : FVec Ideal S8x1x2x32x256x64 .f32) :
    Host.dotGeneral dot_S8x1x2x32x128x256_S8x1x2x32x256x64_S8x1x2x32x128x64_5_4_4_5_0123_0123 none
      (Host.divf W (broadcastInDim S8x1x2x32x128x256 ![0, 1, 2, 3, 4, 5] bcast_S8x1x2x32x128x1_S8x1x2x32x128x256_0_1_2_3_4_5 N)) V (ix6 b 0 h n i e)
      = ∑ c : Fin 256, Ideal.div (W (ix6 b 0 h n i c)) (N (ix6 b 0 h n i 0)) * V (ix6 b 0 h n c e) := by
  pointwise

/-- The reference's log-sum-exp at a row and lane. -/
theorem lse_eq : st_v118 (F := Ideal) q k tbl (ix2 ⟨b.val * 4096 + n.val * 128 + i.val, by omega⟩ ⟨h.val * 64 + e.val, by omega⟩)
    = DilMath.rowMax (logit q k tbl b h n i) + Ideal.log (DilMath.norm (logit q k tbl b h n i)) := by
  unfold st_v118 st_v116 st_v115 st_v114 st_v113 st_v112 st_v107
  refine (lse_read b h n i e _).trans ?_
  unfold st_v106 st_v105 st_v94
  refine (addlog_read b h n i _ _).trans ?_
  rw [max_raw, norm_raw]

/-- The reference's attention output at a row and lane. -/
theorem o_eq : st_v117 (F := Ideal) q k v tbl (ix2 ⟨b.val * 4096 + n.val * 128 + i.val, by omega⟩ ⟨h.val * 64 + e.val, by omega⟩)
    = ∑ c : Fin 256, Ideal.div (DilMath.weight (logit q k tbl b h n i) c) (DilMath.norm (logit q k tbl b h n i)) * keyAt v b h n c e := by
  unfold st_v117 st_v111 st_v110 st_v109
  refine (out_read b h n i e _).trans ?_
  unfold st_v108 st_v104 st_v103
  refine (mix_read b h n i e _ _ _).trans ?_
  simp only [weight_raw, norm_raw, v_raw]

end Cert.ReferenceIdeal.Layer

end
-- ==== Proof.DilMatch.lean ====
/- The dilated attention call's two result arrays are the reference's. -/
module

public import proofs.«01_k».proof.Proof.DilLoop
public import proofs.«01_k».proof.Proof.DilBias
public import proofs.«01_k».proof.Proof.DilSoftmax

@[expose] public section

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

/-- Which of the reference's 256 window positions a block's lane is: the same one, and in the first block the half turn. -/
def turn (n : Fin 32) : Equiv.Perm (Fin 256) where
  toFun c := if n.val = 0 then ⟨(c.val + 128) % 256, by omega⟩ else c
  invFun c := if n.val = 0 then ⟨(c.val + 128) % 256, by omega⟩ else c
  left_inv c := by
    by_cases h : n.val = 0
    · simp only [h, if_true]; exact Fin.ext (by show ((c.val + 128) % 256 + 128) % 256 = c.val; omega)
    · simp only [h, if_false]
  right_inv c := by
    by_cases h : n.val = 0
    · simp only [h, if_true]; exact Fin.ext (by show ((c.val + 128) % 256 + 128) % 256 = c.val; omega)
    · simp only [h, if_false]

variable (x0 x1 x2 : Vec Ideal S1x4096x128 .bf16) (tbl : FVec Ideal S32x16 .f32) (q k v : FVec Ideal S32768x128 .bf16)
  (b : Fin 8) (h : Fin 2) (n : Fin 32) (r : Fin 128) (c : Fin 256) (l : Fin 128) (e : Fin 64)

abbrev trip (n : Fin 32) : Fin k1_t1_loop.trips := ⟨n.val, by rw [trips_eq]; exact n.isLt⟩

theorem offs : ∀ n : Fin 32, k1_off1 (trip n) = ![0, n.val * 128, 0] ∧ k1_off2 (trip n) = ![0, (n.val - 1) * 128, 0]
    ∧ k1_off3 (trip n) = ![if n.val = 0 then 0 else 1, 0, 0, 0] ∧ k1_off4 (trip n) = ![if n.val = 0 then 2 else 0, 0, 0, 0]
    ∧ k1_off5 (trip n) = ![if n.val = 0 then 0 else 1, 1, 0, 0] ∧ k1_off6 (trip n) = ![if n.val = 0 then 2 else 0, 1, 0, 0] := by
  decide +kernel

/-- A part of a three-axis array at an offset, read at an element. -/
theorem ld_rows {N : ℕ} (x : Vec Ideal S1x4096x128 .bf16) (off : Fin 3 → ℕ) (o : ℕ) (ho : off = ![0, o, 0])
    (inb : ∀ a, off a + (![1, N, 128] : Fin 3 → ℕ) a ≤ S1x4096x128.size a) (j : Fin N) (l : Fin 128) (hj : o + j.val < 4096) :
    View.ld x (Rect.unit (s := S1x4096x128) off (![1, N, 128] : Fin 3 → ℕ) inb) (ix3 (0 : Fin 1) j l) = x (ix3 0 ⟨o + j.val, hj⟩ l) := by
  subst ho
  refine congrArg x (funext fun a => Fin.ext ?_)
  match a with
  | ⟨0, _⟩ => rfl
  | ⟨1, _⟩ => show o + 1 * j.val = o + j.val; omega
  | ⟨2, _⟩ => show 0 + 1 * l.val = l.val; omega

/-- A bias tile read out of the bias array. -/
theorem ld_tile (x : Vec Ideal S3x2x128x128 .f32) (off : Fin 4 → ℕ) (t : Fin 3) (h : Fin 2) (ho : off = ![t.val, h.val, 0, 0])
    (inb : ∀ a, off a + S1x1x128x128.size a ≤ S3x2x128x128.size a) :
    View.ld x (Rect.unit (s := S3x2x128x128) off S1x1x128x128.size inb) (ix4 0 0 r l) = x (ix4 t h r l) := by
  subst ho
  refine congrArg x (funext fun a => Fin.ext ?_)
  match a with
  | ⟨0, _⟩ => show t.val + 1 * 0 = t.val; omega
  | ⟨1, _⟩ => show h.val + 1 * 0 = h.val; omega
  | ⟨2, _⟩ => show 0 + 1 * r.val = r.val; omega
  | ⟨3, _⟩ => show 0 + 1 * l.val = l.val; omega

/-- The logits of one head in block `n`, from the three arrays of a batch entry and the bias table. -/
def blockLogit (c : Fin 256) : EReal :=
  (∑ e : Fin 64, x0 (ix3 0 ⟨n.val * 128 + r.val, by omega⟩ ⟨h.val * 64 + e.val, by omega⟩)
      * x1 (ix3 0 ⟨(n.val - 1) * 128 + c.val, by omega⟩ ⟨h.val * 64 + e.val, by omega⟩))
    + (if hc : c.val < 128 then biasTile tbl (if n.val = 0 then 0 else 1) h r ⟨c.val, hc⟩
        else biasTile tbl (if n.val = 0 then 2 else 0) h r ⟨c.val - 128, by omega⟩)

/-- One head's logits with the loads opened. -/
theorem tile_logit (o3 o4 : Fin 4 → ℕ) (h3 : o3 = ![if n.val = 0 then 0 else 1, h.val, 0, 0]) (h4 : o4 = ![if n.val = 0 then 2 else 0, h.val, 0, 0])
    (i3 : ∀ a, o3 a + S1x1x128x128.size a ≤ S3x2x128x128.size a) (i4 : ∀ a, o4 a + S1x1x128x128.size a ≤ S3x2x128x128.size a) :
    tileLogit h (View.ld x0 (Rect.unit (s := S1x4096x128) (k1_off1 (trip n)) S1x128x128.size (k1_off1_inb (trip n))))
      (View.ld x1 (Rect.unit (s := S1x4096x128) (k1_off2 (trip n)) S1x256x128.size (k1_off2_inb (trip n))))
      (View.ld (biasAll tbl) (Rect.unit (s := S3x2x128x128) o3 S1x1x128x128.size i3))
      (View.ld (biasAll tbl) (Rect.unit (s := S3x2x128x128) o4 S1x1x128x128.size i4)) r
    = blockLogit x0 x1 tbl h n r := by
  funext c
  have o := offs n
  have t3 : ((if n.val = 0 then 0 else 1 : Fin 3)).val = if n.val = 0 then 0 else 1 := by split_ifs <;> rfl
  have t4 : ((if n.val = 0 then 2 else 0 : Fin 3)).val = if n.val = 0 then 2 else 0 := by split_ifs <;> rfl
  have l3 : ∀ l : Fin 128, View.ld (Val := Elt Ideal) (e' := .f32) (biasAll tbl) (Rect.unit (s := S3x2x128x128) o3 S1x1x128x128.size i3) (ix4 0 0 r l)
      = biasTile tbl (if n.val = 0 then 0 else 1) h r l := by
    intro l
    exact (ld_tile r l (biasAll tbl) o3 (if n.val = 0 then 0 else 1) h (by rw [t3]; exact h3) i3).trans (congrArg (fun j => biasTile tbl j h r l) t3)
  have l4 : ∀ l : Fin 128, View.ld (Val := Elt Ideal) (e' := .f32) (biasAll tbl) (Rect.unit (s := S3x2x128x128) o4 S1x1x128x128.size i4) (ix4 0 0 r l)
      = biasTile tbl (if n.val = 0 then 2 else 0) h r l := by
    intro l
    exact (ld_tile r l (biasAll tbl) o4 (if n.val = 0 then 2 else 0) h (by rw [t4]; exact h4) i4).trans (congrArg (fun j => biasTile tbl j h r l) t4)
  have lq : ∀ d : Fin 128, View.ld (Val := Elt Ideal) (e' := .bf16) x0 (Rect.unit (s := S1x4096x128) (k1_off1 (trip n)) S1x128x128.size (k1_off1_inb (trip n))) (ix3 0 r d)
      = x0 (ix3 0 ⟨n.val * 128 + r.val, by omega⟩ d) := fun d => ld_rows (N := 128) x0 _ _ o.1 _ r d (by omega)
  have lk : ∀ d : Fin 128, View.ld (Val := Elt Ideal) (e' := .bf16) x1 (Rect.unit (s := S1x4096x128) (k1_off2 (trip n)) S1x256x128.size (k1_off2_inb (trip n))) (ix3 0 c d)
      = x1 (ix3 0 ⟨(n.val - 1) * 128 + c.val, by omega⟩ d) := fun d => ld_rows (N := 256) x1 _ _ o.2.1 _ c d (by omega)
  unfold tileLogit blockLogit
  simp only [l3, l4, lq, lk]

theorem val_read : View.ld x2 (Rect.unit (s := S1x4096x128) (k1_off2 (trip n)) S1x256x128.size (k1_off2_inb (trip n))) (ix3 0 c l)
    = x2 (ix3 0 ⟨(n.val - 1) * 128 + c.val, by omega⟩ l) :=
  ld_rows (N := 256) x2 _ _ (offs n).2.1 _ c l (by omega)

theorem out_block : outAt x0 x1 x2 (biasAll tbl) (trip n) (ix3 0 r ⟨h.val * 64 + e.val, by omega⟩)
    = Ideal.div (∑ c : Fin 256, DilMath.weight (blockLogit x0 x1 tbl h n r) c * x2 (ix3 0 ⟨(n.val - 1) * 128 + c.val, by omega⟩ ⟨h.val * 64 + e.val, by omega⟩))
        (DilMath.norm (blockLogit x0 x1 tbl h n r)) := by
  have o := offs n
  have hh : h = 0 ∨ h = 1 := by omega
  unfold outAt
  rcases hh with rfl | rfl
  · rw [outPay_low, tile_logit x0 x1 tbl 0 n r _ _ o.2.2.1 o.2.2.2.1]
    exact congrArg (fun s => Ideal.div s _) (Finset.sum_congr rfl fun c _ => congrArg (_ * ·) (val_read x2 n c _))
  · rw [outPay_high, tile_logit x0 x1 tbl 1 n r _ _ o.2.2.2.2.1 o.2.2.2.2.2]
    exact congrArg (fun s => Ideal.div s _) (Finset.sum_congr rfl fun c _ => congrArg (_ * ·) (val_read x2 n c _))

theorem lse_block : lseAt x0 x1 (biasAll tbl) (trip n) (ix3 0 r ⟨h.val * 64 + e.val, by omega⟩)
    = DilMath.rowMax (blockLogit x0 x1 tbl h n r) + Ideal.log (DilMath.norm (blockLogit x0 x1 tbl h n r)) := by
  have o := offs n
  have hh : h = 0 ∨ h = 1 := by omega
  unfold lseAt
  rcases hh with rfl | rfl
  · rw [lsePay_low, tile_logit x0 x1 tbl 0 n r _ _ o.2.2.1 o.2.2.2.1]
  · rw [lsePay_high, tile_logit x0 x1 tbl 1 n r _ _ o.2.2.2.2.1 o.2.2.2.2.2]

/-- A batch entry of a whole array. -/
def entry (q : FVec Ideal S32768x128 .bf16) (b : Fin 8) : Vec Ideal S1x4096x128 .bf16 :=
  fun y => q (ix2 ⟨b.val * 4096 + (y 1).val, by have := (y 1).isLt; have : (y 1).val < 4096 := this; omega⟩ (y 2))

open Cert.ReferenceIdeal.Layer (logit keyAt qAt Kept)

theorem not_kept (hk : ¬ Kept n r (turn n c)) : blockLogit (entry q b) (entry k b) tbl h n r c = ⊥ := by
  unfold blockLogit
  unfold Kept turn at hk
  have z : (if hc : c.val < 128 then biasTile tbl (if n.val = 0 then 0 else 1) h r ⟨c.val, hc⟩
        else biasTile tbl (if n.val = 0 then 2 else 0) h r ⟨c.val - 128, by omega⟩) = ⊥ := by
    by_cases hn : n.val = 0
    · simp only [hn, Equiv.coe_fn_mk, if_true] at hk ⊢
      split_ifs with hc
      · exact if_neg fun x => hk (by have := x.2; dsimp only at this; omega)
      · exact if_neg fun x => by omega
    · simp only [hn, Equiv.coe_fn_mk, if_false] at hk ⊢
      split_ifs with hc
      · exact if_neg fun x => hk (by have := x.2; dsimp only at this; omega)
      · exact if_neg fun x => hk (by have := x.2; dsimp only at this; omega)
  rw [z]
  exact EReal.add_bot _

theorem key_turn (x : FVec Ideal S32768x128 .bf16) (hk : Kept n r (turn n c)) :
    entry x b (ix3 0 ⟨(n.val - 1) * 128 + c.val, by omega⟩ ⟨h.val * 64 + e.val, by omega⟩) = keyAt x b h n (turn n c) e := by
  unfold keyAt entry
  unfold Kept at hk
  rw [dif_neg (by omega)]
  refine congrArg (fun j => x (ix2 j _)) (Fin.ext ?_)
  unfold turn at hk ⊢
  by_cases hn : n.val = 0
  · simp only [hn, Equiv.coe_fn_mk, if_true] at hk ⊢
    show b.val * 4096 + ((0 - 1) * 128 + c.val) = _
    omega
  · simp only [hn, Equiv.coe_fn_mk, if_false] at hk ⊢
    show b.val * 4096 + ((n.val - 1) * 128 + c.val) = _
    omega

theorem kept (hk : Kept n r (turn n c)) : blockLogit (entry q b) (entry k b) tbl h n r c = logit q k tbl b h n r (turn n c) := by
  unfold logit blockLogit
  rw [if_pos hk]
  refine congrArg₂ (· + ·) (Finset.sum_congr rfl fun e _ => congrArg₂ (· * ·) ?_ (key_turn b h n r c e k hk)) ?_
  · unfold qAt entry
    exact congrArg (fun j => q (ix2 j _)) (Fin.ext (by show b.val * 4096 + (n.val * 128 + r.val) = b.val * 4096 + n.val * 128 + r.val; omega))
  · unfold Kept turn at hk
    unfold turn
    have hr := r.isLt
    by_cases hn : n.val = 0
    · simp only [hn, Equiv.coe_fn_mk, if_true] at hk ⊢
      rw [dif_pos (by omega)]
      unfold biasTile
      rw [if_pos ⟨by omega, by dsimp only; omega⟩]
      refine congrArg (fun j => tbl (ix2 (DilMath.bk j) _)) ?_
      first | omega | (dsimp only; omega)
    · simp only [hn, Equiv.coe_fn_mk, if_false] at hk ⊢
      split_ifs with hc
      · unfold biasTile
        rw [if_pos ⟨by omega, by dsimp only; omega⟩]
      · unfold biasTile
        rw [if_pos ⟨by omega, by dsimp only; omega⟩]
        refine congrArg (fun j => tbl (ix2 (DilMath.bk j) _)) ?_
        first | omega | (dsimp only; omega)

theorem logit_turn : blockLogit (entry q b) (entry k b) tbl h n r c = logit q k tbl b h n r (turn n c) := by
  by_cases hk : Kept n r (turn n c)
  · exact kept tbl q k b h n r c hk
  · rw [not_kept tbl q k b h n r c hk]
    unfold logit
    rw [if_neg hk]

theorem out_match : outAt (entry q b) (entry k b) (entry v b) (biasAll tbl) (trip n) (ix3 0 r ⟨h.val * 64 + e.val, by omega⟩)
    = Cert.ReferenceIdeal.Layer.st_v117 (F := Ideal) q k v tbl (ix2 ⟨b.val * 4096 + n.val * 128 + r.val, by omega⟩ ⟨h.val * 64 + e.val, by omega⟩) := by
  rw [out_block, Cert.ReferenceIdeal.Layer.o_eq]
  refine DilMath.out_reorder (turn n) (blockLogit (entry q b) (entry k b) tbl h n r) (logit q k tbl b h n r)
    (fun c => entry v b (ix3 0 ⟨(n.val - 1) * 128 + c.val, by omega⟩ ⟨h.val * 64 + e.val, by omega⟩)) (fun c => keyAt v b h n c e)
    (logit_turn tbl q k b h n r) fun c hc => ?_
  by_cases hk : Kept n r (turn n c)
  · exact key_turn b h n r c e v hk
  · exact absurd (not_kept tbl q k b h n r c hk) hc

theorem lse_match : lseAt (entry q b) (entry k b) (biasAll tbl) (trip n) (ix3 0 r ⟨h.val * 64 + e.val, by omega⟩)
    = Cert.ReferenceIdeal.Layer.st_v118 (F := Ideal) q k tbl (ix2 ⟨b.val * 4096 + n.val * 128 + r.val, by omega⟩ ⟨h.val * 64 + e.val, by omega⟩) := by
  rw [lse_block, Cert.ReferenceIdeal.Layer.lse_eq,
    DilMath.rowMax_reorder (turn n) _ _ (logit_turn tbl q k b h n r), DilMath.norm_reorder (turn n) _ _ (logit_turn tbl q k b h n r)]

end Cert.KernelIdeal.Layer

end
-- ==== Proof.DilRun.lean ====
/- The dilated attention call's whole run, with what its two result arrays hold at the end. -/
module

public import proofs.«01_k».proof.Proof.Gen.KernelIdeal.Frame

@[expose] public section

set_option maxRecDepth 16384

noncomputable section

namespace Cert.KernelIdeal.Layer

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution ends with the two results at the last boundary's contents and the arguments as launched. -/
theorem run_arrays : θ_run defs (onTc (τ := τ) (main (F := Ideal))) ⟨m, fun _ => 0, ρ⟩ (fun r => ∀ c : Dev nD,
      r.2.mem ((c.tc : Thread nD τ).loc main_v5) = W4 m ρ c (Proc.devRef .tc main_v5)
      ∧ r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨h c _ (mem_uc main_v5 (by decide)), h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Layer

end
-- ==== Proof.DilValue.lean ====
/- The dilated attention call's results at the end of its run. -/
module

public import proofs.«01_k».proof.Proof.DilMatch
public import proofs.«01_k».proof.Proof.DilRun
public import Idealize.ShloMosaic.Lib.Claim

@[expose] public section

set_option maxRecDepth 16384

noncomputable section

namespace Cert.KernelIdeal.Layer

open Cert.KernelIdeal Cert.KernelIdeal.Gen Idealize.ShloMosaic Idealize.ShloMosaic.TcCoe Idealize.SL.Sem
open Idealize.ShloMosaic.Pipeline (Dat)

section Region
variable (V : (c : Dev nD) → (b : Ref sig .tc) → Buf (Elt Ideal) ((c : Thread nD τ).loc b)) (c : Dev nD)
  (q k v : FVec Ideal S32768x128 .bf16) (tbl : FVec Ideal S32x16 .f32)

theorem idx1 : ∀ t : Fin cfg1.N, win1_0.index t = ![t.val, 0, 0] ∧ win1_1.index t = ![t.val, 0, 0] ∧ win1_2.index t = ![t.val, 0, 0]
    ∧ win1_3.index t = ![0, 0, 0, 0] ∧ win1_4.index t = ![t.val, 0, 0] ∧ win1_5.index t = ![t.val, 0, 0] ∧ t.val < 8 :=
  (by decide +kernel : ∀ t : Fin grid1.N, _)

abbrev batch (t : Fin cfg1.N) : Fin 8 := ⟨t.val, (idx1 t).2.2.2.2.2.2⟩

theorem reshaped (x : FVec Ideal S32768x128 .bf16) (b : Fin 8) (r : Fin 4096) (l : Fin 128) :
    shapeCast S8x4096x128 x shapeCasts_S32768x128_S8x4096x128 (ix3 b r l) = x (ix2 ⟨b.val * 4096 + r.val, by omega⟩ l) := by
  pointwise

theorem query_block (hq : V c main_v1 = shapeCast S8x4096x128 q shapeCasts_S32768x128_S8x4096x128) (t : Fin cfg1.N) :
    iblk1 V c 0 t = entry q (batch t) := by
  funext y
  idx_vars y
  have e : (win1_0.blk t).view.emb (ix3 y0 y1 y2) = (ix3 (batch t) y1 y2 : S8x4096x128.Idx) := by
    blk_ext [idx1 t]
  show V c main_v1 ((win1_0.blk t).view.emb (ix3 y0 y1 y2)) = _
  rw [e, hq, reshaped]
  rfl

theorem key_block (hk : V c main_v2 = shapeCast S8x4096x128 k shapeCasts_S32768x128_S8x4096x128) (t : Fin cfg1.N) :
    iblk1 V c 1 t = entry k (batch t) := by
  funext y
  idx_vars y
  have e : (win1_1.blk t).view.emb (ix3 y0 y1 y2) = (ix3 (batch t) y1 y2 : S8x4096x128.Idx) := by
    blk_ext [idx1 t]
  show V c main_v2 ((win1_1.blk t).view.emb (ix3 y0 y1 y2)) = _
  rw [e, hk, reshaped]
  rfl

theorem value_block (hv : V c main_v3 = shapeCast S8x4096x128 v shapeCasts_S32768x128_S8x4096x128) (t : Fin cfg1.N) :
    iblk1 V c 2 t = entry v (batch t) := by
  funext y
  idx_vars y
  have e : (win1_2.blk t).view.emb (ix3 y0 y1 y2) = (ix3 (batch t) y1 y2 : S8x4096x128.Idx) := by
    blk_ext [idx1 t]
  show V c main_v3 ((win1_2.blk t).view.emb (ix3 y0 y1 y2)) = _
  rw [e, hv, reshaped]
  rfl

theorem bias_block (hb : V c main_v0 = biasAll tbl) (t : Fin cfg1.N) : iblk1 V c 3 t = biasAll tbl := by
  funext y
  idx_vars y
  have e : (win1_3.blk t).view.emb (ix4 y0 y1 y2 y3) = (ix4 y0 y1 y2 y3 : S3x2x128x128.Idx) := by
    blk_ext [idx1 t]
  show V c main_v0 ((win1_3.blk t).view.emb (ix4 y0 y1 y2 y3)) = _
  rw [e, hb]

/-- A row of 4096 as a block and a row in it, a lane of 128 as a head and a lane in it. -/
theorem split_row (y1 : Fin 4096) (y2 : Fin 128) : ∃ (n : Fin 32) (r : Fin 128) (h : Fin 2) (e : Fin 64),
    y1 = ⟨n.val * 128 + r.val, by omega⟩ ∧ y2 = ⟨h.val * 64 + e.val, by omega⟩ :=
  ⟨⟨y1.val / 128, by omega⟩, ⟨y1.val % 128, by omega⟩, ⟨y2.val / 64, by omega⟩, ⟨y2.val % 64, by omega⟩,
    Fin.ext (by show y1.val = y1.val / 128 * 128 + y1.val % 128; omega), Fin.ext (by show y2.val = y2.val / 64 * 64 + y2.val % 64; omega)⟩

/-- A two-axis array of all rows, as one with the batch on its own axis. -/
def rows (X : FVec Ideal S32768x128 .f32) : FVec Ideal S8x4096x128 .f32 :=
  fun y => X (ix2 ⟨(y 0).val * 4096 + (y 1).val, by
    have h0 : (y 0).val < 8 := (y 0).isLt
    have h1 : (y 1).val < 4096 := (y 1).isLt
    omega⟩ (y 2))

variable (hq : V c main_v1 = shapeCast S8x4096x128 q shapeCasts_S32768x128_S8x4096x128)
  (hk : V c main_v2 = shapeCast S8x4096x128 k shapeCasts_S32768x128_S8x4096x128)
  (hv : V c main_v3 = shapeCast S8x4096x128 v shapeCasts_S32768x128_S8x4096x128) (hb : V c main_v0 = biasAll tbl)

include hq hk hv hb in
theorem out_final : (dat1 V c).arrAt 4 cfg1.N = rows (Cert.ReferenceIdeal.Layer.st_v117 (F := Ideal) q k v tbl) := by
  refine (dat1 V c).arrAt_eq_of_covers 4 _ (by decide +kernel) fun t _ y => ?_
  blk_simp
  rw [after1_4]
  idx_vars y
  have e : (win1_4.blk t).view.emb (ix3 y0 y1 y2) = (ix3 (batch t) y1 y2 : S8x4096x128.Idx) := by
    blk_ext [idx1 t]
  rw [e]
  have z : y0 = 0 := by omega
  subst z
  obtain ⟨n, r, h, l, rfl, rfl⟩ := split_row y1 y2
  unfold outsAt1
  rw [query_block V c q hq, key_block V c k hk, value_block V c v hv, bias_block V c tbl hb]
  refine (out_read _ _ _ _ _ _ _ _ _ _ _ _ _ _ _ _ _ _ n r _).trans ((out_match tbl q k v (batch t) h n r l).trans ?_)
  unfold rows
  exact congrArg (fun j => Cert.ReferenceIdeal.Layer.st_v117 (F := Ideal) q k v tbl (ix2 j _)) (Fin.ext (by
    show t.val * 4096 + n.val * 128 + r.val = t.val * 4096 + (n.val * 128 + r.val); omega))

include hq hk hv hb in
theorem lse_final : (dat1 V c).arrAt 5 cfg1.N = rows (Cert.ReferenceIdeal.Layer.st_v118 (F := Ideal) q k tbl) := by
  refine (dat1 V c).arrAt_eq_of_covers 5 _ (by decide +kernel) fun t _ y => ?_
  blk_simp
  rw [after1_5]
  idx_vars y
  have e : (win1_5.blk t).view.emb (ix3 y0 y1 y2) = (ix3 (batch t) y1 y2 : S8x4096x128.Idx) := by
    blk_ext [idx1 t]
  rw [e]
  have z : y0 = 0 := by omega
  subst z
  obtain ⟨n, r, h, l, rfl, rfl⟩ := split_row y1 y2
  unfold outsAt1
  rw [query_block V c q hq, key_block V c k hk, value_block V c v hv, bias_block V c tbl hb]
  refine (lse_read _ _ _ _ _ _ _ _ _ _ _ _ _ _ _ _ _ _ n r _).trans ((lse_match tbl q k (batch t) h n r l).trans ?_)
  unfold rows
  exact congrArg (fun j => Cert.ReferenceIdeal.Layer.st_v118 (F := Ideal) q k tbl (ix2 j _)) (Fin.ext (by
    show t.val * 4096 + n.val * 128 + r.val = t.val * 4096 + (n.val * 128 + r.val); omega))

end Region

/-- Flattening the batch axis again gives the array of all rows. -/
theorem rows_flat (X : FVec Ideal S32768x128 .f32) : shapeCast S32768x128 (rows X) shapeCasts_S8x4096x128_S32768x128 = X := by
  funext y
  idx_vars y
  have s : shapeCast S32768x128 (rows X) shapeCasts_S8x4096x128_S32768x128 (ix2 y0 y1)
      = rows X (ix3 ⟨y0.val / 4096, by omega⟩ ⟨y0.val % 4096, by omega⟩ y1) := by
    generalize rows X = Y
    pointwise
  rw [s]
  unfold rows
  exact congrArg (fun j => X (ix2 j _)) (Fin.ext (by show y0.val / 4096 * 4096 + y0.val % 4096 = y0.val; omega))

variable (m : (ℓ : Loc nD τ sig) → Buf (Elt Ideal) ℓ) (ρ : Dev nD → PrngReg) (c : Dev nD)

theorem entry_q : V2 m ρ c main_v1 = shapeCast S8x4096x128 (m ((c : Thread nD τ).loc main_arg0)) shapeCasts_S32768x128_S8x4096x128 := by
  have h : V2 m ρ c main_v1 = shapeCast S8x4096x128 (W1 m ρ c (Proc.devRef .tc main_arg0)) shapeCasts_S32768x128_S8x4096x128 := by
    show W2 m ρ c (Proc.devRef .tc main_v1) = _
    after_results_simp
    rfl
  rw [h, W1_args m ρ c main_arg0 (by decide)]

theorem entry_k : V2 m ρ c main_v2 = shapeCast S8x4096x128 (m ((c : Thread nD τ).loc main_arg1)) shapeCasts_S32768x128_S8x4096x128 := by
  have h : V2 m ρ c main_v2 = shapeCast S8x4096x128 (W1 m ρ c (Proc.devRef .tc main_arg1)) shapeCasts_S32768x128_S8x4096x128 := by
    show W2 m ρ c (Proc.devRef .tc main_v2) = _
    after_results_simp
    rfl
  rw [h, W1_args m ρ c main_arg1 (by decide)]

theorem entry_v : V2 m ρ c main_v3 = shapeCast S8x4096x128 (m ((c : Thread nD τ).loc main_arg2)) shapeCasts_S32768x128_S8x4096x128 := by
  have h : V2 m ρ c main_v3 = shapeCast S8x4096x128 (W1 m ρ c (Proc.devRef .tc main_arg2)) shapeCasts_S32768x128_S8x4096x128 := by
    show W2 m ρ c (Proc.devRef .tc main_v3) = _
    after_results_simp
    rfl
  rw [h, W1_args m ρ c main_arg2 (by decide)]

theorem entry_bias : V2 m ρ c main_v0 = biasAll (m ((c : Thread nD τ).loc main_arg3)) :=
  (W2_of m ρ c main_v0 (by decide)).trans ((W1_arr m ρ c 1).trans (bias_final (V0 m ρ) c))

theorem result_out : W4 m ρ c (Proc.devRef .tc main_v5) = Cert.ReferenceIdeal.Layer.st_v117 (F := Ideal)
    (m ((c : Thread nD τ).loc main_arg0)) (m ((c : Thread nD τ).loc main_arg1)) (m ((c : Thread nD τ).loc main_arg2)) (m ((c : Thread nD τ).loc main_arg3)) := by
  have h : W4 m ρ c (Proc.devRef .tc main_v5) = shapeCast S32768x128 (W3 m ρ c (Proc.devRef .tc main_v4_0)) shapeCasts_S8x4096x128_S32768x128 := by
    after_results_simp
    rfl
  rw [h, show W3 m ρ c (Proc.devRef .tc main_v4_0) = _ from (W3_arr m ρ c 4).trans
    (out_final (V2 m ρ) c _ _ _ _ (entry_q m ρ c) (entry_k m ρ c) (entry_v m ρ c) (entry_bias m ρ c)), rows_flat]

theorem result_lse : W4 m ρ c (Proc.devRef .tc main_v6) = Cert.ReferenceIdeal.Layer.st_v118 (F := Ideal)
    (m ((c : Thread nD τ).loc main_arg0)) (m ((c : Thread nD τ).loc main_arg1)) (m ((c : Thread nD τ).loc main_arg3)) := by
  have h : W4 m ρ c (Proc.devRef .tc main_v6) = shapeCast S32768x128 (W3 m ρ c (Proc.devRef .tc main_v4_1)) shapeCasts_S8x4096x128_S32768x128 := by
    after_results_simp
    rfl
  rw [h, show W3 m ρ c (Proc.devRef .tc main_v4_1) = _ from (W3_arr m ρ c 5).trans
    (lse_final (V2 m ρ) c _ _ _ _ (entry_q m ρ c) (entry_k m ρ c) (entry_v m ρ c) (entry_bias m ρ c)), rows_flat]

end Cert.KernelIdeal.Layer

end
-- ==== Proof.FfnTile.lean ====
/- The feed-forward block on one tile of 1024 rows: the body's eleven chunk products over 256 hidden lanes each, read as one sum over
   the 2816 hidden lanes. -/
module

public import proofs.«01_k».proof.Proof.Gen.FfnIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnIdeal.Layer

open Cert.FfnIdeal Cert.FfnIdeal.Gen Idealize.ShloMosaic Idealize.ShloMosaic.TcCoe Idealize.SL.Sem
open Idealize.ShloMosaic.Pipeline (Dat)

/-- The gated hidden value `silu(h·G) * (h·U)` of row `r` at one of the 256 lanes of a chunk. -/
def act (H : FVec Ideal S1024x1024 .bf16) (G U : FVec Ideal S1024x256 .bf16) (r : Fin 1024) (f : Fin 256) : EReal :=
  (∑ k : Fin 1024, H (ix2 r k) * G (ix2 k f)) * Ideal.logistic (∑ k : Fin 1024, H (ix2 r k) * G (ix2 k f))
    * ∑ k : Fin 1024, H (ix2 r k) * U (ix2 k f)

/-- One chunk's contribution to the down projection. -/
def chunk (H : FVec Ideal S1024x1024 .bf16) (G U : FVec Ideal S1024x256 .bf16) (D : FVec Ideal S256x1024 .bf16) (r l : Fin 1024) : EReal :=
  ∑ f : Fin 256, act H G U r f * D (ix2 f l)

section Payloads
variable (x A : FVec Ideal S1024x1024 .f32) (g : FVec Ideal S1x1024 .f32) (H : FVec Ideal S1024x1024 .bf16) (G U : FVec Ideal S1024x256 .bf16)
  (D : FVec Ideal S256x1024 .bf16) (r l : Fin 1024)

theorem first_chunk : k0_pay4 (F := Ideal) x g G U D (ix2 r l) = chunk (k0_pay3 (F := Ideal) x g) G U D r l := by
  pointwise! [k0_pay4, chunk, act]

theorem chunk1 : k0_pay6 (F := Ideal) (k0_pay3 (F := Ideal) x g) (k0_pay5 (F := Ideal) x g G) U D A (ix2 r l)
    = A (ix2 r l) + chunk (k0_pay3 (F := Ideal) x g) G U D r l := by
  pointwise! [k0_pay6, k0_pay5, chunk, act]

theorem chunk2 : k0_pay7 (F := Ideal) H G U D A (ix2 r l) = A (ix2 r l) + chunk H G U D r l := by
  pointwise! [k0_pay7, chunk, act]

theorem chunk3 : k0_pay9 (F := Ideal) H (k0_pay8 (F := Ideal) G) U D A (ix2 r l) = A (ix2 r l) + chunk H G U D r l := by
  pointwise! [k0_pay9, k0_pay8, chunk, act]

theorem chunk4 : k0_pay10 (F := Ideal) H G U D A (ix2 r l) = A (ix2 r l) + chunk H G U D r l := by
  pointwise! [k0_pay10, chunk, act]

theorem chunk5 : k0_pay11 (F := Ideal) H G U D A (ix2 r l) = A (ix2 r l) + chunk H G U D r l := by
  pointwise! [k0_pay11, chunk, act]

theorem chunk6 : k0_pay13 (F := Ideal) (k0_pay12 (F := Ideal) H G U D A) (ix2 r l) = A (ix2 r l) + chunk H G U D r l := by
  pointwise! [k0_pay13, k0_pay12, chunk, act]

theorem chunk7 : k0_pay14 (F := Ideal) H G U D A (ix2 r l) = A (ix2 r l) + chunk H G U D r l := by
  pointwise! [k0_pay14, chunk, act]

theorem chunk8 : k0_pay16 (F := Ideal) (k0_pay15 (F := Ideal) H G U D) A (ix2 r l) = A (ix2 r l) + chunk H G U D r l := by
  pointwise! [k0_pay16, k0_pay15, chunk, act]

theorem chunk9 : k0_pay17 (F := Ideal) H G U D A (ix2 r l) = A (ix2 r l) + chunk H G U D r l := by
  pointwise! [k0_pay17, chunk, act]

theorem chunk10 : k0_pay1 (F := Ideal) (k0_pay18 (F := Ideal) H G U) (k0_pay19 (F := Ideal) D) A (ix2 r l) = A (ix2 r l) + chunk H G U D r l := by
  pointwise! [k0_pay1, k0_pay18, k0_pay19, chunk, act]

theorem residual : k0_pay2 (F := Ideal) x A (ix2 r l) = x (ix2 r l) + Ideal.ofBits .f32 0x3F000000#32 * A (ix2 r l) := by
  pointwise! [k0_pay2]

end Payloads

/-- The normalised row: `x · rsqrt(mean of squares + ε) · gain`. -/
def normed (x : FVec Ideal S1024x1024 .f32) (g : FVec Ideal S1x1024 .f32) (r k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 0 k)

theorem normed_eq (x : FVec Ideal S1024x1024 .f32) (g : FVec Ideal S1x1024 .f32) (r k : Fin 1024) :
    k0_pay3 (F := Ideal) x g (ix2 r k) = normed x g r k := by
  pointwise! [k0_pay3, normed]

/-- The gated hidden value at lane `f` of all 2816, from the whole weights. -/
def hidden (x : FVec Ideal S1024x1024 .f32) (g : FVec Ideal S1x1024 .f32) (G U : FVec Ideal S1024x2816 .bf16) (r : Fin 1024) (f : Fin 2816) : EReal :=
  (∑ k : Fin 1024, normed x g r k * G (ix2 k f)) * Ideal.logistic (∑ k : Fin 1024, normed x g r k * G (ix2 k f))
    * ∑ k : Fin 1024, normed x g r k * U (ix2 k f)

/-- The block's output at row `r`, lane `l`. -/
def tileOut (x : FVec Ideal S1024x1024 .f32) (g : FVec Ideal S1x1024 .f32) (G U : FVec Ideal S1024x2816 .bf16) (D : FVec Ideal S2816x1024 .bf16)
    (r l : Fin 1024) : EReal :=
  x (ix2 r l) + Ideal.ofBits .f32 0x3F000000#32 * ∑ f : Fin 2816, hidden x g G U r f * D (ix2 f l)

/-- A chunk over the tiles of the weights at hidden lanes `j*256 … j*256+255` is that stretch of the whole sum. -/
theorem chunk_tile (x : FVec Ideal S1024x1024 .f32) (g : FVec Ideal S1x1024 .f32) (G U : FVec Ideal S1024x2816 .bf16) (D : FVec Ideal S2816x1024 .bf16)
    (Gt Ut : FVec Ideal S1024x256 .bf16) (Dt : FVec Ideal S256x1024 .bf16) (j : Fin 11)
    (hG : ∀ (k : Fin 1024) (f : Fin 256), Gt (ix2 k f) = G (ix2 k ⟨j.val * 256 + f.val, by omega⟩))
    (hU : ∀ (k : Fin 1024) (f : Fin 256), Ut (ix2 k f) = U (ix2 k ⟨j.val * 256 + f.val, by omega⟩))
    (hD : ∀ (f : Fin 256) (l : Fin 1024), Dt (ix2 f l) = D (ix2 ⟨j.val * 256 + f.val, by omega⟩ l)) (r l : Fin 1024) :
    chunk (k0_pay3 (F := Ideal) x g) Gt Ut Dt r l
      = ∑ f : Fin 256, hidden x g G U r ⟨j.val * 256 + f.val, by omega⟩ * D (ix2 ⟨j.val * 256 + f.val, by omega⟩ l) := by
  simp only [chunk, act, hidden, normed_eq, hG, hU, hD]

theorem sum_eleven (f : Fin 11 → EReal) : ∑ j, f j = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

variable (m : (ℓ : Loc nD τ sig) → Buf (Elt Ideal) ℓ)

theorem stored (c : Dev nD) (t : Fin cfg0.N) (r l : Fin 1024) :
    outsAt0 m c t (ix2 r l) = tileOut (iblk m c 0 t) (iblk m c 1 t) (iblk m c 2 t) (iblk m c 3 t) (iblk m c 4 t) r l := by
  unfold outsAt0
  frame_out
  rw [residual, chunk10, chunk9, chunk8, chunk7, chunk6, chunk5, chunk4, chunk3, chunk2, chunk1, first_chunk, tileOut,
    Fin.sum_univ_tiles 11 256 rfl]
  refine congrArg₂ (fun a b : EReal => a + Ideal.ofBits .f32 0x3F000000#32 * b) rfl ?_
  rw [sum_eleven]
  iterate 10
    refine congrArg₂ (fun a b : EReal => a + b) ?_ (chunk_tile _ _ _ _ _ _ _ _ _ (fun k f => by pointwise; blk_ext []) (fun k f => by pointwise; blk_ext [])
      (fun f l => by pointwise; blk_ext []) r l)
  exact chunk_tile _ _ _ _ _ _ _ _ _ (fun k f => by pointwise; blk_ext []) (fun k f => by pointwise; blk_ext [])
    (fun f l => by pointwise; blk_ext []) r l

end Cert.FfnIdeal.Layer

end
-- ==== Proof.FfnValue.lean ====
/- The feed-forward call's result array is the reference's term over its arguments. -/
module

public import proofs.«01_k».proof.Proof.FfnTile
public import proofs.«01_k».proof.Proof.Gen.FfnReferenceIdeal.Read
public import Idealize.ShloMosaic.Lib.Claim

@[expose] public section

set_option maxRecDepth 16384

noncomputable section

namespace Cert.FfnReferenceIdeal.Layer

open Cert.FfnReferenceIdeal Cert.FfnReferenceIdeal.Gen Cert.FfnReferenceIdeal.Read Idealize.ShloMosaic Idealize.ShloMosaic.TcCoe Idealize.SL.Sem

variable (x : FVec Ideal S32768x1024 .f32) (g : FVec Ideal S1024 .f32) (G U : FVec Ideal S1024x2816 .f32) (D : FVec Ideal S2816x1024 .f32)

/-- The reference's normalised row. -/
def normed (R : Fin 32768) (k : Fin 1024) : EReal :=
  x (ix2 R k) * Ideal.rsqrt (Ideal.div (∑ j : Fin 1024, x (ix2 R j) * x (ix2 R j)) (Ideal.ofBits .f32 0x44800000#32) + Ideal.ofBits .f32 0x358637BD#32)
    * g (ix1 k)

/-- The reference's gated hidden value. -/
def hidden (R : Fin 32768) (f : Fin 2816) : EReal :=
  (∑ k : Fin 1024, normed x g R k * G (ix2 k f)) * Ideal.logistic (∑ k : Fin 1024, normed x g R k * G (ix2 k f))
    * ∑ k : Fin 1024, normed x g R k * U (ix2 k f)

theorem normed_eq (R : Fin 32768) (k : Fin 1024) : val_main_v12 (F := Ideal) x g (ix2 R k) = normed x g R k := by
  pointwise! [val_main_v12, val_main_v11, val_main_v10, val_main_v9, val_main_v8, val_main_v7, val_main_v6, val_main_v5, val_main_cst_1, val_main_v4,
    val_main_v3, val_main_cst_0, val_main_v2, val_main_v1, val_main_cst, val_main_v0, normed]

theorem gate_eq (R : Fin 32768) (f : Fin 2816) : val_main_v13 (F := Ideal) x g G (ix2 R f) = ∑ k : Fin 1024, normed x g R k * G (ix2 k f) := by
  pointwise! [val_main_v13, normed_eq]

theorem up_eq (R : Fin 32768) (f : Fin 2816) : val_main_v15 (F := Ideal) x g U (ix2 R f) = ∑ k : Fin 1024, normed x g R k * U (ix2 k f) := by
  pointwise! [val_main_v15, normed_eq]

theorem out_eq (R : Fin 32768) (l : Fin 1024) : val_main_v20 (F := Ideal) x g G U D (ix2 R l)
    = x (ix2 R l) + Ideal.ofBits .f32 0x3F000000#32 * ∑ f : Fin 2816, hidden x g G U R f * D (ix2 f l) := by
  pointwise [val_main_v20, val_main_v19, val_main_v18, val_main_cst_2, val_main_v17, val_main_v16, val_main_v14,
    val_main_call0_v5, val_main_call0_v4, val_main_call0_v3, val_main_call0_v2, val_main_call0_v1, val_main_call0_v0, val_main_call0_cst,
    val_main_call0_cst_0, gate_eq, up_eq, hidden, Ideal.logistic]

end Cert.FfnReferenceIdeal.Layer

namespace Cert.FfnIdeal.Layer

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] ∧ t.val < 32 :=
  (by decide +kernel : ∀ t : Fin grid0.N, _)

/-- What the body stores at block index `y` of point `t` is the reference's term at the array index `y` sits at. -/
theorem point (c : Dev nD) (t : Fin cfg0.N) (y : S1024x1024.Idx) : outsAt0 m c t y
    = Cert.FfnReferenceIdeal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) ((win0_5.blk t).view.emb y) := by
  idx_vars y
  have e : (win0_5.blk t).view.emb (ix2 y0 y1) = (ix2 ⟨t.val * 1024 + y0.val, by have := (idx t).2.2.2.2.2.2; omega⟩ y1 : S32768x1024.Idx) := by
    blk_ext [idx t]
  rw [e, stored, Cert.FfnReferenceIdeal.Layer.out_eq]
  simp only [tileOut, hidden, normed, Cert.FfnReferenceIdeal.Layer.hidden, Cert.FfnReferenceIdeal.Layer.normed]
  blk_point [iblk, V, idx t]

theorem final (c : Dev nD) : (dats m 0 c).arrAt 5 cfg0.N
    = Cert.FfnReferenceIdeal.Read.val_main_v20 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [Gen.after0_5]
  exact point m c t y

end Cert.FfnIdeal.Layer

end
-- ==== Proof.FfnLastTile.lean ====
/- The last feed-forward block, with the final normalisation, on one tile of 1024 rows: the body's eleven chunk products over 256 hidden lanes each, read as one sum over
   the 2816 hidden lanes. -/
module

public import proofs.«01_k».proof.Proof.Gen.FfnLastIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FfnLastIdeal.Layer

open Cert.FfnLastIdeal Cert.FfnLastIdeal.Gen Idealize.ShloMosaic Idealize.ShloMosaic.TcCoe Idealize.SL.Sem
open Idealize.ShloMosaic.Pipeline (Dat)

/-- The gated hidden value `silu(h·G) * (h·U)` of row `r` at one of the 256 lanes of a chunk. -/
def act (H : FVec Ideal S1024x1024 .bf16) (G U : FVec Ideal S1024x256 .bf16) (r : Fin 1024) (f : Fin 256) : EReal :=
  (∑ k : Fin 1024, H (ix2 r k) * G (ix2 k f)) * Ideal.logistic (∑ k : Fin 1024, H (ix2 r k) * G (ix2 k f))
    * ∑ k : Fin 1024, H (ix2 r k) * U (ix2 k f)

/-- One chunk's contribution to the down projection. -/
def chunk (H : FVec Ideal S1024x1024 .bf16) (G U : FVec Ideal S1024x256 .bf16) (D : FVec Ideal S256x1024 .bf16) (r l : Fin 1024) : EReal :=
  ∑ f : Fin 256, act H G U r f * D (ix2 f l)

section Payloads
variable (x A : FVec Ideal S1024x1024 .f32) (g : FVec Ideal S1x1024 .f32) (H : FVec Ideal S1024x1024 .bf16) (G U : FVec Ideal S1024x256 .bf16)
  (D : FVec Ideal S256x1024 .bf16) (r l : Fin 1024)

theorem first_chunk : k0_pay4 (F := Ideal) x g G U D (ix2 r l) = chunk (k0_pay3 (F := Ideal) x g) G U D r l := by
  pointwise! [k0_pay4, chunk, act]

theorem chunk1 : k0_pay6 (F := Ideal) (k0_pay3 (F := Ideal) x g) (k0_pay5 (F := Ideal) x g G) U D A (ix2 r l)
    = A (ix2 r l) + chunk (k0_pay3 (F := Ideal) x g) G U D r l := by
  pointwise! [k0_pay6, k0_pay5, chunk, act]

theorem chunk2 : k0_pay7 (F := Ideal) H G U D A (ix2 r l) = A (ix2 r l) + chunk H G U D r l := by
  pointwise! [k0_pay7, chunk, act]

theorem chunk3 : k0_pay9 (F := Ideal) H (k0_pay8 (F := Ideal) G) U D A (ix2 r l) = A (ix2 r l) + chunk H G U D r l := by
  pointwise! [k0_pay9, k0_pay8, chunk, act]

theorem chunk4 : k0_pay10 (F := Ideal) H G U D A (ix2 r l) = A (ix2 r l) + chunk H G U D r l := by
  pointwise! [k0_pay10, chunk, act]

theorem chunk5 : k0_pay11 (F := Ideal) H G U D A (ix2 r l) = A (ix2 r l) + chunk H G U D r l := by
  pointwise! [k0_pay11, chunk, act]

theorem chunk6 : k0_pay13 (F := Ideal) (k0_pay12 (F := Ideal) H G U D A) (ix2 r l) = A (ix2 r l) + chunk H G U D r l := by
  pointwise! [k0_pay13, k0_pay12, chunk, act]

theorem chunk7 : k0_pay14 (F := Ideal) H G U D A (ix2 r l) = A (ix2 r l) + chunk H G U D r l := by
  pointwise! [k0_pay14, chunk, act]

theorem chunk8 : k0_pay16 (F := Ideal) (k0_pay15 (F := Ideal) H G U D) A (ix2 r l) = A (ix2 r l) + chunk H G U D r l := by
  pointwise! [k0_pay16, k0_pay15, chunk, act]

theorem chunk9 : k0_pay17 (F := Ideal) H G U D A (ix2 r l) = A (ix2 r l) + chunk H G U D r l := by
  pointwise! [k0_pay17, chunk, act]

theorem chunk10 : k0_pay1 (F := Ideal) (k0_pay18 (F := Ideal) H G U) (k0_pay19 (F := Ideal) D) A (ix2 r l) = A (ix2 r l) + chunk H G U D r l := by
  pointwise! [k0_pay1, k0_pay18, k0_pay19, chunk, act]

end Payloads

/-- The normalised row: `x · rsqrt(mean of squares + ε) · gain`. -/
def normed (x : FVec Ideal S1024x1024 .f32) (g : FVec Ideal S1x1024 .f32) (r k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 0 k)

theorem normed_eq (x : FVec Ideal S1024x1024 .f32) (g : FVec Ideal S1x1024 .f32) (r k : Fin 1024) :
    k0_pay3 (F := Ideal) x g (ix2 r k) = normed x g r k := by
  pointwise! [k0_pay3, normed]

/-- The gated hidden value at lane `f` of all 2816, from the whole weights. -/
def hidden (x : FVec Ideal S1024x1024 .f32) (g : FVec Ideal S1x1024 .f32) (G U : FVec Ideal S1024x2816 .bf16) (r : Fin 1024) (f : Fin 2816) : EReal :=
  (∑ k : Fin 1024, normed x g r k * G (ix2 k f)) * Ideal.logistic (∑ k : Fin 1024, normed x g r k * G (ix2 k f))
    * ∑ k : Fin 1024, normed x g r k * U (ix2 k f)

/-- The residual sum at row `r`, lane `l`, before the final normalisation. -/
def summed (x : FVec Ideal S1024x1024 .f32) (g : FVec Ideal S1x1024 .f32) (G U : FVec Ideal S1024x2816 .bf16) (D : FVec Ideal S2816x1024 .bf16)
    (r l : Fin 1024) : EReal :=
  x (ix2 r l) + Ideal.ofBits .f32 0x3F000000#32 * ∑ f : Fin 2816, hidden x g G U r f * D (ix2 f l)

/-- The block's output at row `r`, lane `l`: the residual sum, normalised over the row and scaled by the final gain. -/
def tileOut (x : FVec Ideal S1024x1024 .f32) (g : FVec Ideal S1x1024 .f32) (G U : FVec Ideal S1024x2816 .bf16) (D : FVec Ideal S2816x1024 .bf16)
    (h : FVec Ideal S1x1024 .f32) (r l : Fin 1024) : EReal :=
  summed x g G U D r l * Ideal.rsqrt (Ideal.div (∑ j : Fin 1024, summed x g G U D r j * summed x g G U D r j) (Ideal.ofBits .f32 0x44800000#32)
    + Ideal.ofBits .f32 0x358637BD#32) * h (ix2 0 l)

/-- The last payload, its accumulator known along the row. -/
theorem residual (x A : FVec Ideal S1024x1024 .f32) (g : FVec Ideal S1x1024 .f32) (G U : FVec Ideal S1024x2816 .bf16) (D : FVec Ideal S2816x1024 .bf16)
    (h : FVec Ideal S1x1024 .f32) (r l : Fin 1024) (hA : ∀ j : Fin 1024, A (ix2 r j) = ∑ f : Fin 2816, hidden x g G U r f * D (ix2 f j)) :
    k0_pay2 (F := Ideal) x A h (ix2 r l) = tileOut x g G U D h r l := by
  pointwise! [k0_pay2, tileOut, summed, hA]

/-- A chunk over the tiles of the weights at hidden lanes `j*256 … j*256+255` is that stretch of the whole sum. -/
theorem chunk_tile (x : FVec Ideal S1024x1024 .f32) (g : FVec Ideal S1x1024 .f32) (G U : FVec Ideal S1024x2816 .bf16) (D : FVec Ideal S2816x1024 .bf16)
    (Gt Ut : FVec Ideal S1024x256 .bf16) (Dt : FVec Ideal S256x1024 .bf16) (j : Fin 11)
    (hG : ∀ (k : Fin 1024) (f : Fin 256), Gt (ix2 k f) = G (ix2 k ⟨j.val * 256 + f.val, by omega⟩))
    (hU : ∀ (k : Fin 1024) (f : Fin 256), Ut (ix2 k f) = U (ix2 k ⟨j.val * 256 + f.val, by omega⟩))
    (hD : ∀ (f : Fin 256) (l : Fin 1024), Dt (ix2 f l) = D (ix2 ⟨j.val * 256 + f.val, by omega⟩ l)) (r l : Fin 1024) :
    chunk (k0_pay3 (F := Ideal) x g) Gt Ut Dt r l
      = ∑ f : Fin 256, hidden x g G U r ⟨j.val * 256 + f.val, by omega⟩ * D (ix2 ⟨j.val * 256 + f.val, by omega⟩ l) := by
  simp only [chunk, act, hidden, normed_eq, hG, hU, hD]

theorem sum_eleven (f : Fin 11 → EReal) : ∑ j, f j = f 0 + f 1 + f 2 + f 3 + f 4 + f 5 + f 6 + f 7 + f 8 + f 9 + f 10 := by
  rw [Fin.sum_univ_castSucc, Fin.sum_univ_castSucc, Fin.sum_univ_castSucc, Fin.sum_univ_eight]
  rfl

variable (m : (ℓ : Loc nD τ sig) → Buf (Elt Ideal) ℓ)

theorem stored (c : Dev nD) (t : Fin cfg0.N) (r l : Fin 1024) :
    outsAt0 m c t (ix2 r l) = tileOut (iblk m c 0 t) (iblk m c 1 t) (iblk m c 2 t) (iblk m c 3 t) (iblk m c 4 t) (iblk m c 5 t) r l := by
  unfold outsAt0
  frame_out
  refine residual _ _ _ _ _ _ _ r l fun l => ?_
  rw [chunk10, chunk9, chunk8, chunk7, chunk6, chunk5, chunk4, chunk3, chunk2, chunk1, first_chunk,
    Fin.sum_univ_tiles 11 256 rfl]
  rw [sum_eleven]
  iterate 10
    refine congrArg₂ (fun a b : EReal => a + b) ?_ (chunk_tile _ _ _ _ _ _ _ _ _ (fun k f => by pointwise; blk_ext []) (fun k f => by pointwise; blk_ext [])
      (fun f l => by pointwise; blk_ext []) r l)
  exact chunk_tile _ _ _ _ _ _ _ _ _ (fun k f => by pointwise; blk_ext []) (fun k f => by pointwise; blk_ext [])
    (fun f l => by pointwise; blk_ext []) r l

end Cert.FfnLastIdeal.Layer

end
-- ==== Proof.FfnLastValue.lean ====
/- The last feed-forward call's result array is the reference's term over its arguments. -/
module

public import proofs.«01_k».proof.Proof.FfnLastTile
public import proofs.«01_k».proof.Proof.Gen.FfnLastReferenceIdeal.Read
public import Idealize.ShloMosaic.Lib.Claim

@[expose] public section

set_option maxRecDepth 16384

noncomputable section

namespace Cert.FfnLastReferenceIdeal.Layer

open Cert.FfnLastReferenceIdeal Cert.FfnLastReferenceIdeal.Gen Cert.FfnLastReferenceIdeal.Read Idealize.ShloMosaic Idealize.ShloMosaic.TcCoe Idealize.SL.Sem

variable (x : FVec Ideal S32768x1024 .f32) (g : FVec Ideal S1024 .f32) (G U : FVec Ideal S1024x2816 .f32) (D : FVec Ideal S2816x1024 .f32)

/-- The reference's normalised row. -/
def normed (R : Fin 32768) (k : Fin 1024) : EReal :=
  x (ix2 R k) * Ideal.rsqrt (Ideal.div (∑ j : Fin 1024, x (ix2 R j) * x (ix2 R j)) (Ideal.ofBits .f32 0x44800000#32) + Ideal.ofBits .f32 0x358637BD#32)
    * g (ix1 k)

/-- The reference's gated hidden value. -/
def hidden (R : Fin 32768) (f : Fin 2816) : EReal :=
  (∑ k : Fin 1024, normed x g R k * G (ix2 k f)) * Ideal.logistic (∑ k : Fin 1024, normed x g R k * G (ix2 k f))
    * ∑ k : Fin 1024, normed x g R k * U (ix2 k f)

theorem normed_eq (R : Fin 32768) (k : Fin 1024) : val_main_v12 (F := Ideal) x g (ix2 R k) = normed x g R k := by
  pointwise! [val_main_v12, val_main_v11, val_main_v10, val_main_v9, val_main_v8, val_main_v7, val_main_v6, val_main_v5, val_main_cst_1, val_main_v4,
    val_main_v3, val_main_cst_0, val_main_v2, val_main_v1, val_main_cst, val_main_v0, normed]

theorem gate_eq (R : Fin 32768) (f : Fin 2816) : val_main_v13 (F := Ideal) x g G (ix2 R f) = ∑ k : Fin 1024, normed x g R k * G (ix2 k f) := by
  pointwise! [val_main_v13, normed_eq]

theorem up_eq (R : Fin 32768) (f : Fin 2816) : val_main_v15 (F := Ideal) x g U (ix2 R f) = ∑ k : Fin 1024, normed x g R k * U (ix2 k f) := by
  pointwise! [val_main_v15, normed_eq]

/-- The reference's residual sum before the final normalisation. -/
def summed (R : Fin 32768) (l : Fin 1024) : EReal :=
  x (ix2 R l) + Ideal.ofBits .f32 0x3F000000#32 * ∑ f : Fin 2816, hidden x g G U R f * D (ix2 f l)

theorem summed_eq (R : Fin 32768) (l : Fin 1024) : val_main_v20 (F := Ideal) x g G U D (ix2 R l) = summed x g G U D R l := by
  pointwise [val_main_v20, val_main_v19, val_main_v18, val_main_cst_2, val_main_v17, val_main_v16, val_main_v14,
    val_main_call0_v5, val_main_call0_v4, val_main_call0_v3, val_main_call0_v2, val_main_call0_v1, val_main_call0_v0, val_main_call0_cst,
    val_main_call0_cst_0, gate_eq, up_eq, summed, hidden, Ideal.logistic]

theorem out_eq (h : FVec Ideal S1024 .f32) (R : Fin 32768) (l : Fin 1024) : val_main_v33 (F := Ideal) x g G U D h (ix2 R l)
    = summed x g G U D R l * Ideal.rsqrt (Ideal.div (∑ j : Fin 1024, summed x g G U D R j * summed x g G U D R j) (Ideal.ofBits .f32 0x44800000#32)
      + Ideal.ofBits .f32 0x358637BD#32) * h (ix1 l) := by
  pointwise! [val_main_v33, val_main_v32, val_main_v31, val_main_v30, val_main_v29, val_main_v28, val_main_v27, val_main_v26, val_main_cst_5,
    val_main_v25, val_main_v24, val_main_cst_4, val_main_v23, val_main_v22, val_main_cst_3, val_main_v21, summed_eq]

end Cert.FfnLastReferenceIdeal.Layer

namespace Cert.FfnLastIdeal.Layer

open Cert.FfnLastIdeal Cert.FfnLastIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![t.val, 0] ∧ t.val < 32 :=
  (by decide +kernel : ∀ t : Fin grid0.N, _)

/-- What the body stores at block index `y` of point `t` is the reference's term at the array index `y` sits at. -/
theorem point (c : Dev nD) (t : Fin cfg0.N) (y : S1024x1024.Idx) : outsAt0 m c t y
    = Cert.FfnLastReferenceIdeal.Read.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) ((win0_6.blk t).view.emb y) := by
  idx_vars y
  have e : (win0_6.blk t).view.emb (ix2 y0 y1) = (ix2 ⟨t.val * 1024 + y0.val, by have := (idx t).2.2.2.2.2.2.2; omega⟩ y1 : S32768x1024.Idx) := by
    blk_ext [idx t]
  rw [e, stored, Cert.FfnLastReferenceIdeal.Layer.out_eq]
  simp only [tileOut, summed, hidden, normed, Cert.FfnLastReferenceIdeal.Layer.summed, Cert.FfnLastReferenceIdeal.Layer.hidden, Cert.FfnLastReferenceIdeal.Layer.normed]
  blk_point [iblk, V, idx t]

theorem final (c : Dev nD) : (dats m 0 c).arrAt 6 cfg0.N
    = Cert.FfnLastReferenceIdeal.Read.val_main_v33 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [Gen.after0_6]
  exact point m c t y

end Cert.FfnLastIdeal.Layer

end
-- ==== Proof.MixTile.lean ====
/- The merge of the three mixers on one tile of 1024 rows: the staged dilated arrays read back token by token, and the value stored. -/
module

public import proofs.«01_k».proof.Proof.Gen.MixIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixIdeal.Layer

open Cert.MixIdeal Cert.MixIdeal.Gen Idealize.ShloMosaic Idealize.ShloMosaic.TcCoe Idealize.SL.Sem
open Idealize.ShloMosaic.Pipeline (Dat)

/-- A tile of the array that keeps four tokens to a row, one token to a row. -/
def byToken4 (x : FVec Ideal S256x512 .f32) : FVec Ideal S1024x128 .f32 := fun j =>
  x (ix2 ⟨(j 0).val / 4, by have : (j 0).val < 1024 := (j 0).isLt; omega⟩
    ⟨(j 0).val % 4 * 128 + (j 1).val, by have : (j 1).val < 128 := (j 1).isLt; omega⟩)

/-- A tile of the array that keeps sixteen tokens to a row, one token to a row. -/
def byToken16 (x : FVec Ideal S64x2048 .f32) : FVec Ideal S1024x128 .f32 := fun j =>
  x (ix2 ⟨(j 0).val / 16, by have : (j 0).val < 1024 := (j 0).isLt; omega⟩
    ⟨(j 0).val % 16 * 128 + (j 1).val, by have : (j 1).val < 128 := (j 1).isLt; omega⟩)

/-- A whole read of a staged array whose pieces all agree with `G` and together cover it is `G`. -/
theorem read_staged (v : View sig .tc .vmem S1024x128 .f32) (L : List (View.Piece (Elt Ideal) S1024x128 .f32)) (G : FVec Ideal S1024x128 .f32)
    (hG : ∀ p ∈ L, ∀ y : p.1.shape.Idx, p.2 y = G (p.1.emb y)) (hc : ∀ j : S1024x128.Idx, ∃ p ∈ L, j ∈ p.1.set) :
    v.readCov L (Rect.unit ![0, 0] ![1024, 128] inb_S1024x128_S1024x128_0_0).toLoadRect = G := by
  rw [View.readCov_eq_canon']
  funext j
  rw [View.canon_apply_of_pieces G L hG _ (hc _)]
  refine congrArg G (funext (Fin.forall_fin_two.2 ⟨Fin.ext ?_, Fin.ext ?_⟩))
  · show 0 + 1 * (j 0).val = (j 0).val; omega
  · show 0 + 1 * (j 1).val = (j 1).val; omega

theorem agree_cons {G : FVec Ideal S1024x128 .f32} {q : View.Piece (Elt Ideal) S1024x128 .f32} {L : List (View.Piece (Elt Ideal) S1024x128 .f32)}
    (hq : ∀ y : q.1.shape.Idx, q.2 y = G (q.1.emb y)) (hL : ∀ p ∈ L, ∀ y : p.1.shape.Idx, p.2 y = G (p.1.emb y)) :
    ∀ p ∈ q :: L, ∀ y : p.1.shape.Idx, p.2 y = G (p.1.emb y) :=
  List.forall_mem_cons.2 ⟨hq, hL⟩

theorem cover_cons {j : S1024x128.Idx} {q : View.Piece (Elt Ideal) S1024x128 .f32} {L : List (View.Piece (Elt Ideal) S1024x128 .f32)} {n o : ℕ}
    (hq : (j 0).val % n = o → j ∈ q.1.set) (hL : (j 0).val % n ≠ o → ∃ p ∈ L, j ∈ p.1.set) : ∃ p ∈ q :: L, j ∈ p.1.set := by
  by_cases h : (j 0).val % n = o
  · exact ⟨q, List.mem_cons_self, hq h⟩
  · obtain ⟨p, hp, hj⟩ := hL h
    exact ⟨p, List.mem_cons_of_mem _ hp, hj⟩

theorem on_row4 (j : S1024x128.Idx) (o : ℕ) (inb) (h : (j 0).val % 4 = o) :
    j ∈ (⟨⟨![o, 0], S256x128.size, ![4, 1], inb⟩, spos_4_1⟩ : Rect S1024x128).set := by
  rw [LoadRect.mem_set]
  have h0 : (j 0).val < 1024 := (j 0).isLt
  have h1 : (j 1).val < 128 := (j 1).isLt
  refine Fin.forall_fin_two.2 ⟨⟨(j 0).val / 4, ?_, ?_⟩, ⟨(j 1).val, h1, ?_⟩⟩
  · show (j 0).val / 4 < 256; omega
  · show (j 0).val = o + 4 * ((j 0).val / 4); omega
  · show (j 1).val = 0 + 1 * (j 1).val; omega

theorem on_row16 (j : S1024x128.Idx) (o : ℕ) (inb) (h : (j 0).val % 16 = o) :
    j ∈ (⟨⟨![o, 0], S64x128.size, ![16, 1], inb⟩, spos_16_1⟩ : Rect S1024x128).set := by
  rw [LoadRect.mem_set]
  have h0 : (j 0).val < 1024 := (j 0).isLt
  have h1 : (j 1).val < 128 := (j 1).isLt
  refine Fin.forall_fin_two.2 ⟨⟨(j 0).val / 16, ?_, ?_⟩, ⟨(j 1).val, h1, ?_⟩⟩
  · show (j 0).val / 16 < 64; omega
  · show (j 0).val = o + 16 * ((j 0).val / 16); omega
  · show (j 1).val = 0 + 1 * (j 1).val; omega

/-- Lane block `o` of the four-token rows is row `o`, `o + 4`, … of the token array. -/
theorem piece4 (x : FVec Ideal S256x512 .f32) (o : ℕ) (ho : o < 4) (b : ℕ) (hb : b = o * 128) (inb inb') (y : S256x128.Idx) :
    View.ld (Val := Elt Ideal) (S := S256x512) (e' := .f32) x (Rect.unit ![0, b] ![256, 128] inb') y
      = byToken4 x ((⟨⟨![o, 0], S256x128.size, ![4, 1], inb⟩, spos_4_1⟩ : Rect S1024x128).emb y) := by
  subst hb
  have h0 : (y 0).val < 256 := (y 0).isLt
  have h1 : (y 1).val < 128 := (y 1).isLt
  refine congrArg x (funext (Fin.forall_fin_two.2 ⟨Fin.ext ?_, Fin.ext ?_⟩))
  · show 0 + 1 * (y 0).val = (o + 4 * (y 0).val) / 4; omega
  · show o * 128 + 1 * (y 1).val = (o + 4 * (y 0).val) % 4 * 128 + (0 + 1 * (y 1).val); omega

/-- Lane block `o` of the sixteen-token rows is row `o`, `o + 16`, … of the token array. -/
theorem piece16 (x : FVec Ideal S64x2048 .f32) (o : ℕ) (ho : o < 16) (b : ℕ) (hb : b = o * 128) (inb inb') (y : S64x128.Idx) :
    View.ld (Val := Elt Ideal) (S := S64x2048) (e' := .f32) x (Rect.unit ![0, b] ![64, 128] inb') y
      = byToken16 x ((⟨⟨![o, 0], S64x128.size, ![16, 1], inb⟩, spos_16_1⟩ : Rect S1024x128).emb y) := by
  subst hb
  have h0 : (y 0).val < 64 := (y 0).isLt
  have h1 : (y 1).val < 128 := (y 1).isLt
  refine congrArg x (funext (Fin.forall_fin_two.2 ⟨Fin.ext ?_, Fin.ext ?_⟩))
  · show 0 + 1 * (y 0).val = (o + 16 * (y 0).val) / 16; omega
  · show o * 128 + 1 * (y 1).val = (o + 16 * (y 0).val) % 16 * 128 + (0 + 1 * (y 1).val); omega

variable (m : (ℓ : Loc nD τ sig) → Buf (Elt Ideal) ℓ)

theorem stored' (c : Dev nD) (t : Fin cfg0.N) :
    outsAt0 m c t = k0_pay43 (F := Ideal) (iblk m c 0 t) (k0_pay1 (F := Ideal) (iblk m c 0 t) (iblk m c 1 t))
      (k0_pay42 (F := Ideal) (iblk m c 4 t) (byToken4 (iblk m c 5 t)) (byToken16 (iblk m c 6 t)) (iblk m c 7 t) (byToken4 (iblk m c 8 t)) (byToken16 (iblk m c 9 t)))
      (View.ld (iblk m c 10 t) (Rect.unit ![0, 0] ![1024, 1024] inb_S1024x3072_S1024x1024_0_0)) (iblk m c 2 t) (iblk m c 11 t)
      (View.ld (iblk m c 10 t) (Rect.unit ![0, 1024] ![1024, 1024] inb_S1024x3072_S1024x1024_0_1024)) (iblk m c 3 t) (iblk m c 12 t)
      (View.ld (iblk m c 10 t) (Rect.unit ![0, 2048] ![1024, 1024] inb_S1024x3072_S1024x1024_0_2048)) (iblk m c 13 t) (iblk m c 14 t) := by
  unfold outsAt0
  frame_out
  generalize iblk m c 5 t = a5
  generalize iblk m c 6 t = a6
  generalize iblk m c 8 t = a8
  generalize iblk m c 9 t = a9
  generalize e : View.readCov (Val := Elt Ideal) (View.whole cc0_scratch1) _ _ = s1
  rw [read_staged _ _ (byToken4 a5) (by
      refine agree_cons (fun y => by rw [k0_pay5, shapeCast_self]; exact piece4 a5 3 (by decide) _ rfl _ _ y) ?_
      refine agree_cons (fun y => by rw [k0_pay4, shapeCast_self]; exact piece4 a5 2 (by decide) _ rfl _ _ y) ?_
      refine agree_cons (fun y => by rw [k0_pay3, shapeCast_self]; exact piece4 a5 1 (by decide) _ rfl _ _ y) ?_
      refine agree_cons (fun y => by rw [k0_pay2, shapeCast_self]; exact piece4 a5 0 (by decide) _ rfl _ _ y) ?_
      exact List.forall_mem_nil _)
    (fun j => by
      refine cover_cons (on_row4 j 3 _) fun h3 => ?_
      refine cover_cons (on_row4 j 2 _) fun h2 => ?_
      refine cover_cons (on_row4 j 1 _) fun h1 => ?_
      refine cover_cons (on_row4 j 0 _) fun h0 => ?_
      omega)] at e
  subst e
  generalize e : View.readCov (Val := Elt Ideal) (View.whole cc0_scratch2) _ _ = s2
  rw [read_staged _ _ (byToken16 a6) (by
      refine agree_cons (fun y => by rw [k0_pay21, shapeCast_self]; exact piece16 a6 15 (by decide) _ rfl _ _ y) ?_
      refine agree_cons (fun y => by rw [k0_pay20, shapeCast_self]; exact piece16 a6 14 (by decide) _ rfl _ _ y) ?_
      refine agree_cons (fun y => by rw [k0_pay19, shapeCast_self]; exact piece16 a6 13 (by decide) _ rfl _ _ y) ?_
      refine agree_cons (fun y => by rw [k0_pay18, shapeCast_self]; exact piece16 a6 12 (by decide) _ rfl _ _ y) ?_
      refine agree_cons (fun y => by rw [k0_pay17, shapeCast_self]; exact piece16 a6 11 (by decide) _ rfl _ _ y) ?_
      refine agree_cons (fun y => by rw [k0_pay16, shapeCast_self]; exact piece16 a6 10 (by decide) _ rfl _ _ y) ?_
      refine agree_cons (fun y => by rw [k0_pay15, shapeCast_self]; exact piece16 a6 9 (by decide) _ rfl _ _ y) ?_
      refine agree_cons (fun y => by rw [k0_pay14, shapeCast_self]; exact piece16 a6 8 (by decide) _ rfl _ _ y) ?_
      refine agree_cons (fun y => by rw [k0_pay13, shapeCast_self]; exact piece16 a6 7 (by decide) _ rfl _ _ y) ?_
      refine agree_cons (fun y => by rw [k0_pay12, shapeCast_self]; exact piece16 a6 6 (by decide) _ rfl _ _ y) ?_
      refine agree_cons (fun y => by rw [k0_pay11, shapeCast_self]; exact piece16 a6 5 (by decide) _ rfl _ _ y) ?_
      refine agree_cons (fun y => by rw [k0_pay10, shapeCast_self]; exact piece16 a6 4 (by decide) _ rfl _ _ y) ?_
      refine agree_cons (fun y => by rw [k0_pay9, shapeCast_self]; exact piece16 a6 3 (by decide) _ rfl _ _ y) ?_
      refine agree_cons (fun y => by rw [k0_pay8, shapeCast_self]; exact piece16 a6 2 (by decide) _ rfl _ _ y) ?_
      refine agree_cons (fun y => by rw [k0_pay7, shapeCast_self]; exact piece16 a6 1 (by decide) _ rfl _ _ y) ?_
      refine agree_cons (fun y => by rw [k0_pay6, shapeCast_self]; exact piece16 a6 0 (by decide) _ rfl _ _ y) ?_
      exact List.forall_mem_nil _)
    (fun j => by
      refine cover_cons (on_row16 j 15 _) fun h15 => ?_
      refine cover_cons (on_row16 j 14 _) fun h14 => ?_
      refine cover_cons (on_row16 j 13 _) fun h13 => ?_
      refine cover_cons (on_row16 j 12 _) fun h12 => ?_
      refine cover_cons (on_row16 j 11 _) fun h11 => ?_
      refine cover_cons (on_row16 j 10 _) fun h10 => ?_
      refine cover_cons (on_row16 j 9 _) fun h9 => ?_
      refine cover_cons (on_row16 j 8 _) fun h8 => ?_
      refine cover_cons (on_row16 j 7 _) fun h7 => ?_
      refine cover_cons (on_row16 j 6 _) fun h6 => ?_
      refine cover_cons (on_row16 j 5 _) fun h5 => ?_
      refine cover_cons (on_row16 j 4 _) fun h4 => ?_
      refine cover_cons (on_row16 j 3 _) fun h3 => ?_
      refine cover_cons (on_row16 j 2 _) fun h2 => ?_
      refine cover_cons (on_row16 j 1 _) fun h1 => ?_
      refine cover_cons (on_row16 j 0 _) fun h0 => ?_
      omega)] at e
  subst e
  generalize e : View.readCov (Val := Elt Ideal) (View.whole cc0_scratch4) _ _ = s4
  rw [read_staged _ _ (byToken4 a8) (by
      refine agree_cons (fun y => by rw [k0_pay25, shapeCast_self]; exact piece4 a8 3 (by decide) _ rfl _ _ y) ?_
      refine agree_cons (fun y => by rw [k0_pay24, shapeCast_self]; exact piece4 a8 2 (by decide) _ rfl _ _ y) ?_
      refine agree_cons (fun y => by rw [k0_pay23, shapeCast_self]; exact piece4 a8 1 (by decide) _ rfl _ _ y) ?_
      refine agree_cons (fun y => by rw [k0_pay22, shapeCast_self]; exact piece4 a8 0 (by decide) _ rfl _ _ y) ?_
      exact List.forall_mem_nil _)
    (fun j => by
      refine cover_cons (on_row4 j 3 _) fun h3 => ?_
      refine cover_cons (on_row4 j 2 _) fun h2 => ?_
      refine cover_cons (on_row4 j 1 _) fun h1 => ?_
      refine cover_cons (on_row4 j 0 _) fun h0 => ?_
      omega)] at e
  subst e
  generalize e : View.readCov (Val := Elt Ideal) (View.whole cc0_scratch5) _ _ = s5
  rw [read_staged _ _ (byToken16 a9) (by
      refine agree_cons (fun y => by rw [k0_pay41, shapeCast_self]; exact piece16 a9 15 (by decide) _ rfl _ _ y) ?_
      refine agree_cons (fun y => by rw [k0_pay40, shapeCast_self]; exact piece16 a9 14 (by decide) _ rfl _ _ y) ?_
      refine agree_cons (fun y => by rw [k0_pay39, shapeCast_self]; exact piece16 a9 13 (by decide) _ rfl _ _ y) ?_
      refine agree_cons (fun y => by rw [k0_pay38, shapeCast_self]; exact piece16 a9 12 (by decide) _ rfl _ _ y) ?_
      refine agree_cons (fun y => by rw [k0_pay37, shapeCast_self]; exact piece16 a9 11 (by decide) _ rfl _ _ y) ?_
      refine agree_cons (fun y => by rw [k0_pay36, shapeCast_self]; exact piece16 a9 10 (by decide) _ rfl _ _ y) ?_
      refine agree_cons (fun y => by rw [k0_pay35, shapeCast_self]; exact piece16 a9 9 (by decide) _ rfl _ _ y) ?_
      refine agree_cons (fun y => by rw [k0_pay34, shapeCast_self]; exact piece16 a9 8 (by decide) _ rfl _ _ y) ?_
      refine agree_cons (fun y => by rw [k0_pay33, shapeCast_self]; exact piece16 a9 7 (by decide) _ rfl _ _ y) ?_
      refine agree_cons (fun y => by rw [k0_pay32, shapeCast_self]; exact piece16 a9 6 (by decide) _ rfl _ _ y) ?_
      refine agree_cons (fun y => by rw [k0_pay31, shapeCast_self]; exact piece16 a9 5 (by decide) _ rfl _ _ y) ?_
      refine agree_cons (fun y => by rw [k0_pay30, shapeCast_self]; exact piece16 a9 4 (by decide) _ rfl _ _ y) ?_
      refine agree_cons (fun y => by rw [k0_pay29, shapeCast_self]; exact piece16 a9 3 (by decide) _ rfl _ _ y) ?_
      refine agree_cons (fun y => by rw [k0_pay28, shapeCast_self]; exact piece16 a9 2 (by decide) _ rfl _ _ y) ?_
      refine agree_cons (fun y => by rw [k0_pay27, shapeCast_self]; exact piece16 a9 1 (by decide) _ rfl _ _ y) ?_
      refine agree_cons (fun y => by rw [k0_pay26, shapeCast_self]; exact piece16 a9 0 (by decide) _ rfl _ _ y) ?_
      exact List.forall_mem_nil _)
    (fun j => by
      refine cover_cons (on_row16 j 15 _) fun h15 => ?_
      refine cover_cons (on_row16 j 14 _) fun h14 => ?_
      refine cover_cons (on_row16 j 13 _) fun h13 => ?_
      refine cover_cons (on_row16 j 12 _) fun h12 => ?_
      refine cover_cons (on_row16 j 11 _) fun h11 => ?_
      refine cover_cons (on_row16 j 10 _) fun h10 => ?_
      refine cover_cons (on_row16 j 9 _) fun h9 => ?_
      refine cover_cons (on_row16 j 8 _) fun h8 => ?_
      refine cover_cons (on_row16 j 7 _) fun h7 => ?_
      refine cover_cons (on_row16 j 6 _) fun h6 => ?_
      refine cover_cons (on_row16 j 5 _) fun h5 => ?_
      refine cover_cons (on_row16 j 4 _) fun h4 => ?_
      refine cover_cons (on_row16 j 3 _) fun h3 => ?_
      refine cover_cons (on_row16 j 2 _) fun h2 => ?_
      refine cover_cons (on_row16 j 1 _) fun h1 => ?_
      refine cover_cons (on_row16 j 0 _) fun h0 => ?_
      omega)] at e
  subst e
  rfl

/-- The three weights of a token lane are exponentials of its log-sums below their maximum; this is the weighted mean, divided once. -/
def mixed (l0 l1 l2 o0 o1 o2 : EReal) : EReal :=
  Ideal.div (Ideal.exp (l0 - max (max l0 l1) l2) * o0 + Ideal.exp (l1 - max (max l0 l1) l2) * o1 + Ideal.exp (l2 - max (max l0 l1) l2) * o2)
    (Ideal.exp (l0 - max (max l0 l1) l2) + Ideal.exp (l1 - max (max l0 l1) l2) + Ideal.exp (l2 - max (max l0 l1) l2))

/-- The normalised row: `x · rsqrt(mean of squares + ε) · gain`. -/
def normed (x : FVec Ideal S1024x1024 .f32) (g : FVec Ideal S1x1024 .f32) (r k : Fin 1024) : EReal :=
  x (ix2 r k) * Ideal.rsqrt (Ideal.div (∑ j : Fin 1024, x (ix2 r j) * x (ix2 r j)) (Ideal.ofBits .f32 0x44800000#32) + Ideal.ofBits .f32 0x358637BD#32)
    * g (ix2 0 k)

section Payloads
variable (x : FVec Ideal S1024x1024 .f32) (g : FVec Ideal S1x1024 .f32) (h : FVec Ideal S1024x1024 .bf16) (yc : FVec Ideal S1024x128 .f32)
  (g0 g1 g2 wo : FVec Ideal S1024x1024 .bf16) (ya : FVec Ideal S1024x512 .bf16) (wa : FVec Ideal S512x1024 .bf16)
  (yb : FVec Ideal S1024x256 .bf16) (wb : FVec Ideal S256x1024 .bf16) (wc : FVec Ideal S128x1024 .bf16)
  (o0 o1 o2 l0 l1 l2 : FVec Ideal S1024x128 .f32)

theorem normed_eq (r k : Fin 1024) : k0_pay1 (F := Ideal) x g (ix2 r k) = normed x g r k := by
  pointwise! [k0_pay1, normed]

theorem mixed_eq (r : Fin 1024) (l : Fin 128) : k0_pay42 (F := Ideal) o0 o1 o2 l0 l1 l2 (ix2 r l)
    = mixed (l0 (ix2 r l)) (l1 (ix2 r l)) (l2 (ix2 r l)) (o0 (ix2 r l)) (o1 (ix2 r l)) (o2 (ix2 r l)) := by
  pointwise! [k0_pay42, mixed]

theorem merged_eq (r l : Fin 1024) : k0_pay43 (F := Ideal) x h yc g0 ya wa g1 yb wb g2 wc wo (ix2 r l)
    = x (ix2 r l) + ∑ k : Fin 1024,
        (Ideal.logistic (∑ j : Fin 1024, h (ix2 r j) * g0 (ix2 j k)) * (∑ j : Fin 512, ya (ix2 r j) * wa (ix2 j k))
          + Ideal.logistic (∑ j : Fin 1024, h (ix2 r j) * g1 (ix2 j k)) * (∑ j : Fin 256, yb (ix2 r j) * wb (ix2 j k))
          + Ideal.logistic (∑ j : Fin 1024, h (ix2 r j) * g2 (ix2 j k)) * (∑ j : Fin 128, yc (ix2 r j) * wc (ix2 j k))) * wo (ix2 k l) := by
  pointwise! [k0_pay43]

end Payloads

/-- One gate of row `r` at lane `k`, from the gate weights' columns `o … o + 1023`. -/
def gate (x : FVec Ideal S1024x1024 .f32) (g : FVec Ideal S1x1024 .f32) (w : FVec Ideal S1024x3072 .bf16) (o : Fin 3) (r k : Fin 1024) : EReal :=
  Ideal.logistic (∑ j : Fin 1024, normed x g r j * w (ix2 j ⟨o.val * 1024 + k.val, by omega⟩))

/-- The call's output at row `r`, lane `l` of a tile. -/
def tileOut (x : FVec Ideal S1024x1024 .f32) (g : FVec Ideal S1x1024 .f32) (ya : FVec Ideal S1024x512 .bf16) (yb : FVec Ideal S1024x256 .bf16)
    (o0 : FVec Ideal S1024x128 .f32) (o1 : FVec Ideal S256x512 .f32) (o2 : FVec Ideal S64x2048 .f32)
    (l0 : FVec Ideal S1024x128 .f32) (l1 : FVec Ideal S256x512 .f32) (l2 : FVec Ideal S64x2048 .f32) (w : FVec Ideal S1024x3072 .bf16)
    (wa : FVec Ideal S512x1024 .bf16) (wb : FVec Ideal S256x1024 .bf16) (wc : FVec Ideal S128x1024 .bf16) (wo : FVec Ideal S1024x1024 .bf16)
    (r l : Fin 1024) : EReal :=
  x (ix2 r l) + ∑ k : Fin 1024,
    (gate x g w 0 r k * (∑ j : Fin 512, ya (ix2 r j) * wa (ix2 j k))
      + gate x g w 1 r k * (∑ j : Fin 256, yb (ix2 r j) * wb (ix2 j k))
      + gate x g w 2 r k * (∑ j : Fin 128, mixed (l0 (ix2 r j)) (byToken4 l1 (ix2 r j)) (byToken16 l2 (ix2 r j))
          (o0 (ix2 r j)) (byToken4 o1 (ix2 r j)) (byToken16 o2 (ix2 r j)) * wc (ix2 j k))) * wo (ix2 k l)

theorem stored (c : Dev nD) (t : Fin cfg0.N) (r l : Fin 1024) :
    outsAt0 m c t (ix2 r l) = tileOut (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) r l := by
  rw [stored', merged_eq]
  simp only [tileOut, normed_eq, mixed_eq, gate]
  generalize iblk m c 10 t = w
  have e0 (j k : Fin 1024) : View.ld w (Rect.unit ![0, 0] ![1024, 1024] inb_S1024x3072_S1024x1024_0_0) (ix2 j k)
      = w (ix2 j ⟨(0 : Fin 3).val * 1024 + k.val, by have := k.isLt; show 0 * 1024 + k.val < 3072; omega⟩ : S1024x3072.Idx) := by pointwise; blk_ext []
  have e1 (j k : Fin 1024) : View.ld w (Rect.unit ![0, 1024] ![1024, 1024] inb_S1024x3072_S1024x1024_0_1024) (ix2 j k)
      = w (ix2 j ⟨(1 : Fin 3).val * 1024 + k.val, by have := k.isLt; show 1 * 1024 + k.val < 3072; omega⟩ : S1024x3072.Idx) := by pointwise; blk_ext []
  have e2 (j k : Fin 1024) : View.ld w (Rect.unit ![0, 2048] ![1024, 1024] inb_S1024x3072_S1024x1024_0_2048) (ix2 j k)
      = w (ix2 j ⟨(2 : Fin 3).val * 1024 + k.val, by have := k.isLt; show 2 * 1024 + k.val < 3072; omega⟩ : S1024x3072.Idx) := by pointwise; blk_ext []
  simp only [e0, e1, e2]

end Cert.MixIdeal.Layer

end
-- ==== Proof.MixReference.lean ====
/- The merge reference read at one element. -/
module

public import proofs.«01_k».proof.Proof.Gen.MixReferenceIdeal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MixReferenceIdeal.Layer

open Cert.MixReferenceIdeal Cert.MixReferenceIdeal.Gen Cert.MixReferenceIdeal.Read Idealize.ShloMosaic Idealize.ShloMosaic.TcCoe Idealize.SL.Sem

variable (x0 : FVec Ideal S32768x1024 .f32) (x1 : FVec Ideal S1024 .f32) (x2 : FVec Ideal S1024x6162 .f32) (x3 : FVec Ideal S32768x512 .bf16)
  (x4 : FVec Ideal S32768x256 .bf16) (x5 x6 : FVec Ideal S32768x128 .f32) (x7 x8 : FVec Ideal S8192x512 .f32) (x9 x10 : FVec Ideal S2048x2048 .f32)
  (x11 : FVec Ideal S384x1024 .f32) (x12 : FVec Ideal S256x1024 .f32) (x13 : FVec Ideal S128x1024 .f32) (x14 : FVec Ideal S1024x1024 .f32)
  (R : Fin 32768)

/-- The reference's normalised row. -/
def normed (R : Fin 32768) (k : Fin 1024) : EReal :=
  x0 (ix2 R k) * Ideal.rsqrt (Ideal.div (∑ j : Fin 1024, x0 (ix2 R j) * x0 (ix2 R j)) (Ideal.ofBits .f32 0x44800000#32) + Ideal.ofBits .f32 0x358637BD#32)
    * x1 (ix1 k)

theorem normed_eq (k : Fin 1024) : val_main_v42 (F := Ideal) x0 x1 (ix2 R k) = normed x0 x1 R k := by
  pointwise! [val_main_v42, val_main_v41, val_main_v40, val_main_v39, val_main_v38, val_main_v37, val_main_v36, val_main_v35, val_main_cst_5, val_main_v34,
    val_main_v33, val_main_cst_4, val_main_v32, val_main_v31, val_main_cst_3, val_main_v30, normed]

theorem gate_eq (o : Fin 3) (k : Fin 1024) : val_main_v51 (F := Ideal) x0 x1 x2 (ix3 R o k)
    = Ideal.logistic (∑ j : Fin 1024, normed x0 x1 R j * x2 (ix2 j ⟨3090 + (o.val * 1024 + k.val), by omega⟩)) := by
  pointwise [val_main_v51, val_main_v50, val_main_v49, val_main_cst_7, val_main_v48, val_main_v47, val_main_cst_6, val_main_v46, val_main_v45,
    val_main_v44, val_main_v43, normed_eq, Ideal.logistic]

theorem ya_eq (j : Fin 384) : val_main_v3 (F := Ideal) x3 (ix2 R j)
    = x3 (ix2 R ⟨j.val / 192 * 256 + j.val % 192, by omega⟩) := by
  pointwise [val_main_v3, val_main_v2, val_main_v1, val_main_v0]

theorem lse_eq (l : Fin 128) : val_main_v10 (F := Ideal) x6 x8 x10 (ix3 0 R l) = x6 (ix2 R l)
    ∧ val_main_v10 (F := Ideal) x6 x8 x10 (ix3 1 R l) = x8 (ix2 ⟨R.val / 4, by omega⟩ ⟨R.val % 4 * 128 + l.val, by omega⟩)
    ∧ val_main_v10 (F := Ideal) x6 x8 x10 (ix3 2 R l) = x10 (ix2 ⟨R.val / 16, by omega⟩ ⟨R.val % 16 * 128 + l.val, by omega⟩) := by
  refine ⟨?_, ?_, ?_⟩
  · pointwise [val_main_v10, val_main_v9, val_main_v8, val_main_v7, val_main_v6, val_main_v5]
  · pointwise [val_main_v10, val_main_v9, val_main_v8, val_main_v7, val_main_v6, val_main_v5]
  · pointwise [val_main_v10, val_main_v9, val_main_v8, val_main_v7, val_main_v6, val_main_v5]

theorem outs_eq (l : Fin 128) : val_main_v27 (F := Ideal) x5 x7 x9 (ix3 0 R l) = x5 (ix2 R l)
    ∧ val_main_v27 (F := Ideal) x5 x7 x9 (ix3 1 R l) = x7 (ix2 ⟨R.val / 4, by omega⟩ ⟨R.val % 4 * 128 + l.val, by omega⟩)
    ∧ val_main_v27 (F := Ideal) x5 x7 x9 (ix3 2 R l) = x9 (ix2 ⟨R.val / 16, by omega⟩ ⟨R.val % 16 * 128 + l.val, by omega⟩) := by
  refine ⟨?_, ?_, ?_⟩
  · pointwise [val_main_v27, val_main_v26, val_main_v25, val_main_v24, val_main_v23, val_main_v22]
  · pointwise [val_main_v27, val_main_v26, val_main_v25, val_main_v24, val_main_v23, val_main_v22]
  · pointwise [val_main_v27, val_main_v26, val_main_v25, val_main_v24, val_main_v23, val_main_v22]

theorem minus_inf : Ideal.ofBits .f32 0xFF800000#32 = ⊥ := by
  have h : ((4286578688 : ℕ) >>> 23) % 256 = 255 := by decide
  norm_num [Ideal.ofBits, Ideal.ieee, h]
  decide

/-- A sum over the stack's three layers. -/
theorem sum_layers (A : FVec Ideal S3x32768x128 .f32) (l : Fin 128) :
    Host.reduceAdd A (constant S_ .f32 0x00000000#32) reducesTo_S3x32768x128_S32768x128_d0 h_S_ (ix2 R l)
      = A (ix3 0 R l) + A (ix3 1 R l) + A (ix3 2 R l) := by
  pointwise
  exact Fin.sum_univ_three _

/-- The maximum over the stack's three layers. -/
theorem max_layers (A : FVec Ideal S3x32768x128 .f32) (l : Fin 128) :
    Host.reduce FloatOps.maximumf A (constant S_ .f32 0xFF800000#32) reducesTo_S3x32768x128_S32768x128_d0 h_S_ (ix2 R l)
      = max (max (A (ix3 0 R l)) (A (ix3 1 R l))) (A (ix3 2 R l)) := by
  pointwise
  rw [minus_inf, show (Finset.univ : Finset (Fin 3)) = {0, 1, 2} from rfl]
  simp [max_assoc]

theorem from_bot (B : FVec Ideal S32768x128 .f32) (i : S32768x128.Idx) : maximumf (val_main_v12 (F := Ideal)) B i = B i := by
  have h : val_main_v12 (F := Ideal) i = ⊥ := by
    rw [val_main_v12_apply, val_main_cst_0_apply]
    exact minus_inf
  show max (val_main_v12 (F := Ideal) i) (B i) = B i
  rw [h]
  exact max_eq_right bot_le

theorem top_eq (l : Fin 128) : val_main_v13 (F := Ideal) x6 x8 x10 (ix2 R l)
    = max (max (val_main_v10 (F := Ideal) x6 x8 x10 (ix3 0 R l)) (val_main_v10 (F := Ideal) x6 x8 x10 (ix3 1 R l)))
        (val_main_v10 (F := Ideal) x6 x8 x10 (ix3 2 R l)) := by
  unfold val_main_v13
  rw [from_bot]
  unfold val_main_v11 val_main_cst
  exact max_layers R _ l

theorem weight_eq (g : Fin 3) (l : Fin 128) : val_main_v17 (F := Ideal) x6 x8 x10 (ix3 g R l)
    = Ideal.exp (val_main_v10 (F := Ideal) x6 x8 x10 (ix3 g R l) - val_main_v13 (F := Ideal) x6 x8 x10 (ix2 R l)) := by
  unfold val_main_v17 val_main_v16 val_main_v15 val_main_v14
  generalize val_main_v10 (F := Ideal) x6 x8 x10 = A
  generalize val_main_v13 (F := Ideal) x6 x8 x10 = B
  pointwise

theorem alpha_eq (g : Fin 3) (l : Fin 128) : val_main_v21 (F := Ideal) x6 x8 x10 (ix3 g R l)
    = Ideal.div (val_main_v17 (F := Ideal) x6 x8 x10 (ix3 g R l)) (val_main_v17 (F := Ideal) x6 x8 x10 (ix3 0 R l)
        + val_main_v17 (F := Ideal) x6 x8 x10 (ix3 1 R l) + val_main_v17 (F := Ideal) x6 x8 x10 (ix3 2 R l)) := by
  have h : val_main_v18 (F := Ideal) x6 x8 x10 (ix2 R l)
      = val_main_v17 (F := Ideal) x6 x8 x10 (ix3 0 R l) + val_main_v17 (F := Ideal) x6 x8 x10 (ix3 1 R l)
        + val_main_v17 (F := Ideal) x6 x8 x10 (ix3 2 R l) := by
    unfold val_main_v18 val_main_cst_1
    exact sum_layers R _ l
  rw [← h]
  unfold val_main_v21 val_main_v20 val_main_v19
  generalize val_main_v17 (F := Ideal) x6 x8 x10 = A
  generalize val_main_v18 (F := Ideal) x6 x8 x10 = B
  pointwise

/-- The three outputs of a token lane weighted by the softmax of their log-sums. -/
def mixed (l0 l1 l2 o0 o1 o2 : EReal) : EReal :=
  Ideal.div (Ideal.exp (l0 - max (max l0 l1) l2))
      (Ideal.exp (l0 - max (max l0 l1) l2) + Ideal.exp (l1 - max (max l0 l1) l2) + Ideal.exp (l2 - max (max l0 l1) l2)) * o0
    + Ideal.div (Ideal.exp (l1 - max (max l0 l1) l2))
      (Ideal.exp (l0 - max (max l0 l1) l2) + Ideal.exp (l1 - max (max l0 l1) l2) + Ideal.exp (l2 - max (max l0 l1) l2)) * o1
    + Ideal.div (Ideal.exp (l2 - max (max l0 l1) l2))
      (Ideal.exp (l0 - max (max l0 l1) l2) + Ideal.exp (l1 - max (max l0 l1) l2) + Ideal.exp (l2 - max (max l0 l1) l2)) * o2

theorem mixed_eq (l : Fin 128) : val_main_v29 (F := Ideal) x5 x6 x7 x8 x9 x10 (ix2 R l)
    = mixed (x6 (ix2 R l)) (x8 (ix2 ⟨R.val / 4, by omega⟩ ⟨R.val % 4 * 128 + l.val, by omega⟩))
        (x10 (ix2 ⟨R.val / 16, by omega⟩ ⟨R.val % 16 * 128 + l.val, by omega⟩))
        (x5 (ix2 R l)) (x7 (ix2 ⟨R.val / 4, by omega⟩ ⟨R.val % 4 * 128 + l.val, by omega⟩))
        (x9 (ix2 ⟨R.val / 16, by omega⟩ ⟨R.val % 16 * 128 + l.val, by omega⟩)) := by
  obtain ⟨a0, a1, a2⟩ := lse_eq x6 x8 x10 R l
  obtain ⟨b0, b1, b2⟩ := outs_eq x5 x7 x9 R l
  have w0 := alpha_eq x6 x8 x10 R 0 l
  have w1 := alpha_eq x6 x8 x10 R 1 l
  have w2 := alpha_eq x6 x8 x10 R 2 l
  simp only [weight_eq, top_eq, a0, a1, a2] at w0 w1 w2
  unfold val_main_v29 val_main_v28 val_main_cst_2
  rw [sum_layers]
  have h (A B : FVec Ideal S3x32768x128 .f32) (g : Fin 3) : mulf A B (ix3 g R l) = A (ix3 g R l) * B (ix3 g R l) := rfl
  rw [h, h, h, b0, b1, b2, w0, w1, w2, mixed]

theorem out_eq (l : Fin 1024) : val_main_v67 (F := Ideal) x0 x1 x2 x3 x4 x5 x6 x7 x8 x9 x10 x11 x12 x13 x14 (ix2 R l)
    = x0 (ix2 R l) + ∑ k : Fin 1024,
        (val_main_v51 (F := Ideal) x0 x1 x2 (ix3 R 0 k) * (∑ j : Fin 384, x3 (ix2 R ⟨j.val / 192 * 256 + j.val % 192, by omega⟩) * x11 (ix2 j k))
          + val_main_v51 (F := Ideal) x0 x1 x2 (ix3 R 1 k) * (∑ j : Fin 256, x4 (ix2 R j) * x12 (ix2 j k))
          + val_main_v51 (F := Ideal) x0 x1 x2 (ix3 R 2 k) * (∑ j : Fin 128, val_main_v29 (F := Ideal) x5 x6 x7 x8 x9 x10 (ix2 R j) * x13 (ix2 j k)))
          * x14 (ix2 k l) := by
  pointwise [val_main_v67, val_main_v66, val_main_v65, val_main_v64, val_main_v63, val_main_v62, val_main_v61, val_main_v60, val_main_v59, val_main_v58,
    val_main_v57, val_main_v56, val_main_v55, val_main_v54, val_main_v53, val_main_v52, val_main_v4, ya_eq]

end Cert.MixReferenceIdeal.Layer

end
-- ==== Proof.MixMath.lean ====
/- A weighted mean of three values divided once, or weight by weight; a row packed in two padded groups. -/
module

public import Idealize.ShloMosaic.Lib.Pointwise

@[expose] public section

noncomputable section

namespace MixMath

open Idealize.ShloMosaic

/-- The exponential of a value less a real bound of it is a real of `[0, ∞)`, and positive where the bound is reached. -/
theorem weight_real (a : EReal) (M : ℝ) (h : a ≤ (M : EReal)) : ∃ e : ℝ, 0 ≤ e ∧ (a = (M : EReal) → 0 < e) ∧ Ideal.exp (a - (M : EReal)) = (e : EReal) := by
  induction a with
  | top => exact absurd h (by simp)
  | bot => exact ⟨0, le_rfl, fun e => absurd e.symm (EReal.coe_ne_bot M), by rw [EReal.bot_sub]; rfl⟩
  | coe a => exact ⟨Real.exp (a - M), (Real.exp_pos _).le, fun _ => Real.exp_pos _, rfl⟩

/-- The weighted sum over the weights' sum is the sum of the values each weighted by its share. -/
theorem mean_eq (l0 l1 l2 o0 o1 o2 : EReal) (hb : ⊥ < max (max l0 l1) l2) (ht : max (max l0 l1) l2 < ⊤) :
    Ideal.div (Ideal.exp (l0 - max (max l0 l1) l2) * o0 + Ideal.exp (l1 - max (max l0 l1) l2) * o1 + Ideal.exp (l2 - max (max l0 l1) l2) * o2)
      (Ideal.exp (l0 - max (max l0 l1) l2) + Ideal.exp (l1 - max (max l0 l1) l2) + Ideal.exp (l2 - max (max l0 l1) l2))
    = Ideal.div (Ideal.exp (l0 - max (max l0 l1) l2))
        (Ideal.exp (l0 - max (max l0 l1) l2) + Ideal.exp (l1 - max (max l0 l1) l2) + Ideal.exp (l2 - max (max l0 l1) l2)) * o0
      + Ideal.div (Ideal.exp (l1 - max (max l0 l1) l2))
        (Ideal.exp (l0 - max (max l0 l1) l2) + Ideal.exp (l1 - max (max l0 l1) l2) + Ideal.exp (l2 - max (max l0 l1) l2)) * o1
      + Ideal.div (Ideal.exp (l2 - max (max l0 l1) l2))
        (Ideal.exp (l0 - max (max l0 l1) l2) + Ideal.exp (l1 - max (max l0 l1) l2) + Ideal.exp (l2 - max (max l0 l1) l2)) * o2 := by
  have h0 : l0 ≤ max (max l0 l1) l2 := (le_max_left _ _).trans (le_max_left _ _)
  have h1 : l1 ≤ max (max l0 l1) l2 := (le_max_right _ _).trans (le_max_left _ _)
  have h2 : l2 ≤ max (max l0 l1) l2 := le_max_right _ _
  have hm : l0 = max (max l0 l1) l2 ∨ l1 = max (max l0 l1) l2 ∨ l2 = max (max l0 l1) l2 := by
    rcases max_choice (max l0 l1) l2 with h | h
    · rcases max_choice l0 l1 with h' | h'
      · exact Or.inl (by rw [h, h'])
      · exact Or.inr (Or.inl (by rw [h, h']))
    · exact Or.inr (Or.inr h.symm)
  generalize max (max l0 l1) l2 = M at *
  induction M with
  | top => exact absurd ht (lt_irrefl _)
  | bot => exact absurd hb (lt_irrefl _)
  | coe M =>
    obtain ⟨e0, n0, p0, q0⟩ := weight_real l0 M h0
    obtain ⟨e1, n1, p1, q1⟩ := weight_real l1 M h1
    obtain ⟨e2, n2, p2, q2⟩ := weight_real l2 M h2
    have hs : 0 < e0 + e1 + e2 := by
      rcases hm with h | h | h
      · have := p0 h; linarith
      · have := p1 h; linarith
      · have := p2 h; linarith
    have hs' : ((e0 : EReal) + e1 + e2) = ((e0 + e1 + e2 : ℝ) : EReal) := by push_cast; rfl
    rw [q0, q1, q2, hs']
    have hz : ((e0 + e1 + e2 : ℝ) : EReal) ≠ 0 := by exact_mod_cast hs.ne'
    unfold Ideal.div
    rw [if_neg hz, if_neg hz, if_neg hz, if_neg hz, ← EReal.coe_inv]
    have hi : (0 : EReal) ≤ (((e0 + e1 + e2)⁻¹ : ℝ) : EReal) := by exact_mod_cast (inv_pos.2 hs).le
    rw [EReal.right_distrib_of_nonneg_of_ne_top hi (EReal.coe_ne_top _), EReal.right_distrib_of_nonneg_of_ne_top hi (EReal.coe_ne_top _)]
    congr 1
    · congr 1
      · exact mul_right_comm _ _ _
      · exact mul_right_comm _ _ _
    · exact mul_right_comm _ _ _

/-- A sum over two groups of 256 lanes whose last 64 lanes are zero is the sum over the 2 × 192 lanes that are kept. -/
theorem packed (f : Fin 512 → EReal) (g : Fin 384 → EReal) (hz : ∀ j : Fin 512, 192 ≤ j.val % 256 → f j = 0)
    (he : ∀ j : Fin 384, f ⟨j.val / 192 * 256 + j.val % 192, by omega⟩ = g j) : ∑ j, f j = ∑ j, g j := by
  rw [Fin.sum_univ_tiles 2 256 rfl, Fin.sum_univ_tiles 2 192 rfl]
  refine Finset.sum_congr rfl fun a _ => ?_
  rw [show ∑ r : Fin 256, f ⟨a.val * 256 + r.val, by omega⟩ = ∑ r : Fin (192 + 64), f ⟨a.val * 256 + r.val, by omega⟩ from rfl, Fin.sum_univ_add]
  rw [Finset.sum_eq_zero (s := (Finset.univ : Finset (Fin 64))) fun r _ => hz _ (by
    have := r.isLt
    show 192 ≤ (a.val * 256 + (192 + r.val)) % 256
    omega), add_zero]
  refine Finset.sum_congr rfl fun r _ => ?_
  have hr := r.isLt
  rw [← he]
  refine congrArg f (Fin.ext ?_)
  show a.val * 256 + r.val = (a.val * 192 + r.val) / 192 * 256 + (a.val * 192 + r.val) % 192
  omega

end MixMath

end
-- ==== Proof.MixPre.lean ====
/- What the stated assumption says of one token lane: the greatest of its three log-sums is a real number. -/
module

public import proofs.«01_k».proof.Pre_weights_exist
public import Idealize.ShloMosaic.Lib.Pipeline.ValueKit
public import Idealize.ShloMosaic.Lib.Pointwise

@[expose] public section

set_option maxRecDepth 16384

noncomputable section

namespace Cert.MixPre

open Cert.Pre_weights_exist Cert.Pre_weights_exist.Facts Idealize.ShloMosaic

theorem fold_and {ι : Type*} [DecidableEq ι] (s : Finset ι) (f : ι → BitVec 1) (i : ι) (hi : i ∈ s) (h : s.fold IntOp.andi 1#1 f = 1#1) : f i = 1#1 := by
  rw [← Finset.insert_erase hi, Finset.fold_insert (Finset.notMem_erase i s)] at h
  generalize Finset.fold IntOp.andi 1#1 f (s.erase i) = b at h
  generalize f i = a at h
  revert a b
  decide

theorem all_one [Facts] (A : IVec S32768x128 1) (h : Host.reduce IntOp.andi A (constantI S_ 1 1#1) reducesTo_S32768x128_S_d0_1 h_S_ = fun _ => 1#1)
    (i : S32768x128.Idx) : A i = 1#1 := by
  have sub : ∀ a b : S_.Idx, a = b := fun a b => funext fun q => Fin.elim0 q
  have e := congrFun h (Shape.Idx.first h_S_)
  rw [Host.reduce_eq_fold] at e
  have hi : i ∈ Finset.univ.filter fun i => reducesTo_S32768x128_S_d0_1.drop i = Shape.Idx.first h_S_ :=
    Finset.mem_filter.2 ⟨Finset.mem_univ i, sub _ _⟩
  generalize (Finset.univ.filter fun i => reducesTo_S32768x128_S_d0_1.drop i = Shape.Idx.first h_S_) = s at *
  exact fold_and s A i hi e

theorem plus_inf : Ideal.ofBits .f32 0x7F800000#32 = ⊤ := by
  have h : ((2139095040 : ℕ) >>> 23) % 256 = 255 := by decide
  norm_num [Ideal.ofBits, Ideal.ieee, h]
  decide

theorem minus_inf : Ideal.ofBits .f32 0xFF800000#32 = ⊥ := by
  have h : ((4286578688 : ℕ) >>> 23) % 256 = 255 := by decide
  norm_num [Ideal.ofBits, Ideal.ieee, h]
  decide

section
variable (x0 : FVec Ideal S32768x1024 .f32) (x1 : FVec Ideal S1024 .f32) (x2 : FVec Ideal S1024x6162 .f32) (x3 : FVec Ideal S32768x512 .bf16)
  (x4 : FVec Ideal S32768x256 .bf16) (x5 x6 : FVec Ideal S32768x128 .f32) (x7 x8 : FVec Ideal S8192x512 .f32) (x9 x10 : FVec Ideal S2048x2048 .f32)
  (x11 : FVec Ideal S384x1024 .f32) (x12 : FVec Ideal S256x1024 .f32) (x13 : FVec Ideal S128x1024 .f32) (x14 : FVec Ideal S1024x1024 .f32)

theorem real_top [Facts] (h : fn (F := Ideal) x0 x1 x2 x3 x4 x5 x6 x7 x8 x9 x10 x11 x12 x13 x14 = fun _ => 1#1) (R : Fin 32768) (l : Fin 128) :
    ⊥ < max (max (x6 (ix2 R l)) (x8 (ix2 ⟨R.val / 4, by omega⟩ ⟨R.val % 4 * 128 + l.val, by omega⟩)))
        (x10 (ix2 ⟨R.val / 16, by omega⟩ ⟨R.val % 16 * 128 + l.val, by omega⟩))
    ∧ max (max (x6 (ix2 R l)) (x8 (ix2 ⟨R.val / 4, by omega⟩ ⟨R.val % 4 * 128 + l.val, by omega⟩)))
        (x10 (ix2 ⟨R.val / 16, by omega⟩ ⟨R.val % 16 * 128 + l.val, by omega⟩)) < ⊤ := by
  unfold fn at h
  have e := all_one _ h (ix2 R l)
  have h1 : shapeCast S32768x128 x8 shapeCasts_S8192x512_S32768x128 (ix2 R l) = x8 (ix2 ⟨R.val / 4, by omega⟩ ⟨R.val % 4 * 128 + l.val, by omega⟩) := by
    pointwise
  have h2 : shapeCast S32768x128 x10 shapeCasts_S2048x2048_S32768x128 (ix2 R l) = x10 (ix2 ⟨R.val / 16, by omega⟩ ⟨R.val % 16 * 128 + l.val, by omega⟩) := by
    pointwise
  rw [← h1, ← h2]
  generalize shapeCast S32768x128 x8 shapeCasts_S8192x512_S32768x128 = y8 at *
  generalize shapeCast S32768x128 x10 shapeCasts_S2048x2048_S32768x128 = y10 at *
  clear h h1 h2
  pointwise at e
  rw [plus_inf, minus_inf] at e
  have both : ∀ p q : Bool, IntOp.andi (BitVec.ofBool p) (BitVec.ofBool q) = 1#1 → p = true ∧ q = true := by decide
  exact ⟨of_decide_eq_true (both _ _ e).1, of_decide_eq_true (both _ _ e).2⟩

end

end Cert.MixPre

end
-- ==== Proof.MixValue.lean ====
/- The merge call's result array is the reference's term over its arguments, where every token lane has a real greatest log-sum. -/
module

public import proofs.«01_k».proof.Proof.MixTile
public import proofs.«01_k».proof.Proof.MixReference
public import proofs.«01_k».proof.Proof.MixMath
public import proofs.«01_k».proof.Proof.MixPre
public import Idealize.ShloMosaic.Lib.Claim

@[expose] public section

set_option maxRecDepth 16384

noncomputable section

namespace Cert.MixIdeal.Layer

open Cert.MixIdeal Cert.MixIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![0, 0] ∧ win0_11.index t = ![0, 0]
    ∧ win0_12.index t = ![0, 0] ∧ win0_13.index t = ![0, 0] ∧ win0_14.index t = ![0, 0] ∧ win0_15.index t = ![t.val, 0] ∧ t.val < 32 :=
  (by decide +kernel : ∀ t : Fin grid0.N, _)

/-- The array row a tile's row sits at. -/
def row (t : Fin cfg0.N) (r : Fin 1024) : Fin 32768 := ⟨t.val * 1024 + r.val, by have := (idx t).2.2.2.2.2.2.2.2.2.2.2.2.2.2.2.2; omega⟩

theorem host_gain (c : Dev nD) : V m c main_v12 = shapeCast S1x1024 (m ((c : Thread nD τ).loc main_arg1)) shapeCasts_S1024_S1x1024 := by
  show StableHlo.after _ _ _ = _
  simp only [hostOps0, hostOps0_1, hostOps0_2, hostOps0_3, hostOps0_4, List.flatten_cons, List.flatten_nil, List.append_nil, List.cons_append, List.nil_append]
  after_results_simp
  rfl

theorem host_w (c : Dev nD) : V m c main_v1
    = truncf (F := Ideal) .bf16 (extractStridedSlice S1024x3072 ![0, 3090] (m ((c : Thread nD τ).loc main_arg2)) slices_S1024x6162_S1024x3072_0_3090) bitsLt_bf16_f32 := by
  show StableHlo.after _ _ _ = _
  simp only [hostOps0, hostOps0_1, hostOps0_2, hostOps0_3, hostOps0_4, List.flatten_cons, List.flatten_nil, List.append_nil, List.cons_append, List.nil_append]
  after_results_simp

/-- The first merge weight with each of its two groups of 192 rows padded to 256. -/
def padded (a : (⟨S384x1024, .f32⟩ : BufTy).Contents (Elt Ideal)) : (⟨S512x1024, .bf16⟩ : BufTy).Contents (Elt Ideal) :=
  truncf (F := Ideal) .bf16 (shapeCast S512x1024 (pad S2x256x1024 ![0, 0, 0] ![0, 64, 0] ![0, 0, 0] (shapeCast S2x192x1024 a shapeCasts_S384x1024_S2x192x1024)
    (sitofp (F := Ideal) .f32 (constantI S_ 32 0#32)) pads_S2x192x1024_S2x256x1024_000_0640_000 h_S_) shapeCasts_S2x256x1024_S512x1024) bitsLt_bf16_f32

theorem host_wa (c : Dev nD) : V m c main_v5 = padded (m ((c : Thread nD τ).loc main_arg11)) := by
  show StableHlo.after _ _ _ = _
  simp only [hostOps0, hostOps0_1, hostOps0_2, hostOps0_3, hostOps0_4, List.flatten_cons, List.flatten_nil, List.append_nil, List.cons_append, List.nil_append]
  after_results_simp
  rfl

/-- The second merge weight, whose padding is empty. -/
def regrouped (a : (⟨S256x1024, .f32⟩ : BufTy).Contents (Elt Ideal)) : (⟨S256x1024, .bf16⟩ : BufTy).Contents (Elt Ideal) :=
  truncf (F := Ideal) .bf16 (shapeCast S256x1024 (pad S2x128x1024 ![0, 0, 0] ![0, 0, 0] ![0, 0, 0] (shapeCast S2x128x1024 a shapeCasts_S256x1024_S2x128x1024)
    (sitofp (F := Ideal) .f32 (constantI S_ 32 0#32)) pads_S2x128x1024_S2x128x1024_000_000_000 h_S_) shapeCasts_S2x128x1024_S256x1024) bitsLt_bf16_f32

theorem host_wb (c : Dev nD) : V m c main_v9 = regrouped (m ((c : Thread nD τ).loc main_arg12)) := by
  show StableHlo.after _ _ _ = _
  simp only [hostOps0, hostOps0_1, hostOps0_2, hostOps0_3, hostOps0_4, List.flatten_cons, List.flatten_nil, List.append_nil, List.cons_append, List.nil_append]
  after_results_simp
  rfl

theorem padded_eq (a : (⟨S384x1024, .f32⟩ : BufTy).Contents (Elt Ideal)) (j : Fin 512) (k : Fin 1024) : padded a (ix2 j k : S512x1024.Idx)
    = if h : j.val % 256 < 192 then a (ix2 ⟨j.val / 256 * 192 + j.val % 256, by omega⟩ k : S384x1024.Idx) else (0 : EReal) := by
  unfold padded
  pointwise
  have z : FloatOps.sitofp (F := Ideal) .f32 (0#32) = (0 : EReal) := by simp [FloatOps.sitofp]
  rw [z]
  by_cases h : j.val % 256 < 192
  · rw [dif_pos ⟨by omega, h⟩, dif_pos h]
  · rw [dif_neg (fun q => h q.2), dif_neg h]

theorem regrouped_eq (a : (⟨S256x1024, .f32⟩ : BufTy).Contents (Elt Ideal)) (j : Fin 256) (k : Fin 1024) : regrouped a (ix2 j k : S256x1024.Idx)
    = a (ix2 j k : S256x1024.Idx) := by
  unfold regrouped
  pointwise
  exact dif_pos ⟨by omega, by omega⟩

section Blocks
variable (c : Dev nD) (t : Fin cfg0.N) (r : Fin 1024)

theorem read_x (k : Fin 1024) : iblk m c 0 t (ix2 r k : S1024x1024.Idx) = m ((c : Thread nD τ).loc main_arg0) (ix2 (row t r) k : S32768x1024.Idx) := by
  blk_point [iblk, V, row, idx t]

theorem read_gain (k : Fin 1024) : iblk m c 1 t (ix2 0 k : S1x1024.Idx) = m ((c : Thread nD τ).loc main_arg1) (ix1 k : S1024.Idx) := by
  have e : (win0_1.blk t).view.emb (ix2 0 k : S1x1024.Idx) = (ix2 0 k : S1x1024.Idx) := by blk_ext [idx t]
  show V m c main_v12 ((win0_1.blk t).view.emb (ix2 0 k : S1x1024.Idx)) = _
  rw [e, host_gain]
  pointwise

theorem read_ya (j : Fin 512) : iblk m c 2 t (ix2 r j : S1024x512.Idx) = m ((c : Thread nD τ).loc main_arg3) (ix2 (row t r) j : S32768x512.Idx) := by
  blk_point [iblk, V, row, idx t]

theorem read_yb (j : Fin 256) : iblk m c 3 t (ix2 r j : S1024x256.Idx) = m ((c : Thread nD τ).loc main_arg4) (ix2 (row t r) j : S32768x256.Idx) := by
  blk_point [iblk, V, row, idx t]

theorem read_o0 (j : Fin 128) : iblk m c 4 t (ix2 r j : S1024x128.Idx) = m ((c : Thread nD τ).loc main_arg5) (ix2 (row t r) j : S32768x128.Idx) := by
  blk_point [iblk, V, row, idx t]

theorem read_l0 (j : Fin 128) : iblk m c 7 t (ix2 r j : S1024x128.Idx) = m ((c : Thread nD τ).loc main_arg6) (ix2 (row t r) j : S32768x128.Idx) := by
  blk_point [iblk, V, row, idx t]

theorem read_o1 (j : Fin 128) : byToken4 (iblk m c 5 t) (ix2 r j : S1024x128.Idx)
    = m ((c : Thread nD τ).loc main_arg7) (ix2 ⟨(row t r).val / 4, by omega⟩ ⟨(row t r).val % 4 * 128 + j.val, by omega⟩ : S8192x512.Idx) := by
  unfold byToken4
  blk_point [iblk, V, row, idx t]

theorem read_l1 (j : Fin 128) : byToken4 (iblk m c 8 t) (ix2 r j : S1024x128.Idx)
    = m ((c : Thread nD τ).loc main_arg8) (ix2 ⟨(row t r).val / 4, by omega⟩ ⟨(row t r).val % 4 * 128 + j.val, by omega⟩ : S8192x512.Idx) := by
  unfold byToken4
  blk_point [iblk, V, row, idx t]

theorem read_o2 (j : Fin 128) : byToken16 (iblk m c 6 t) (ix2 r j : S1024x128.Idx)
    = m ((c : Thread nD τ).loc main_arg9) (ix2 ⟨(row t r).val / 16, by omega⟩ ⟨(row t r).val % 16 * 128 + j.val, by omega⟩ : S2048x2048.Idx) := by
  unfold byToken16
  blk_point [iblk, V, row, idx t]

theorem read_l2 (j : Fin 128) : byToken16 (iblk m c 9 t) (ix2 r j : S1024x128.Idx)
    = m ((c : Thread nD τ).loc main_arg10) (ix2 ⟨(row t r).val / 16, by omega⟩ ⟨(row t r).val % 16 * 128 + j.val, by omega⟩ : S2048x2048.Idx) := by
  unfold byToken16
  blk_point [iblk, V, row, idx t]

theorem read_w (j : Fin 1024) (k : Fin 3072) : iblk m c 10 t (ix2 j k : S1024x3072.Idx)
    = m ((c : Thread nD τ).loc main_arg2) (ix2 j ⟨3090 + k.val, by omega⟩ : S1024x6162.Idx) := by
  have e : (win0_10.blk t).view.emb (ix2 j k : S1024x3072.Idx) = (ix2 j k : S1024x3072.Idx) := by blk_ext [idx t]
  show V m c main_v1 ((win0_10.blk t).view.emb (ix2 j k : S1024x3072.Idx)) = _
  rw [e, host_w]
  pointwise

theorem read_wa (j : Fin 512) (k : Fin 1024) : iblk m c 11 t (ix2 j k : S512x1024.Idx)
    = if h : j.val % 256 < 192 then m ((c : Thread nD τ).loc main_arg11) (ix2 ⟨j.val / 256 * 192 + j.val % 256, by omega⟩ k : S384x1024.Idx) else (0 : EReal) := by
  have e : (win0_11.blk t).view.emb (ix2 j k : S512x1024.Idx) = (ix2 j k : S512x1024.Idx) := by blk_ext [idx t]
  show V m c main_v5 ((win0_11.blk t).view.emb (ix2 j k : S512x1024.Idx)) = _
  rw [e, host_wa]
  exact padded_eq _ j k

theorem read_wb (j : Fin 256) (k : Fin 1024) : iblk m c 12 t (ix2 j k : S256x1024.Idx) = m ((c : Thread nD τ).loc main_arg12) (ix2 j k : S256x1024.Idx) := by
  have e : (win0_12.blk t).view.emb (ix2 j k : S256x1024.Idx) = (ix2 j k : S256x1024.Idx) := by blk_ext [idx t]
  show V m c main_v9 ((win0_12.blk t).view.emb (ix2 j k : S256x1024.Idx)) = _
  rw [e, host_wb]
  exact regrouped_eq _ j k

theorem read_wc (j : Fin 128) (k : Fin 1024) : iblk m c 13 t (ix2 j k : S128x1024.Idx) = m ((c : Thread nD τ).loc main_arg13) (ix2 j k : S128x1024.Idx) := by
  blk_point [iblk, V, row, idx t]

theorem read_wo (j : Fin 1024) (k : Fin 1024) : iblk m c 14 t (ix2 j k : S1024x1024.Idx) = m ((c : Thread nD τ).loc main_arg14) (ix2 j k : S1024x1024.Idx) := by
  blk_point [iblk, V, row, idx t]

end Blocks

/-- A packed row against the padded weight is the row without its padding lanes against the weight. -/
theorem padded_sum (ya : FVec Ideal S1024x512 .bf16) (wa : FVec Ideal S512x1024 .bf16) (x3 : FVec Ideal S32768x512 .bf16) (x11 : FVec Ideal S384x1024 .f32)
    (r : Fin 1024) (R : Fin 32768) (k : Fin 1024) (hy : ∀ j : Fin 512, ya (ix2 r j) = x3 (ix2 R j))
    (hw : ∀ j : Fin 512, wa (ix2 j k) = if h : j.val % 256 < 192 then x11 (ix2 ⟨j.val / 256 * 192 + j.val % 256, by omega⟩ k) else (0 : EReal)) :
    ∑ j : Fin 512, ya (ix2 r j) * wa (ix2 j k) = ∑ j : Fin 384, x3 (ix2 R ⟨j.val / 192 * 256 + j.val % 192, by omega⟩) * x11 (ix2 j k) := by
  refine MixMath.packed _ _ (fun j hj => ?_) fun j => ?_
  · rw [hw, dif_neg (by omega), mul_zero]
  · rw [hw, dif_pos (by show (j.val / 192 * 256 + j.val % 192) % 256 < 192; omega), hy]
    refine congrArg (_ * ·) (congrArg _ (congrArg (fun q => (ix2 q k : S384x1024.Idx)) (Fin.ext ?_)))
    show (j.val / 192 * 256 + j.val % 192) / 256 * 192 + (j.val / 192 * 256 + j.val % 192) % 256 = j.val
    omega

/-- What the body stores at block index `y` of point `t` is the reference's term at the array index `y` sits at. -/
theorem point (c : Dev nD) [Cert.Pre_weights_exist.Facts] (hp : Cert.Pre_weights_exist.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1)
    (t : Fin cfg0.N) (y : S1024x1024.Idx) : outsAt0 m c t y
    = Cert.MixReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) ((win0_15.blk t).view.emb y) := by
  idx_vars y
  have e : (win0_15.blk t).view.emb (ix2 y0 y1) = (ix2 (row t y0) y1 : S32768x1024.Idx) := by
    blk_ext [row, idx t]
  rw [e, stored, Cert.MixReferenceIdeal.Layer.out_eq]
  have hn : ∀ k, normed (iblk m c 0 t) (iblk m c 1 t) y0 k
      = Cert.MixReferenceIdeal.Layer.normed (m ((c : Thread nD τ).loc main_arg0)) (m ((c : Thread nD τ).loc main_arg1)) (row t y0) k := by
    intro k
    simp only [normed, Cert.MixReferenceIdeal.Layer.normed, read_x, read_gain]
  have hg : ∀ (o : Fin 3) k, gate (iblk m c 0 t) (iblk m c 1 t) (iblk m c 10 t) o y0 k
      = Cert.MixReferenceIdeal.Read.val_main_v51 (F := Ideal) (m ((c : Thread nD τ).loc main_arg0)) (m ((c : Thread nD τ).loc main_arg1))
        (m ((c : Thread nD τ).loc main_arg2)) (ix3 (row t y0) o k) := by
    intro o k
    rw [Cert.MixReferenceIdeal.Layer.gate_eq]
    simp only [gate, hn, read_w]
  have hm : ∀ j, mixed (iblk m c 7 t (ix2 y0 j : S1024x128.Idx)) (byToken4 (iblk m c 8 t) (ix2 y0 j)) (byToken16 (iblk m c 9 t) (ix2 y0 j))
        (iblk m c 4 t (ix2 y0 j : S1024x128.Idx)) (byToken4 (iblk m c 5 t) (ix2 y0 j)) (byToken16 (iblk m c 6 t) (ix2 y0 j))
      = Cert.MixReferenceIdeal.Read.val_main_v29 (F := Ideal) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10))
        (ix2 (row t y0) j) := by
    intro j
    obtain ⟨hb, ht⟩ := Cert.MixPre.real_top _ _ _ _ _ _ _ _ _ _ _ _ _ _ _ hp (row t y0) j
    rw [Cert.MixReferenceIdeal.Layer.mixed_eq]
    simp only [mixed, Cert.MixReferenceIdeal.Layer.mixed, read_o0, read_o1, read_o2, read_l0, read_l1, read_l2]
    exact MixMath.mean_eq _ _ _ _ _ _ hb ht
  have ha := fun k => padded_sum (iblk m c 2 t) (iblk m c 11 t) (m ((c : Thread nD τ).loc main_arg3)) (m ((c : Thread nD τ).loc main_arg11)) y0 (row t y0) k
    (fun j => read_ya m c t y0 j) (fun j => read_wa m c t j k)
  simp only [tileOut, hg, hm, ha, read_x, read_yb, read_wb, read_wc, read_wo]

theorem final (c : Dev nD) [Cert.Pre_weights_exist.Facts] (hp : Cert.Pre_weights_exist.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) = fun _ => 1#1) :
    (dats m 0 c).arrAt 15 cfg0.N = Cert.MixReferenceIdeal.Read.val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (dats m 0 c).arrAt_eq_of_covers 15 _ (by decide +kernel) fun t _ y => ?_
  blk_simp
  rw [Gen.after0_15]
  exact point m c hp t y

end Cert.MixIdeal.Layer

end
-- ==== Proof.CompressTile.lean ====
/- The compression of one sequence: the values stored for the two groups, entry by entry. -/
module

public import proofs.«01_k».proof.Proof.Gen.CompressIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.CompressIdeal.Layer

open Cert.CompressIdeal Cert.CompressIdeal.Gen Idealize.ShloMosaic Idealize.ShloMosaic.TcCoe Idealize.SL.Sem

/-- The gelu of the kernel. -/
def act (a : EReal) : EReal :=
  Ideal.ofBits .f32 0x3F000000#32 * a * (1 + Ideal.tanh (Ideal.ofBits .f32 0x3F4C422A#32 * (a + Ideal.ofBits .f32 0x3D372713#32 * (a * a * a))))

/-- One half block's part of the hidden layer: a row of sixteen tokens plus its position row, times the half's weights. -/
def side (x : FVec Ideal S1x256x2048 .f32) (p : FVec Ideal S1x2048 .f32) (w : FVec Ideal S1x2048x512 .bf16) (n : Fin 256) (j : Fin 512) : EReal :=
  ∑ q : Fin 2048, (x (ix3 0 n q) + p (ix2 0 q)) * w (ix3 0 q j)

/-- The row after `n`, the last one followed by the first. -/
def next (n : Fin 256) : Fin 256 := ⟨(n.val + 1) % 256, by omega⟩

section Payloads
variable (x : FVec Ideal S1x256x2048 .f32) (p p' : FVec Ideal S1x2048 .f32) (w w' : FVec Ideal S1x2048x512 .bf16) (n : Fin 256) (j : Fin 512)

theorem lo_eq : k0_pay10 (F := Ideal) x p w (ix2 n j) = side x p w n j := by
  pointwise [k0_pay10, k0_pay9, side]

theorem hi_eq : k0_pay11 (F := Ideal) x p w (ix2 n j) = side x p w n j := by
  pointwise [k0_pay11, k0_pay9, side]

theorem act_eq (a b : FVec Ideal S256x512 .f32) : k0_pay1 (F := Ideal) a b (ix2 n j) = act (a (ix2 n j) + b (ix2 (next n) j)) := by
  have e : (⟨(n.val + 256 - 255) % 256, by omega⟩ : Fin 256) = next n := Fin.ext (by show (n.val + 256 - 255) % 256 = (n.val + 1) % 256; omega)
  rw [← e]
  pointwise [k0_pay1, act]

theorem hidden_eq : k0_pay4 (F := Ideal) x p w p' w' = k0_pay1 (F := Ideal) (k0_pay10 (F := Ideal) x p w) (k0_pay11 (F := Ideal) x p' w') := rfl

variable (a b : FVec Ideal S256x512 .f32) (h : FVec Ideal S256x512 .bf16) (u : FVec Ideal S256x128 .bf16) (l : Fin 128)

/-- One group's stored entry from the hidden layer. -/
def tileOut (h : FVec Ideal S256x512 .bf16) (u : FVec Ideal S256x128 .bf16) (g : Fin 2) (n : Fin 256) (l : Fin 128) : EReal :=
  ∑ k : Fin 256, h (ix2 n ⟨g.val * 256 + k.val, by omega⟩) * u (ix2 k l)

theorem pay8_eq : k0_pay8 (F := Ideal) h u (ix4 0 0 n l) = tileOut h u 1 n l := by
  pointwise [k0_pay8, tileOut]

theorem pay7_eq : k0_pay7 (F := Ideal) (extractStridedSlice S256x256 ![0, 0] h slices_S256x512_o0_0_S256x256) (k0_pay6 (F := Ideal) u) (ix4 0 0 n l) = tileOut h u 0 n l := by
  pointwise [k0_pay7, k0_pay6, tileOut]

theorem pay3_eq : k0_pay3 (F := Ideal) a b u = k0_pay8 (F := Ideal) (k0_pay1 (F := Ideal) a b) u := rfl

theorem pay2_eq : k0_pay2 (F := Ideal) a b u
    = k0_pay7 (F := Ideal) (extractStridedSlice S256x256 ![0, 0] (k0_pay1 (F := Ideal) a b) slices_S256x512_o0_0_S256x256) (k0_pay6 (F := Ideal) u) := rfl

theorem pay5_eq : k0_pay5 (F := Ideal) x p w p' w' = extractStridedSlice S256x256 ![0, 0] (k0_pay4 (F := Ideal) x p w p' w') slices_S256x512_o0_0_S256x256 := rfl

/-- The two stored groups, read as one array. -/
theorem groups (g : Fin 2) : View.canon (Val := Elt Ideal)
      ([⟨r0_7, k0_pay8 (F := Ideal) h u⟩, ⟨r0_6, k0_pay7 (F := Ideal) (extractStridedSlice S256x256 ![0, 0] h slices_S256x512_o0_0_S256x256) (k0_pay6 (F := Ideal) u)⟩] :
        List (View.Piece (Elt Ideal) S1x2x256x128 .bf16))
      (ix4 0 g n l) = tileOut h u g n l := by
  rw [View.canon_apply_of_pieces (fun i : S1x2x256x128.Idx => tileOut h u (i 1) (i 2) (i 3)) _ ?_ _ (cover0_8 _ _ _)]
  · rfl
  · refine List.forall_mem_cons.2 ⟨fun y => ?_, List.forall_mem_cons.2 ⟨fun y => ?_, fun _ hm => absurd hm List.not_mem_nil⟩⟩
    · idx_vars y
      obtain rfl : y0 = 0 := Subsingleton.elim _ _
      obtain rfl : y1 = 0 := Subsingleton.elim _ _
      have e : r0_7.emb (ix4 0 0 y2 y3 : S1x1x256x128.Idx) = (ix4 0 1 y2 y3 : S1x2x256x128.Idx) := by blk_ext [r0_7]
      show k0_pay8 (F := Ideal) h u (ix4 0 0 y2 y3) = _
      rw [e]
      exact pay8_eq y2 h u y3
    · idx_vars y
      obtain rfl : y0 = 0 := Subsingleton.elim _ _
      obtain rfl : y1 = 0 := Subsingleton.elim _ _
      have e : r0_6.emb (ix4 0 0 y2 y3 : S1x1x256x128.Idx) = (ix4 0 0 y2 y3 : S1x2x256x128.Idx) := by blk_ext [r0_6]
      show k0_pay7 (F := Ideal) _ _ (ix4 0 0 y2 y3) = _
      rw [e]
      exact pay7_eq y2 h u y3

end Payloads

section Stored
variable (x0 x1 : FVec Ideal S1x256x2048 .f32) (x2 x3 : FVec Ideal S2x2048 .f32) (x4 x5 : FVec Ideal S2x2048x512 .bf16) (x6 x7 : FVec Ideal S256x128 .bf16)
  (g : Fin 2) (n : Fin 256) (l : Fin 128)

/-- The hidden layer before its gelu: this row's half block and the next row's. -/
def pre (x : FVec Ideal S1x256x2048 .f32) (p : FVec Ideal S2x2048 .f32) (w : FVec Ideal S2x2048x512 .bf16) (n : Fin 256) (j : Fin 512) : EReal :=
  (∑ q : Fin 2048, (x (ix3 0 n q) + p (ix2 0 q)) * w (ix3 0 q j)) + ∑ q : Fin 2048, (x (ix3 0 (next n) q) + p (ix2 1 q)) * w (ix3 1 q j)

theorem side0 (x : FVec Ideal S1x256x2048 .f32) (p : FVec Ideal S2x2048 .f32) (w : FVec Ideal S2x2048x512 .bf16) (n : Fin 256) (j : Fin 512) :
    side (View.ld (Val := Elt Ideal) (e' := .f32) x r0_0) (View.ld (Val := Elt Ideal) (e' := .f32) p r0_1) (View.ld (Val := Elt Ideal) (e' := .bf16) w r0_2) n j
      = ∑ q : Fin 2048, (x (ix3 0 n q) + p (ix2 0 q)) * w (ix3 0 q j) := by
  unfold side
  pointwise [r0_0, r0_1, r0_2]
  blk_ext []

theorem side1 (x : FVec Ideal S1x256x2048 .f32) (p : FVec Ideal S2x2048 .f32) (w : FVec Ideal S2x2048x512 .bf16) (n : Fin 256) (j : Fin 512) :
    side (View.ld (Val := Elt Ideal) (e' := .f32) x r0_0) (View.ld (Val := Elt Ideal) (e' := .f32) p r0_3) (View.ld (Val := Elt Ideal) (e' := .bf16) w r0_4) n j
      = ∑ q : Fin 2048, (x (ix3 0 n q) + p (ix2 1 q)) * w (ix3 1 q j) := by
  unfold side
  pointwise [r0_0, r0_3, r0_4]
  blk_ext []

theorem last (w : FVec Ideal S256x128 .bf16) : View.ld (Val := Elt Ideal) (e' := .bf16) w r0_5 = w := by
  funext y
  idx_vars y
  pointwise [r0_5]
  blk_ext []

theorem stored8 : out0_8 (F := Ideal) x0 x1 x2 x3 x4 x5 x6 x7 (ix4 0 g n l)
    = ∑ k : Fin 256, act (pre x0 x2 x4 n ⟨g.val * 256 + k.val, by omega⟩) * x6 (ix2 k l) := by
  unfold out0_8
  rw [pay5_eq, groups, last, tileOut]
  refine Finset.sum_congr rfl fun k _ => congrArg (· * _) ?_
  rw [hidden_eq, act_eq, lo_eq, hi_eq, side0, side1, pre]

theorem stored9 : out0_9 (F := Ideal) x0 x1 x2 x3 x4 x5 x6 x7 (ix4 0 g n l)
    = ∑ k : Fin 256, act (pre x1 x3 x5 n ⟨g.val * 256 + k.val, by omega⟩) * x7 (ix2 k l) := by
  unfold out0_9 k0_pay12 k0_pay13
  rw [pay2_eq, pay3_eq, groups, last, tileOut]
  refine Finset.sum_congr rfl fun k _ => congrArg (· * _) ?_
  rw [act_eq, lo_eq, hi_eq, side0, side1, pre]

end Stored

end Cert.CompressIdeal.Layer

end
-- ==== Proof.CompressHost.lean ====
/- The compression call's arguments as the host lays them out before the call. -/
module

public import proofs.«01_k».proof.Proof.CompressTile
public import Idealize.ShloMosaic.Lib.Claim

@[expose] public section

set_option maxRecDepth 16384

noncomputable section

namespace Cert.CompressIdeal.Layer

open Cert.CompressIdeal Cert.CompressIdeal.Gen Idealize.ShloMosaic Idealize.ShloMosaic.TcCoe Idealize.SL.Sem
open Idealize.ShloMosaic.Pipeline (Dat)

/-- The first layer's weights, once per group in a block of lanes, zero elsewhere. -/
def packed (a : (⟨S2048x256, .f32⟩ : BufTy).Contents (Elt Ideal)) : (⟨S2x2048x512, .bf16⟩ : BufTy).Contents (Elt Ideal) :=
  truncf (F := Ideal) .bf16 (shapeCast S2x2048x512 (concatenate S2x16x2x64x512 2
    [⟨S2x16x1x64x512, broadcastInDim S2x16x1x64x512 ![0, 1, 3, 4] bcast_S2x16x64x512_S2x16x1x64x512_0_1_3_4
        (concatenate S2x16x64x512 3 [⟨S2x16x64x256, shapeCast S2x16x64x256 a shapeCasts_S2048x256_S2x16x64x256⟩,
          ⟨S2x16x64x256, broadcastInDim S2x16x64x256 ![] bcast_S_S2x16x64x256 (constant (F := Ideal) S_ .f32 0x00000000#32)⟩]
          concatenates_S2x16x64x256_S2x16x64x256_S2x16x64x512_d3)⟩,
      ⟨S2x16x1x64x512, broadcastInDim S2x16x1x64x512 ![0, 1, 3, 4] bcast_S2x16x64x512_S2x16x1x64x512_0_1_3_4
        (concatenate S2x16x64x512 3 [⟨S2x16x64x256, broadcastInDim S2x16x64x256 ![] bcast_S_S2x16x64x256 (constant (F := Ideal) S_ .f32 0x00000000#32)⟩,
          ⟨S2x16x64x256, shapeCast S2x16x64x256 a shapeCasts_S2048x256_S2x16x64x256⟩]
          concatenates_S2x16x64x256_S2x16x64x256_S2x16x64x512_d3)⟩]
    concatenates_S2x16x1x64x512_S2x16x1x64x512_S2x16x2x64x512_d2) shapeCasts_S2x16x2x64x512_S2x2048x512) bitsLt_bf16_f32

/-- The position rows, once per group. -/
def spread (a : (⟨S32x64, .f32⟩ : BufTy).Contents (Elt Ideal)) : (⟨S2x2048, .f32⟩ : BufTy).Contents (Elt Ideal) :=
  shapeCast S2x2048 (broadcastInDim S2x16x2x64 ![0, 1, 2, 3] bcast_S2x16x1x64_S2x16x2x64_0_1_2_3 (shapeCast S2x16x1x64 a shapeCasts_S32x64_S2x16x1x64))
    shapeCasts_S2x16x2x64_S2x2048

/-- The second layer's weights with the upper half of the lanes zero. -/
def widened (a : (⟨S256x64, .f32⟩ : BufTy).Contents (Elt Ideal)) : (⟨S256x128, .bf16⟩ : BufTy).Contents (Elt Ideal) :=
  truncf (F := Ideal) .bf16 (concatenate S256x128 1 [⟨S256x64, a⟩, ⟨S256x64, broadcastInDim S256x64 ![] bcast_S_S256x64 (constant (F := Ideal) S_ .f32 0x00000000#32)⟩]
    concatenates_S256x64_S256x64_S256x128_d1) bitsLt_bf16_f32

theorem packed_eq (a : (⟨S2048x256, .f32⟩ : BufTy).Contents (Elt Ideal)) (p : Fin 2) (r : Fin 2048) (g : Fin 2) (h : Fin 256) :
    packed a (ix3 p r ⟨g.val * 256 + h.val, by omega⟩ : S2x2048x512.Idx)
      = if r.val / 64 % 2 = g.val then a (ix2 ⟨(p.val * 16 + r.val / 128) * 64 + r.val % 64, by omega⟩ h : S2048x256.Idx) else (0 : EReal) := by
  unfold packed
  pointwise
  have hr : r.val / 64 % 2 < 2 := Nat.mod_lt _ (by decide)
  have hg := g.isLt
  have hh := h.isLt
  by_cases h1 : r.val / 64 % 2 < 1
  · rw [dif_pos h1]
    by_cases h2 : g.val * 256 + h.val < 256
    · rw [dif_pos h2, if_pos (by omega)]
      exact congrArg a (congrArg₂ (fun i j => ix2 i j) (Fin.ext (by show p.val * 1024 + r.val / 128 * 64 + r.val % 64 = (p.val * 16 + r.val / 128) * 64 + r.val % 64; omega))
        (Fin.ext (by show g.val * 256 + h.val = h.val; omega)))
    · rw [dif_neg h2, if_neg (by omega)]
  · have g1 : r.val / 64 % 2 = 1 := by omega
    rw [dif_neg h1]
    by_cases h2 : g.val * 256 + h.val < 256
    · have ne : ¬r.val / 64 % 2 = g.val := by omega
      rw [dif_pos h2, if_neg ne]
    · have eq : r.val / 64 % 2 = g.val := by omega
      rw [dif_neg h2]
      refine Eq.trans ?_ (if_pos eq).symm
      exact congrArg a (congrArg₂ (fun i j => ix2 i j) (Fin.ext (by show p.val * 1024 + r.val / 128 * 64 + r.val % 64 = (p.val * 16 + r.val / 128) * 64 + r.val % 64; omega))
        (Fin.ext (by show g.val * 256 + h.val - 256 = h.val; omega)))

theorem spread_eq (a : (⟨S32x64, .f32⟩ : BufTy).Contents (Elt Ideal)) (p : Fin 2) (r : Fin 2048) :
    spread a (ix2 p r : S2x2048.Idx) = a (ix2 ⟨p.val * 16 + r.val / 128, by omega⟩ ⟨r.val % 64, by omega⟩ : S32x64.Idx) := by
  unfold spread
  pointwise

theorem widened_eq (a : (⟨S256x64, .f32⟩ : BufTy).Contents (Elt Ideal)) (k : Fin 256) (l : Fin 128) :
    widened a (ix2 k l : S256x128.Idx) = if h : l.val < 64 then a (ix2 k ⟨l.val, h⟩ : S256x64.Idx) else (0 : EReal) := by
  unfold widened
  pointwise

theorem rows_eq (a : FVec Ideal S2048x2048 .f32) (b : Fin 8) (n : Fin 256) (q : Fin 2048) :
    shapeCast S8x256x2048 a shapeCasts_S2048x2048_S8x256x2048 (ix3 b n q) = a (ix2 ⟨b.val * 256 + n.val, by omega⟩ q) := by
  pointwise

variable (m : (ℓ : Loc nD τ sig) → Buf (Elt Ideal) ℓ)

section Host
variable (c : Dev nD)

set_option maxHeartbeats 2000000 in
theorem host_k : V m c main_v30 = shapeCast S8x256x2048 (m ((c : Thread nD τ).loc main_arg0)) shapeCasts_S2048x2048_S8x256x2048 := by
  show StableHlo.after _ _ _ = _
  simp only [hostOps0, List.flatten_cons, List.flatten_nil, List.append_nil, List.cons_append, List.nil_append]
  after_results_simp
  rfl

set_option maxHeartbeats 2000000 in
theorem host_v : V m c main_v31 = shapeCast S8x256x2048 (m ((c : Thread nD τ).loc main_arg1)) shapeCasts_S2048x2048_S8x256x2048 := by
  show StableHlo.after _ _ _ = _
  simp only [hostOps0, List.flatten_cons, List.flatten_nil, List.append_nil, List.cons_append, List.nil_append]
  after_results_simp
  rfl

set_option maxHeartbeats 2000000 in
theorem host_pk : V m c main_v10 = spread (m ((c : Thread nD τ).loc main_arg2)) := by
  show StableHlo.after _ _ _ = _
  simp only [hostOps0, List.flatten_cons, List.flatten_nil, List.append_nil, List.cons_append, List.nil_append]
  after_results_simp
  rfl

set_option maxHeartbeats 2000000 in
theorem host_pv : V m c main_v25 = spread (m ((c : Thread nD τ).loc main_arg3)) := by
  show StableHlo.after _ _ _ = _
  simp only [hostOps0, List.flatten_cons, List.flatten_nil, List.append_nil, List.cons_append, List.nil_append]
  after_results_simp
  rfl

set_option maxHeartbeats 2000000 in
theorem host_wk : V m c main_v13 = packed (m ((c : Thread nD τ).loc main_arg4)) := by
  show StableHlo.after _ _ _ = _
  simp only [hostOps0, List.flatten_cons, List.flatten_nil, List.append_nil, List.cons_append, List.nil_append]
  after_results_simp
  rfl

set_option maxHeartbeats 2000000 in
theorem host_wv : V m c main_v28 = packed (m ((c : Thread nD τ).loc main_arg6)) := by
  show StableHlo.after _ _ _ = _
  simp only [hostOps0, List.flatten_cons, List.flatten_nil, List.append_nil, List.cons_append, List.nil_append]
  after_results_simp
  rfl

set_option maxHeartbeats 2000000 in
theorem host_uk : V m c main_v14 = widened (m ((c : Thread nD τ).loc main_arg5)) := by
  show StableHlo.after _ _ _ = _
  simp only [hostOps0, List.flatten_cons, List.flatten_nil, List.append_nil, List.cons_append, List.nil_append]
  after_results_simp
  rfl

set_option maxHeartbeats 2000000 in
theorem host_uv : V m c main_v29 = widened (m ((c : Thread nD τ).loc main_arg7)) := by
  show StableHlo.after _ _ _ = _
  simp only [hostOps0, List.flatten_cons, List.flatten_nil, List.append_nil, List.cons_append, List.nil_append]
  after_results_simp
  rfl

end Host

end Cert.CompressIdeal.Layer

end
-- ==== Proof.CompressReference.lean ====
/- The compression's reference, entry by entry. -/
module

public import proofs.«01_k».proof.Proof.Gen.CompressReferenceIdeal.Read
public import Idealize.ShloMosaic.Lib.Pointwise

@[expose] public section

set_option maxRecDepth 16384

noncomputable section

namespace Cert.CompressReferenceIdeal.Layer

open Cert.CompressReferenceIdeal Cert.CompressReferenceIdeal.Read Idealize.ShloMosaic Idealize.ShloMosaic.TcCoe Idealize.SL.Sem

variable (x : FVec Ideal S2048x2048 .f32) (pe : FVec Ideal S32x64 .f32) (w1 : FVec Ideal S2048x256 .f32) (w2 : FVec Ideal S256x64 .f32)

theorem half_eq (b : Fin 8) (n : Fin 256) (l : Fin 16) (g : Fin 2) (d : Fin 64) : val_main_v0 (F := Ideal) x (ix5 b n l g d)
    = x (ix2 ⟨b.val * 256 + n.val, by omega⟩ ⟨l.val * 128 + g.val * 64 + d.val, by omega⟩) := by
  pointwise [val_main_v0]

theorem next_eq (b : Fin 8) (n : Fin 256) (l : Fin 16) (g : Fin 2) (d : Fin 64) : val_main_v1 (F := Ideal) x (ix5 b n l g d)
    = x (ix2 ⟨b.val * 256 + (n.val + 1) % 256, by omega⟩ ⟨l.val * 128 + g.val * 64 + d.val, by omega⟩) := by
  pointwise [val_main_v1, val_main_call0_v0, val_main_call0_v1, half_eq]
  split
  · exact congrArg x (congrArg₂ (fun i j => ix2 i j) (Fin.ext (by show _ + _ = _ + _; omega)) (Fin.ext (by show _ = _; omega)))
  · exact congrArg x (congrArg₂ (fun i j => ix2 i j) (Fin.ext (by show _ + _ = _ + _; omega)) (Fin.ext (by show _ = _; omega)))

theorem block_eq (b : Fin 8) (g : Fin 2) (n : Fin 256) (q : Fin 2048) : val_main_v7 (F := Ideal) x pe (ix4 b g n q)
    = x (ix2 ⟨b.val * 256 + (n.val + q.val / 1024) % 256, by omega⟩ ⟨q.val % 1024 / 64 * 128 + g.val * 64 + q.val % 64, by omega⟩)
      + pe (ix2 ⟨q.val / 64, by omega⟩ ⟨q.val % 64, by omega⟩) := by
  pointwise [val_main_v7, val_main_v6, val_main_v5, val_main_v4, val_main_v3, val_main_v2, half_eq, next_eq]
  refine congrArg (· + _) ?_
  split
  · exact congrArg x (congrArg₂ (fun i j => ix2 i j) (Fin.ext (by show _ + _ = _ + _; omega)) (Fin.ext (by show q.val / 64 * 128 + g.val * 64 + q.val % 64 = q.val % 1024 / 64 * 128 + g.val * 64 + q.val % 64; omega)))
  · exact congrArg x (congrArg₂ (fun i j => ix2 i j) (Fin.ext (by show _ + _ = _ + _; omega)) (Fin.ext (by show (q.val / 64 - 16) * 128 + g.val * 64 + q.val % 64 = q.val % 1024 / 64 * 128 + g.val * 64 + q.val % 64; omega)))

theorem hidden_eq (b : Fin 8) (g : Fin 2) (n h : Fin 256) : val_main_v8 (F := Ideal) x pe w1 (ix4 b g n h)
    = ∑ q : Fin 2048, val_main_v7 (F := Ideal) x pe (ix4 b g n q) * w1 (ix2 q h) := by
  pointwise [val_main_v8]

/-- The gelu of the reference. -/
def gelu (a : EReal) : EReal :=
  a * (Ideal.ofBits .f32 0x3F000000#32 * (1 + Ideal.tanh (Ideal.ofBits .f32 0x3F4C422A#32 * (a + Ideal.ofBits .f32 0x3D372713#32 * (a * a * a)))))

theorem out_eq (b : Fin 8) (g : Fin 2) (n : Fin 256) (l : Fin 128) : val_main_v24 (F := Ideal) x pe w1 w2 (ix4 b g n l)
    = if h : l.val < 64 then ∑ k : Fin 256, gelu (val_main_v8 (F := Ideal) x pe w1 (ix4 b g n k)) * w2 (ix2 k ⟨l.val, h⟩) else 0 := by
  pointwise [val_main_v24, val_main_v23, val_main_call1_v0, val_main_c, val_main_v22, val_main_v21, val_main_v20, val_main_v19, val_main_cst_2, val_main_v18,
    val_main_v17, val_main_cst_1, val_main_v16, val_main_v15, val_main_v14, val_main_cst_0, val_main_v13, val_main_v12, val_main_v11, val_main_cst, val_main_v10, val_main_v9, gelu]
  have z : FloatOps.sitofp (F := Ideal) .f32 (0#32) = (0 : EReal) := by simp [FloatOps.sitofp]
  rw [z]

theorem second_eq : val_main_v49 (F := Ideal) x pe w1 w2 = val_main_v24 (F := Ideal) x pe w1 w2 := rfl

end Cert.CompressReferenceIdeal.Layer

end
-- ==== Proof.CompressValue.lean ====
/- The compression call's two result arrays are the reference's terms over its arguments. -/
module

public import proofs.«01_k».proof.Proof.CompressHost
public import proofs.«01_k».proof.Proof.CompressReference
public import Idealize.ShloMosaic.Lib.Claim

@[expose] public section

set_option maxRecDepth 16384

noncomputable section

namespace Cert.CompressIdeal.Layer

open Cert.CompressIdeal Cert.CompressIdeal.Gen Idealize.ShloMosaic Idealize.ShloMosaic.TcCoe Idealize.SL.Sem
open Idealize.ShloMosaic.Pipeline (Dat)

/-- A sum over lanes of which only one group's count is the sum over that group's lanes. -/
theorem one_group (f : Fin 2048 → EReal) (g : Fin 2) (hz : ∀ r : Fin 2048, r.val / 64 % 2 ≠ g.val → f r = 0) :
    ∑ r, f r = ∑ s : Fin 1024, f ⟨s.val / 64 * 128 + g.val * 64 + s.val % 64, by omega⟩ := by
  rw [Fin.sum_univ_tiles 16 128 rfl, Fin.sum_univ_tiles 16 64 rfl]
  refine Finset.sum_congr rfl fun a _ => ?_
  rw [Fin.sum_univ_tiles 2 64 rfl, Finset.sum_eq_single g]
  · refine Finset.sum_congr rfl fun t _ => congrArg f (Fin.ext ?_)
    show a.val * 128 + (g.val * 64 + t.val) = (a.val * 64 + t.val) / 64 * 128 + g.val * 64 + (a.val * 64 + t.val) % 64
    omega
  · intro o _ ho
    refine Finset.sum_eq_zero fun t _ => hz _ ?_
    show (a.val * 128 + (o.val * 64 + t.val)) / 64 % 2 ≠ g.val
    have : o.val ≠ g.val := fun q => ho (Fin.ext q)
    omega
  · exact fun q => absurd (Finset.mem_univ g) q

theorem act_gelu (a : EReal) : act a = Cert.CompressReferenceIdeal.Layer.gelu a := by
  unfold act Cert.CompressReferenceIdeal.Layer.gelu
  rw [mul_comm (Ideal.ofBits .f32 0x3F000000#32) a, mul_assoc]

section Value
variable (x : FVec Ideal S2048x2048 .f32) (pe : FVec Ideal S32x64 .f32) (w1 : FVec Ideal S2048x256 .f32) (w2 : FVec Ideal S256x64 .f32)
  (X : FVec Ideal S1x256x2048 .f32) (P : FVec Ideal S2x2048 .f32) (W : FVec Ideal S2x2048x512 .bf16) (U : FVec Ideal S256x128 .bf16) (b : Fin 8)
  (hX : ∀ (n : Fin 256) (q : Fin 2048), X (ix3 0 n q) = x (ix2 ⟨b.val * 256 + n.val, by omega⟩ q))
  (hP : ∀ (p : Fin 2) (r : Fin 2048), P (ix2 p r) = pe (ix2 ⟨p.val * 16 + r.val / 128, by omega⟩ ⟨r.val % 64, by omega⟩))
  (hW : ∀ (p : Fin 2) (r : Fin 2048) (g : Fin 2) (h : Fin 256), W (ix3 p r ⟨g.val * 256 + h.val, by omega⟩)
    = if r.val / 64 % 2 = g.val then w1 (ix2 ⟨(p.val * 16 + r.val / 128) * 64 + r.val % 64, by omega⟩ h) else (0 : EReal))
  (hU : ∀ (k : Fin 256) (l : Fin 128), U (ix2 k l) = if h : l.val < 64 then w2 (ix2 k ⟨l.val, h⟩) else (0 : EReal))
include hX hP hW

theorem part (p : Fin 2) (n m : Fin 256) (g : Fin 2) (h : Fin 256) (hm : m.val = (n.val + p.val) % 256) :
    (∑ r : Fin 2048, (X (ix3 0 m r) + P (ix2 p r)) * W (ix3 p r ⟨g.val * 256 + h.val, by omega⟩))
      = ∑ s : Fin 1024, Cert.CompressReferenceIdeal.Read.val_main_v7 (F := Ideal) x pe (ix4 b g n ⟨p.val * 1024 + s.val, by omega⟩)
          * w1 (ix2 ⟨p.val * 1024 + s.val, by omega⟩ h) := by
  rw [one_group _ g fun r hr => by rw [hW, if_neg hr, mul_zero]]
  refine Finset.sum_congr rfl fun s _ => ?_
  rw [hW, if_pos (by show (s.val / 64 * 128 + g.val * 64 + s.val % 64) / 64 % 2 = g.val; omega), hX, hP, Cert.CompressReferenceIdeal.Layer.block_eq]
  refine congrArg₂ (· * ·) (congrArg₂ (· + ·) (congrArg x (congrArg₂ (fun i j => ix2 i j) (Fin.ext ?_) (Fin.ext ?_)))
    (congrArg pe (congrArg₂ (fun i j => ix2 i j) (Fin.ext ?_) (Fin.ext ?_)))) (congrArg w1 (congrArg₂ (fun i j => ix2 i j) (Fin.ext ?_) rfl))
  · show b.val * 256 + m.val = b.val * 256 + (n.val + (p.val * 1024 + s.val) / 1024) % 256; omega
  · show s.val / 64 * 128 + g.val * 64 + s.val % 64 = (p.val * 1024 + s.val) % 1024 / 64 * 128 + g.val * 64 + (p.val * 1024 + s.val) % 64; omega
  · show p.val * 16 + (s.val / 64 * 128 + g.val * 64 + s.val % 64) / 128 = (p.val * 1024 + s.val) / 64; omega
  · show (s.val / 64 * 128 + g.val * 64 + s.val % 64) % 64 = (p.val * 1024 + s.val) % 64; omega
  · show (p.val * 16 + (s.val / 64 * 128 + g.val * 64 + s.val % 64) / 128) * 64 + (s.val / 64 * 128 + g.val * 64 + s.val % 64) % 64 = p.val * 1024 + s.val; omega

theorem pre_eq (n : Fin 256) (g : Fin 2) (h : Fin 256) : pre X P W n ⟨g.val * 256 + h.val, by omega⟩
    = Cert.CompressReferenceIdeal.Read.val_main_v8 (F := Ideal) x pe w1 (ix4 b g n h) := by
  rw [Cert.CompressReferenceIdeal.Layer.hidden_eq, Fin.sum_univ_tiles 2 1024 rfl, Fin.sum_univ_two, pre]
  exact congrArg₂ (· + ·) (part x pe w1 X P W b hX hP hW 0 n n g h (by show n.val = (n.val + 0) % 256; omega))
    (part x pe w1 X P W b hX hP hW 1 n (next n) g h rfl)

include hU

theorem value_eq (n : Fin 256) (g : Fin 2) (l : Fin 128) : (∑ k : Fin 256, act (pre X P W n ⟨g.val * 256 + k.val, by omega⟩) * U (ix2 k l))
    = Cert.CompressReferenceIdeal.Read.val_main_v24 (F := Ideal) x pe w1 w2 (ix4 b g n l) := by
  rw [Cert.CompressReferenceIdeal.Layer.out_eq]
  split
  · rename_i hl
    refine Finset.sum_congr rfl fun k _ => ?_
    rw [pre_eq x pe w1 X P W b hX hP hW, act_gelu, hU, dif_pos hl]
  · rename_i hl
    refine Finset.sum_eq_zero fun k _ => ?_
    rw [hU, dif_neg hl, mul_zero]

end Value

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0] ∧ win0_3.index t = ![0, 0]
    ∧ win0_4.index t = ![0, 0, 0] ∧ win0_5.index t = ![0, 0, 0] ∧ win0_6.index t = ![0, 0] ∧ win0_7.index t = ![0, 0]
    ∧ win0_8.index t = ![t.val, 0, 0, 0] ∧ win0_9.index t = ![t.val, 0, 0, 0] ∧ t.val < 8 :=
  (by decide +kernel : ∀ t : Fin grid0.N, _)

/-- The sequence a grid point works on. -/
def seq (t : Fin cfg0.N) : Fin 8 := ⟨t.val, (idx t).2.2.2.2.2.2.2.2.2.2⟩

section Blocks
variable (c : Dev nD) (t : Fin cfg0.N)

theorem read_k (n : Fin 256) (q : Fin 2048) : iblk m c 0 t (ix3 0 n q : S1x256x2048.Idx)
    = m ((c : Thread nD τ).loc main_arg0) (ix2 ⟨(seq t).val * 256 + n.val, by omega⟩ q : S2048x2048.Idx) := by
  have e : (win0_0.blk t).view.emb (ix3 0 n q : S1x256x2048.Idx) = (ix3 (seq t) n q : S8x256x2048.Idx) := by blk_ext [idx t, seq]
  show V m c main_v30 ((win0_0.blk t).view.emb (ix3 0 n q : S1x256x2048.Idx)) = _
  rw [e, host_k]
  exact rows_eq _ (seq t) n q

theorem read_v (n : Fin 256) (q : Fin 2048) : iblk m c 1 t (ix3 0 n q : S1x256x2048.Idx)
    = m ((c : Thread nD τ).loc main_arg1) (ix2 ⟨(seq t).val * 256 + n.val, by omega⟩ q : S2048x2048.Idx) := by
  have e : (win0_1.blk t).view.emb (ix3 0 n q : S1x256x2048.Idx) = (ix3 (seq t) n q : S8x256x2048.Idx) := by blk_ext [idx t, seq]
  show V m c main_v31 ((win0_1.blk t).view.emb (ix3 0 n q : S1x256x2048.Idx)) = _
  rw [e, host_v]
  exact rows_eq _ (seq t) n q

theorem read_pk (p : Fin 2) (r : Fin 2048) : iblk m c 2 t (ix2 p r : S2x2048.Idx) = spread (m ((c : Thread nD τ).loc main_arg2)) (ix2 p r : S2x2048.Idx) := by
  have e : (win0_2.blk t).view.emb (ix2 p r : S2x2048.Idx) = (ix2 p r : S2x2048.Idx) := by blk_ext [idx t]
  show V m c main_v10 ((win0_2.blk t).view.emb (ix2 p r : S2x2048.Idx)) = _
  rw [e, host_pk]

theorem read_pv (p : Fin 2) (r : Fin 2048) : iblk m c 3 t (ix2 p r : S2x2048.Idx) = spread (m ((c : Thread nD τ).loc main_arg3)) (ix2 p r : S2x2048.Idx) := by
  have e : (win0_3.blk t).view.emb (ix2 p r : S2x2048.Idx) = (ix2 p r : S2x2048.Idx) := by blk_ext [idx t]
  show V m c main_v25 ((win0_3.blk t).view.emb (ix2 p r : S2x2048.Idx)) = _
  rw [e, host_pv]

theorem read_wk (p : Fin 2) (r : Fin 2048) (j : Fin 512) : iblk m c 4 t (ix3 p r j : S2x2048x512.Idx)
    = packed (m ((c : Thread nD τ).loc main_arg4)) (ix3 p r j : S2x2048x512.Idx) := by
  have e : (win0_4.blk t).view.emb (ix3 p r j : S2x2048x512.Idx) = (ix3 p r j : S2x2048x512.Idx) := by blk_ext [idx t]
  show V m c main_v13 ((win0_4.blk t).view.emb (ix3 p r j : S2x2048x512.Idx)) = _
  rw [e, host_wk]

theorem read_wv (p : Fin 2) (r : Fin 2048) (j : Fin 512) : iblk m c 5 t (ix3 p r j : S2x2048x512.Idx)
    = packed (m ((c : Thread nD τ).loc main_arg6)) (ix3 p r j : S2x2048x512.Idx) := by
  have e : (win0_5.blk t).view.emb (ix3 p r j : S2x2048x512.Idx) = (ix3 p r j : S2x2048x512.Idx) := by blk_ext [idx t]
  show V m c main_v28 ((win0_5.blk t).view.emb (ix3 p r j : S2x2048x512.Idx)) = _
  rw [e, host_wv]

theorem read_uk (k : Fin 256) (l : Fin 128) : iblk m c 6 t (ix2 k l : S256x128.Idx) = widened (m ((c : Thread nD τ).loc main_arg5)) (ix2 k l : S256x128.Idx) := by
  have e : (win0_6.blk t).view.emb (ix2 k l : S256x128.Idx) = (ix2 k l : S256x128.Idx) := by blk_ext [idx t]
  show V m c main_v14 ((win0_6.blk t).view.emb (ix2 k l : S256x128.Idx)) = _
  rw [e, host_uk]

theorem read_uv (k : Fin 256) (l : Fin 128) : iblk m c 7 t (ix2 k l : S256x128.Idx) = widened (m ((c : Thread nD τ).loc main_arg7)) (ix2 k l : S256x128.Idx) := by
  have e : (win0_7.blk t).view.emb (ix2 k l : S256x128.Idx) = (ix2 k l : S256x128.Idx) := by blk_ext [idx t]
  show V m c main_v29 ((win0_7.blk t).view.emb (ix2 k l : S256x128.Idx)) = _
  rw [e, host_uv]

end Blocks

theorem point8 (c : Dev nD) (t : Fin cfg0.N) (y : S1x2x256x128.Idx) :
    out0_8 (F := Ideal) (iblk m c 0 t) (iblk m c 1 t) (iblk m c 2 t) (iblk m c 3 t) (iblk m c 4 t) (iblk m c 5 t) (iblk m c 6 t) (iblk m c 7 t) y
      = Cert.CompressReferenceIdeal.Read.val_main_v24 (F := Ideal) (m ((c : Thread nD τ).loc main_arg0)) (m ((c : Thread nD τ).loc main_arg2))
          (m ((c : Thread nD τ).loc main_arg4)) (m ((c : Thread nD τ).loc main_arg5)) ((win0_8.blk t).view.emb y) := by
  idx_vars y
  obtain rfl : y0 = 0 := Subsingleton.elim _ _
  have e : (win0_8.blk t).view.emb (ix4 0 y1 y2 y3) = (ix4 (seq t) y1 y2 y3 : S8x2x256x128.Idx) := by blk_ext [idx t, seq]
  rw [e, stored8]
  exact value_eq _ _ _ _ _ _ _ _ (seq t) (read_k m c t) (fun p r => (read_pk m c t p r).trans (spread_eq _ p r))
    (fun p r g h => (read_wk m c t p r _).trans (packed_eq _ p r g h)) (fun k l => (read_uk m c t k l).trans (widened_eq _ k l)) y2 y1 y3

theorem point9 (c : Dev nD) (t : Fin cfg0.N) (y : S1x2x256x128.Idx) :
    out0_9 (F := Ideal) (iblk m c 0 t) (iblk m c 1 t) (iblk m c 2 t) (iblk m c 3 t) (iblk m c 4 t) (iblk m c 5 t) (iblk m c 6 t) (iblk m c 7 t) y
      = Cert.CompressReferenceIdeal.Read.val_main_v49 (F := Ideal) (m ((c : Thread nD τ).loc main_arg1)) (m ((c : Thread nD τ).loc main_arg3))
          (m ((c : Thread nD τ).loc main_arg6)) (m ((c : Thread nD τ).loc main_arg7)) ((win0_9.blk t).view.emb y) := by
  idx_vars y
  obtain rfl : y0 = 0 := Subsingleton.elim _ _
  have e : (win0_9.blk t).view.emb (ix4 0 y1 y2 y3) = (ix4 (seq t) y1 y2 y3 : S8x2x256x128.Idx) := by blk_ext [idx t, seq]
  rw [e, stored9, Cert.CompressReferenceIdeal.Layer.second_eq]
  exact value_eq _ _ _ _ _ _ _ _ (seq t) (read_v m c t) (fun p r => (read_pv m c t p r).trans (spread_eq _ p r))
    (fun p r g h => (read_wv m c t p r _).trans (packed_eq _ p r g h)) (fun k l => (read_uv m c t k l).trans (widened_eq _ k l)) y2 y1 y3

theorem final8 (c : Dev nD) : (dats m 0 c).arrAt 8 cfg0.N
    = Cert.CompressReferenceIdeal.Read.val_main_v24 (F := Ideal) (m ((c : Thread nD τ).loc main_arg0)) (m ((c : Thread nD τ).loc main_arg2))
        (m ((c : Thread nD τ).loc main_arg4)) (m ((c : Thread nD τ).loc main_arg5)) := by
  refine (dats m 0 c).arrAt_eq_of_covers 8 _ (by decide +kernel) fun t _ y => ?_
  blk_simp
  rw [Gen.after0_8]
  exact point8 m c t y

theorem final9 (c : Dev nD) : (dats m 0 c).arrAt 9 cfg0.N
    = Cert.CompressReferenceIdeal.Read.val_main_v49 (F := Ideal) (m ((c : Thread nD τ).loc main_arg1)) (m ((c : Thread nD τ).loc main_arg3))
        (m ((c : Thread nD τ).loc main_arg6)) (m ((c : Thread nD τ).loc main_arg7)) := by
  refine (dats m 0 c).arrAt_eq_of_covers 9 _ (by decide +kernel) fun t _ y => ?_
  blk_simp
  rw [Gen.after0_9]
  exact point9 m c t y

end Cert.CompressIdeal.Layer

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal.Run
public import proofs.«01_k».proof.Proof.Gen.Ffn.Frame
public import proofs.«01_k».proof.Proof.Gen.FfnIdeal.Value
public import proofs.«01_k».proof.Proof.Gen.FfnReferenceIdeal.Run
public import proofs.«01_k».proof.Proof.Gen.FfnReferenceIdeal.Read
public import proofs.«01_k».proof.Proof.Gen.FfnLast.Frame
public import proofs.«01_k».proof.Proof.Gen.FfnLastIdeal.Value
public import proofs.«01_k».proof.Proof.Gen.FfnLastReferenceIdeal.Run
public import proofs.«01_k».proof.Proof.Gen.FfnLastReferenceIdeal.Read
public import proofs.«01_k».proof.Proof.Gen.Mix.Frame
public import proofs.«01_k».proof.Proof.Gen.MixIdeal.Value
public import proofs.«01_k».proof.Proof.Gen.MixReferenceIdeal.Run
public import proofs.«01_k».proof.Proof.Gen.MixReferenceIdeal.Read
public import proofs.«01_k».proof.Proof.Gen.Pre_weights_exist
public import proofs.«01_k».proof.Proof.Gen.Compress.Frame
public import proofs.«01_k».proof.Proof.Gen.CompressIdeal.Value
public import proofs.«01_k».proof.Proof.Gen.CompressReferenceIdeal.Run
public import proofs.«01_k».proof.Proof.Gen.CompressReferenceIdeal.Read
public import proofs.«01_k».proof.Proof.DilValue
public import proofs.«01_k».proof.Proof.DilStages
public import proofs.«01_k».proof.Proof.FfnValue
public import proofs.«01_k».proof.Proof.FfnLastValue
public import proofs.«01_k».proof.Proof.MixValue
public import proofs.«01_k».proof.Proof.CompressValue
public import Idealize.ShloMosaic.Lib.Claim
public import Idealize.ShloMosaic.Adequacy
public import Idealize.ShloMosaic.Init

@[expose] public section

noncomputable section

namespace Cert.Proof

open Idealize.ShloMosaic Idealize.SL.Sem

theorem frame_Kernel : Cert.quiescent_Kernel := fun m g _ => Cert.Kernel.Gen.frame m g

theorem frame_KernelIdeal : Cert.quiescent_KernelIdeal := fun m g _ => Cert.KernelIdeal.Gen.frame m g

theorem frame_ReferenceIdeal : Cert.quiescent_ReferenceIdeal := fun m g _ =>
  (θ_run Cert.ReferenceIdeal.defs _ _).mono
    (fun r h => ⟨fun c => (h c).2.2, sem_eq_zero_of_no_sems (by decide) r.2⟩)
    (Cert.ReferenceIdeal.Value.run (F := Ideal) m g)

theorem frame_Ffn : Cert.quiescent_Ffn := fun m g _ => Cert.Ffn.Gen.frame m g

theorem frame_FfnIdeal : Cert.quiescent_FfnIdeal := fun m g _ => Cert.FfnIdeal.Gen.frame m g

theorem frame_FfnReferenceIdeal : Cert.quiescent_FfnReferenceIdeal := fun m g _ =>
  (θ_run Cert.FfnReferenceIdeal.defs _ _).mono
    (fun r h => ⟨fun c => (h c).2, sem_eq_zero_of_no_sems (by decide) r.2⟩)
    (Cert.FfnReferenceIdeal.Value.run (F := Ideal) m g)

theorem frame_FfnLast : Cert.quiescent_FfnLast := fun m g _ => Cert.FfnLast.Gen.frame m g

theorem frame_FfnLastIdeal : Cert.quiescent_FfnLastIdeal := fun m g _ => Cert.FfnLastIdeal.Gen.frame m g

theorem frame_FfnLastReferenceIdeal : Cert.quiescent_FfnLastReferenceIdeal := fun m g _ =>
  (θ_run Cert.FfnLastReferenceIdeal.defs _ _).mono
    (fun r h => ⟨fun c => (h c).2, sem_eq_zero_of_no_sems (by decide) r.2⟩)
    (Cert.FfnLastReferenceIdeal.Value.run (F := Ideal) m g)

theorem frame_Mix : Cert.quiescent_Mix := fun m g _ => Cert.Mix.Gen.frame m g

theorem frame_MixIdeal : Cert.quiescent_MixIdeal := fun m g _ => Cert.MixIdeal.Gen.frame m g

theorem frame_MixIdeal_weights_exist : Cert.quiescent_MixIdeal_pre_weights_exist (hPre_weights_exist := Cert.Pre_weights_exist.Gen.facts) :=
  fun m g _ => Cert.MixIdeal.Gen.frame m g

theorem frame_MixReferenceIdeal : Cert.quiescent_MixReferenceIdeal := fun m g _ =>
  (θ_run Cert.MixReferenceIdeal.defs _ _).mono
    (fun r h => ⟨fun c => (h c).2, sem_eq_zero_of_no_sems (by decide) r.2⟩)
    (Cert.MixReferenceIdeal.Value.run (F := Ideal) m g)

theorem frame_MixReferenceIdeal_weights_exist : Cert.quiescent_MixReferenceIdeal_pre_weights_exist (hPre_weights_exist := Cert.Pre_weights_exist.Gen.facts) :=
  fun m g _ => frame_MixReferenceIdeal m g trivial

theorem frame_Compress : Cert.quiescent_Compress := fun m g _ => Cert.Compress.Gen.frame m g

theorem frame_CompressIdeal : Cert.quiescent_CompressIdeal := fun m g _ => Cert.CompressIdeal.Gen.frame m g

theorem frame_CompressReferenceIdeal : Cert.quiescent_CompressReferenceIdeal := fun m g _ =>
  (θ_run Cert.CompressReferenceIdeal.defs _ _).mono
    (fun r h => ⟨fun c => (h c).2.2, sem_eq_zero_of_no_sems (by decide) r.2⟩)
    (Cert.CompressReferenceIdeal.Value.run (F := Ideal) m g)

theorem preserves_Kernel : Cert.preserves_Kernel_KernelIdeal :=
  IdealRules.named_const.statement Cert.KernelIdeal.κ "mask" .f32 0xF149F2CA#32 ⊥ rfl

theorem algebraic_Kernel : Cert.algebraic_KernelIdeal_ReferenceIdeal := by
  intro m g m' g' _ hagree
  refine ⟨fun c => Cert.KernelIdeal.Gen.W4 m g c (Proc.devRef .tc Cert.KernelIdeal.main_v5),
    fun c => Cert.KernelIdeal.Gen.W4 m g c (Proc.devRef .tc Cert.KernelIdeal.main_v6), Cert.KernelIdeal.Layer.run_arrays m g, ?_⟩
  refine (θ_run Cert.ReferenceIdeal.defs _ _).mono (fun r h c => ?_) (Cert.ReferenceIdeal.Value.run (F := Ideal) m' g')
  obtain ⟨e0, e1, e2, e3⟩ := hagree c
  refine ⟨(h c).1.trans ?_, (h c).2.1.trans ?_, (h c).2.2⟩
  · beta_reduce
    rw [Cert.KernelIdeal.Layer.result_out, Cert.ReferenceIdeal.Layer.out0_eq, e0, e1, e2, e3]
  · beta_reduce
    rw [Cert.KernelIdeal.Layer.result_lse, Cert.ReferenceIdeal.Layer.out1_eq, e0, e1, e3]

theorem algebraic_Ffn : Cert.algebraic_FfnIdeal_FfnReferenceIdeal := by
  pair_intro
  · run_from Cert.FfnIdeal.Value.run_blocks m g
  · run_from Cert.FfnReferenceIdeal.Value.run m' g'
    exact (Cert.FfnIdeal.Layer.final m c).symm

theorem algebraic_FfnLast : Cert.algebraic_FfnLastIdeal_FfnLastReferenceIdeal := by
  pair_intro
  · run_from Cert.FfnLastIdeal.Value.run_blocks m g
  · run_from Cert.FfnLastReferenceIdeal.Value.run m' g'
    rw [Cert.FfnLastReferenceIdeal.Read.val_main_v33_eq]
    simp only [hagree c]
    exact (Cert.FfnLastIdeal.Layer.final m c).symm

theorem algebraic_Mix : Cert.algebraic_MixIdeal_MixReferenceIdeal_pre_weights_exist (hPre_weights_exist := Cert.Pre_weights_exist.Gen.facts) := by
  letI := Cert.Pre_weights_exist.Gen.facts
  pair_intro
  · run_from Cert.MixIdeal.Value.run_blocks m g
  · run_from Cert.MixReferenceIdeal.Value.run m' g'
    rw [Cert.MixReferenceIdeal.Read.val_main_v67_eq]
    simp only [hagree c]
    exact (Cert.MixIdeal.Layer.final m c (hpre c)).symm

theorem algebraic_Compress : Cert.algebraic_CompressIdeal_CompressReferenceIdeal := by
  pair_intro
  · run_from Cert.CompressIdeal.Value.run_blocks m g
  · run_from Cert.CompressReferenceIdeal.Value.run m' g'
    · rw [Cert.CompressReferenceIdeal.Read.val_main_v24_eq]
      simp only [hagree c]
      exact (Cert.CompressIdeal.Layer.final8 m c).symm
    · rw [Cert.CompressReferenceIdeal.Read.val_main_v49_eq]
      simp only [hagree c]
      exact (Cert.CompressIdeal.Layer.final9 m c).symm

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.FfnLast.Gen.facts, Cert.FfnLastIdeal.Gen.facts, Cert.FfnLastReferenceIdeal.Gen.facts, Cert.Mix.Gen.facts, Cert.MixIdeal.Gen.facts,
    Cert.MixReferenceIdeal.Gen.facts, Cert.Compress.Gen.facts, Cert.CompressIdeal.Gen.facts, Cert.CompressReferenceIdeal.Gen.facts, Cert.Pre_weights_exist.Gen.facts,
    frame_Kernel, frame_KernelIdeal, frame_ReferenceIdeal, frame_Ffn, frame_FfnIdeal, frame_FfnReferenceIdeal, frame_FfnLast, frame_FfnLastIdeal,
    frame_FfnLastReferenceIdeal, frame_Mix, frame_MixIdeal, frame_MixIdeal_weights_exist, frame_MixReferenceIdeal, frame_MixReferenceIdeal_weights_exist,
    frame_Compress, frame_CompressIdeal, frame_CompressReferenceIdeal,
    preserves_Kernel, algebraic_Kernel, trivial, algebraic_Ffn, trivial, algebraic_FfnLast, trivial, algebraic_Mix, trivial, algebraic_Compress⟩

end Cert.Proof

end
